-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_gain [hPre_finite_gain : Cert.Pre_finite_gain.Facts] (m : (ℓ : Loc Cert.KernelIdeal.nD Cert.KernelIdeal.τ Cert.KernelIdeal.sig) → Buf (Elt Ideal) ℓ) : Prop :=
  ∀ c : Dev Cert.KernelIdeal.nD,
    (Cert.Pre_finite_gain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_gain [hPre_finite_gain : Cert.Pre_finite_gain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_gain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite_gain [hKernelIdeal : Cert.KernelIdeal.Facts] [hPre_finite_gain : Cert.Pre_finite_gain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_gain m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite_gain [hReferenceIdeal : Cert.ReferenceIdeal.Facts] [hPre_finite_gain : Cert.Pre_finite_gain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_gain m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_finite_gain [hKernelIdeal : Cert.KernelIdeal.Facts] [hReferenceIdeal : Cert.ReferenceIdeal.Facts] [hPre_finite_gain : Cert.Pre_finite_gain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_gain m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)) (v2 : (c : Dev Cert.KernelIdeal.nD) → Buf (Elt Ideal) ((c.tc : Thread Cert.KernelIdeal.nD Cert.KernelIdeal.τ).loc Cert.KernelIdeal.main_v2_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_v2_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2_0) = v0 c
          ∧ r.2.mem ((c.tc : Thread Cert.ReferenceIdeal.nD Cert.ReferenceIdeal.τ).loc Cert.ReferenceIdeal.main_v2_1) = v1 c
          ∧ r.2.mem ((c.tc : Thread Cert.ReferenceIdeal.nD Cert.ReferenceIdeal.τ).loc Cert.ReferenceIdeal.main_v2_2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_gain : Cert.Pre_finite_gain.Facts),
    quiescent_Kernel (hKernel := hKernel)
    ∧ quiescent_KernelIdeal (hKernelIdeal := hKernelIdeal)
    ∧ quiescent_KernelIdeal_pre_finite_gain (hKernelIdeal := hKernelIdeal) (hPre_finite_gain := hPre_finite_gain)
    ∧ quiescent_ReferenceIdeal (hReferenceIdeal := hReferenceIdeal)
    ∧ quiescent_ReferenceIdeal_pre_finite_gain (hReferenceIdeal := hReferenceIdeal) (hPre_finite_gain := hPre_finite_gain)
    ∧ preserves_Kernel_KernelIdeal
    ∧ algebraic_KernelIdeal_ReferenceIdeal_pre_finite_gain (hKernelIdeal := hKernelIdeal) (hReferenceIdeal := hReferenceIdeal) (hPre_finite_gain := hPre_finite_gain)
-- ==== Pre_finite_gain.lean ====
abbrev S2x128x7168 : Shape := ⟨3, ![2, 128, 7168]⟩
abbrev S7168 : Shape := ⟨1, ![7168]⟩
abbrev S24576x7168 : Shape := ⟨2, ![24576, 7168]⟩
abbrev S192x56 : Shape := ⟨2, ![192, 56]⟩
abbrev S_ : Shape := ⟨0, ![]⟩

class Facts : Prop where
  bcast_S_S7168 : S_.BroadcastsInDim S7168 (![] : Fin 0 → Fin S7168.rank)

variable [Facts]

def fn {F : FTy → Type} [FloatOps F] (main_arg0 : FVec F S2x128x7168 .bf16) (main_arg1 : FVec F S7168 .f32) (main_arg2 : FVec F S24576x7168 .fp8e4m3) (main_arg3 : FVec F S192x56 .f32) : IVec S7168 1 :=
  let main_v0 : FVec F S7168 .f32 := Host.absf main_arg1
  let main_cst : FVec F S_ .f32 := constant S_ .f32 0x7F7FFFFF#32
  let main_v1 : FVec F S7168 .f32 := broadcastInDim S7168 ![] bcast_S_S7168 main_cst
  let main_v2 : IVec S7168 1 := cmpf .ole main_v0 main_v1
  main_v2
-- ==== Kernel.lean ====
abbrev S2x128x7168 : Shape := ⟨3, ![2, 128, 7168]⟩
abbrev S7168 : Shape := ⟨1, ![7168]⟩
abbrev S24576x7168 : Shape := ⟨2, ![24576, 7168]⟩
abbrev S192x56 : Shape := ⟨2, ![192, 56]⟩
abbrev S256x7168 : Shape := ⟨2, ![256, 7168]⟩
abbrev S1x7168 : Shape := ⟨2, ![1, 7168]⟩
abbrev S256x24576 : Shape := ⟨2, ![256, 24576]⟩
abbrev S256x56 : Shape := ⟨2, ![256, 56]⟩
abbrev S1024x7168 : Shape := ⟨2, ![1024, 7168]⟩
abbrev S256x1024 : Shape := ⟨2, ![256, 1024]⟩
abbrev S32x7168 : Shape := ⟨2, ![32, 7168]⟩
abbrev S32 : Shape := ⟨1, ![32]⟩
abbrev S32x1 : Shape := ⟨2, ![32, 1]⟩
abbrev S32x56 : Shape := ⟨2, ![32, 56]⟩
abbrev S32x128 : Shape := ⟨2, ![32, 128]⟩
abbrev S1x128 : Shape := ⟨2, ![1, 128]⟩
abbrev S32x256 : Shape := ⟨2, ![32, 256]⟩
abbrev S1024x256 : Shape := ⟨2, ![1024, 256]⟩
abbrev S1x1 : Shape := ⟨2, ![1, 1]⟩
abbrev S128x128 : Shape := ⟨2, ![128, 128]⟩
abbrev S1024x128 : Shape := ⟨2, ![1024, 128]⟩
abbrev S256x256 : Shape := ⟨2, ![256, 256]⟩

abbrev nBuf : Space → Nat
  | .hbm => 9
  | .vmem => 9
  | .smem => 1
  | _ => 0

abbrev bufTy : (tb : Table) → Fin (tcTables nBuf tb) → BufTy
  | .hbm, ⟨0, _⟩ => ⟨S2x128x7168, .bf16⟩
  | .hbm, ⟨1, _⟩ => ⟨S7168, .f32⟩
  | .hbm, ⟨2, _⟩ => ⟨S24576x7168, .fp8e4m3⟩
  | .hbm, ⟨3, _⟩ => ⟨S192x56, .f32⟩
  | .hbm, ⟨4, _⟩ => ⟨S256x7168, .bf16⟩
  | .hbm, ⟨5, _⟩ => ⟨S1x7168, .f32⟩
  | .hbm, ⟨6, _⟩ => ⟨S256x24576, .bf16⟩
  | .hbm, ⟨7, _⟩ => ⟨S256x7168, .fp8e4m3⟩
  | .hbm, ⟨8, _⟩ => ⟨S256x56, .f32⟩
  | .local _ .vmem, ⟨0, _⟩ => ⟨S256x7168, .bf16⟩
  | .local _ .vmem, ⟨1, _⟩ => ⟨S1x7168, .f32⟩
  | .local _ .vmem, ⟨2, _⟩ => ⟨S1024x7168, .fp8e4m3⟩
  | .local _ .vmem, ⟨3, _⟩ => ⟨S1024x7168, .fp8e4m3⟩
  | .local _ .vmem, ⟨4, _⟩ => ⟨S256x1024, .bf16⟩
  | .local _ .vmem, ⟨5, _⟩ => ⟨S256x1024, .bf16⟩
  | .local _ .vmem, ⟨6, _⟩ => ⟨S256x7168, .fp8e4m3⟩
  | .local _ .vmem, ⟨7, _⟩ => ⟨S256x56, .f32⟩
  | .local _ .vmem, ⟨8, _⟩ => ⟨S256x7168, .bf16⟩
  | .local _ .smem, ⟨0, _⟩ => ⟨S192x56, .f32⟩
  | _, _ => ⟨S2x128x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .smem, ⟨0, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v2_2 : Ref sig .tc := ⟨.hbm, 8, rfl⟩
abbrev cc0_stg1_0 : Ref sig .tc := ⟨.vmem, 0, rfl⟩
abbrev cc0_stg2_0 : Ref sig .tc := ⟨.vmem, 1, rfl⟩
abbrev cc0_stg3_0 : Ref sig .tc := ⟨.vmem, 2, rfl⟩
abbrev cc0_stg3_1 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg6_0 : Ref sig .tc := ⟨.vmem, 7, rfl⟩
abbrev cc0_scratch0 : Ref sig .tc := ⟨.vmem, 8, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7
abbrev cc0_sem6_0 : DmaSem sig := 8

abbrev nD : Nat := 1
abbrev τ : Topo := Topo.v7x

variable {F : FTy → Type} [FloatOps F]

abbrev grid0 : Pipeline.Grid := ⟨1, ![24], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_2208 : BitVec 32 := 0#32
  let c8_i32_2209 : BitVec 32 := 8#32
  let v4207 : BitVec 32 := Scalar.addi c0_i32_2208 c8_i32_2209
  let c1_i32_2210 : BitVec 32 := 1#32
  ⟨c0_i32_2208, v4207, c1_i32_2210⟩
def k0_off1 (k0_t1 : Fin k0_t1_loop.trips) : Fin 2 → Nat :=
  let c0_i32_2212 : BitVec 32 := 0#32
  let c0_i32_2208 : BitVec 32 := 0#32
  let c1_i32_2210 : BitVec 32 := 1#32
  let arg9 : BitVec 32 := Scf.iv c0_i32_2208 c1_i32_2210 k0_t1
  let c32_i32 : BitVec 32 := 32#32
  let v4208 : BitVec 32 := Scalar.muli arg9 c32_i32
  let v4209 : BitVec 32 := Scalar.addi c0_i32_2212 v4208
  let v4210 : Index := Scalar.indexCast v4209
  let c0_2213 : Index := 0#32
  ![v4210.toNat, 0]
def k0_off2 (k0_t1 : Fin k0_t1_loop.trips) : Fin 2 → Nat :=
  let c0_i32_2212 : BitVec 32 := 0#32
  let c0_i32_2208 : BitVec 32 := 0#32
  let c1_i32_2210 : BitVec 32 := 1#32
  let arg9 : BitVec 32 := Scf.iv c0_i32_2208 c1_i32_2210 k0_t1
  let c32_i32 : BitVec 32 := 32#32
  let v4208 : BitVec 32 := Scalar.muli arg9 c32_i32
  let v4209 : BitVec 32 := Scalar.addi c0_i32_2212 v4208
  let v4224 : Index := Scalar.indexCast v4209
  let c0_2218 : Index := 0#32
  ![v4224.toNat, 0]
def k0_off3 (k0_t1 : Fin k0_t1_loop.trips) : Fin 2 → Nat :=
  let c0_i32_2212 : BitVec 32 := 0#32
  let c0_i32_2208 : BitVec 32 := 0#32
  let c1_i32_2210 : BitVec 32 := 1#32
  let arg9 : BitVec 32 := Scf.iv c0_i32_2208 c1_i32_2210 k0_t1
  let c32_i32 : BitVec 32 := 32#32
  let v4208 : BitVec 32 := Scalar.muli arg9 c32_i32
  let v4209 : BitVec 32 := Scalar.addi c0_i32_2212 v4208
  let v4281 : Index := Scalar.indexCast v4209
  let c128_2231 : Index := 128#32
  ![v4281.toNat, 128]
def k0_off4 (k0_t1 : Fin k0_t1_loop.trips) : Fin 2 → Nat :=
  let c0_i32_2212 : BitVec 32 := 0#32
  let c0_i32_2208 : BitVec 32 := 0#32
  let c1_i32_2210 : BitVec 32 := 1#32
  let arg9 : BitVec 32 := Scf.iv c0_i32_2208 c1_i32_2210 k0_t1
  let c32_i32 : BitVec 32 := 32#32
  let v4208 : BitVec 32 := Scalar.muli arg9 c32_i32
  let v4209 : BitVec 32 := Scalar.addi c0_i32_2212 v4208
  let v4338 : Index := Scalar.indexCast v4209
  let c256_2248 : Index := 256#32
  ![v4338.toNat, 256]
def k0_off5 (k0_t1 : Fin k0_t1_loop.trips) : Fin 2 → Nat :=
  let c0_i32_2212 : BitVec 32 := 0#32
  let c0_i32_2208 : BitVec 32 := 0#32
  let c1_i32_2210 : BitVec 32 := 1#32
  let arg9 : BitVec 32 := Scf.iv c0_i32_2208 c1_i32_2210 k0_t1
  let c32_i32 : BitVec 32 := 32#32
  let v4208 : BitVec 32 := Scalar.muli arg9 c32_i32
  let v4209 : BitVec 32 := Scalar.addi c0_i32_2212 v4208
  let v4395 : Index := Scalar.indexCast v4209
  let c384_2265 : Index := 384#32
  ![v4395.toNat, 384]
def k0_off6 (k0_t1 : Fin k0_t1_loop.trips) : Fin 2 → Nat :=
  let c0_i32_2212 : BitVec 32 := 0#32
  let c0_i32_2208 : BitVec 32 := 0#32
  let c1_i32_2210 : BitVec 32 := 1#32
  let arg9 : BitVec 32 := Scf.iv c0_i32_2208 c1_i32_2210 k0_t1
  let c32_i32 : BitVec 32 := 32#32
  let v4208 : BitVec 32 := Scalar.muli arg9 c32_i32
  let v4209 : BitVec 32 := Scalar.addi c0_i32_2212 v4208
  let v4452 : Index := Scalar.indexCast v4209
  let c512_2282 : Index := 512#32
  ![v4452.toNat, 512]
def k0_off7 (k0_t1 : Fin k0_t1_loop.trips) : Fin 2 → Nat :=
  let c0_i32_2212 : BitVec 32 := 0#32
  let c0_i32_2208 : BitVec 32 := 0#32
  let c1_i32_2210 : BitVec 32 := 1#32
  let arg9 : BitVec 32 := Scf.iv c0_i32_2208 c1_i32_2210 k0_t1
  let c32_i32 : BitVec 32 := 32#32
  let v4208 : BitVec 32 := Scalar.muli arg9 c32_i32
  let v4209 : BitVec 32 := Scalar.addi c0_i32_2212 v4208
  let v4509 : Index := Scalar.indexCast v4209
  let c640_2299 : Index := 640#32
  ![v4509.toNat, 640]
def k0_off8 (k0_t1 : Fin k0_t1_loop.trips) : Fin 2 → Nat :=
  let c0_i32_2212 : BitVec 32 := 0#32
  let c0_i32_2208 : BitVec 32 := 0#32
  let c1_i32_2210 : BitVec 32 := 1#32
  let arg9 : BitVec 32 := Scf.iv c0_i32_2208 c1_i32_2210 k0_t1
  let c32_i32 : BitVec 32 := 32#32
  let v4208 : BitVec 32 := Scalar.muli arg9 c32_i32
  let v4209 : BitVec 32 := Scalar.addi c0_i32_2212 v4208
  let v4566 : Index := Scalar.indexCast v4209
  let c768_2316 : Index := 768#32
  ![v4566.toNat, 768]
def k0_off9 (k0_t1 : Fin k0_t1_loop.trips) : Fin 2 → Nat :=
  let c0_i32_2212 : BitVec 32 := 0#32
  let c0_i32_2208 : BitVec 32 := 0#32
  let c1_i32_2210 : BitVec 32 := 1#32
  let arg9 : BitVec 32 := Scf.iv c0_i32_2208 c1_i32_2210 k0_t1
  let c32_i32 : BitVec 32 := 32#32
  let v4208 : BitVec 32 := Scalar.muli arg9 c32_i32
  let v4209 : BitVec 32 := Scalar.addi c0_i32_2212 v4208
  let v4623 : Index := Scalar.indexCast v4209
  let c896_2333 : Index := 896#32
  ![v4623.toNat, 896]
def k0_off10 (k0_t1 : Fin k0_t1_loop.trips) : Fin 2 → Nat :=
  let c0_i32_2212 : BitVec 32 := 0#32
  let c0_i32_2208 : BitVec 32 := 0#32
  let c1_i32_2210 : BitVec 32 := 1#32
  let arg9 : BitVec 32 := Scf.iv c0_i32_2208 c1_i32_2210 k0_t1
  let c32_i32 : BitVec 32 := 32#32
  let v4208 : BitVec 32 := Scalar.muli arg9 c32_i32
  let v4209 : BitVec 32 := Scalar.addi c0_i32_2212 v4208
  let v4680 : Index := Scalar.indexCast v4209
  let c1024_2350 : Index := 1024#32
  ![v4680.toNat, 1024]
def k0_off11 (k0_t1 : Fin k0_t1_loop.trips) : Fin 2 → Nat :=
  let c0_i32_2212 : BitVec 32 := 0#32
  let c0_i32_2208 : BitVec 32 := 0#32
  let c1_i32_2210 : BitVec 32 := 1#32
  let arg9 : BitVec 32 := Scf.iv c0_i32_2208 c1_i32_2210 k0_t1
  let c32_i32 : BitVec 32 := 32#32
  let v4208 : BitVec 32 := Scalar.muli arg9 c32_i32
  let v4209 : BitVec 32 := Scalar.addi c0_i32_2212 v4208
  let v4737 : Index := Scalar.indexCast v4209
  let c1152_2367 : Index := 1152#32
  ![v4737.toNat, 1152]
def k0_off12 (k0_t1 : Fin k0_t1_loop.trips) : Fin 2 → Nat :=
  let c0_i32_2212 : BitVec 32 := 0#32
  let c0_i32_2208 : BitVec 32 := 0#32
  let c1_i32_2210 : BitVec 32 := 1#32
  let arg9 : BitVec 32 := Scf.iv c0_i32_2208 c1_i32_2210 k0_t1
  let c32_i32 : BitVec 32 := 32#32
  let v4208 : BitVec 32 := Scalar.muli arg9 c32_i32
  let v4209 : BitVec 32 := Scalar.addi c0_i32_2212 v4208
  let v4794 : Index := Scalar.indexCast v4209
  let c1280_2383 : Index := 1280#32
  ![v4794.toNat, 1280]
def k0_off13 (k0_t1 : Fin k0_t1_loop.trips) : Fin 2 → Nat :=
  let c0_i32_2212 : BitVec 32 := 0#32
  let c0_i32_2208 : BitVec 32 := 0#32
  let c1_i32_2210 : BitVec 32 := 1#32
  let arg9 : BitVec 32 := Scf.iv c0_i32_2208 c1_i32_2210 k0_t1
  let c32_i32 : BitVec 32 := 32#32
  let v4208 : BitVec 32 := Scalar.muli arg9 c32_i32
  let v4209 : BitVec 32 := Scalar.addi c0_i32_2212 v4208
  let v4851 : Index := Scalar.indexCast v4209
  let c1408_2399 : Index := 1408#32
  ![v4851.toNat, 1408]
def k0_off14 (k0_t1 : Fin k0_t1_loop.trips) : Fin 2 → Nat :=
  let c0_i32_2212 : BitVec 32 := 0#32
  let c0_i32_2208 : BitVec 32 := 0#32
  let c1_i32_2210 : BitVec 32 := 1#32
  let arg9 : BitVec 32 := Scf.iv c0_i32_2208 c1_i32_2210 k0_t1
  let c32_i32 : BitVec 32 := 32#32
  let v4208 : BitVec 32 := Scalar.muli arg9 c32_i32
  let v4209 : BitVec 32 := Scalar.addi c0_i32_2212 v4208
  let v4908 : Index := Scalar.indexCast v4209
  let c1536_2415 : Index := 1536#32
  ![v4908.toNat, 1536]
def k0_off15 (k0_t1 : Fin k0_t1_loop.trips) : Fin 2 → Nat :=
  let c0_i32_2212 : BitVec 32 := 0#32
  let c0_i32_2208 : BitVec 32 := 0#32
  let c1_i32_2210 : BitVec 32 := 1#32
  let arg9 : BitVec 32 := Scf.iv c0_i32_2208 c1_i32_2210 k0_t1
  let c32_i32 : BitVec 32 := 32#32
  let v4208 : BitVec 32 := Scalar.muli arg9 c32_i32
  let v4209 : BitVec 32 := Scalar.addi c0_i32_2212 v4208
  let v4965 : Index := Scalar.indexCast v4209
  let c1664_2431 : Index := 1664#32
  ![v4965.toNat, 1664]
def k0_off16 (k0_t1 : Fin k0_t1_loop.trips) : Fin 2 → Nat :=
  let c0_i32_2212 : BitVec 32 := 0#32
  let c0_i32_2208 : BitVec 32 := 0#32
  let c1_i32_2210 : BitVec 32 := 1#32
  let arg9 : BitVec 32 := Scf.iv c0_i32_2208 c1_i32_2210 k0_t1
  let c32_i32 : BitVec 32 := 32#32
  let v4208 : BitVec 32 := Scalar.muli arg9 c32_i32
  let v4209 : BitVec 32 := Scalar.addi c0_i32_2212 v4208
  let v5022 : Index := Scalar.indexCast v4209
  let c1792_2447 : Index := 1792#32
  ![v5022.toNat, 1792]
def k0_off17 (k0_t1 : Fin k0_t1_loop.trips) : Fin 2 → Nat :=
  let c0_i32_2212 : BitVec 32 := 0#32
  let c0_i32_2208 : BitVec 32 := 0#32
  let c1_i32_2210 : BitVec 32 := 1#32
  let arg9 : BitVec 32 := Scf.iv c0_i32_2208 c1_i32_2210 k0_t1
  let c32_i32 : BitVec 32 := 32#32
  let v4208 : BitVec 32 := Scalar.muli arg9 c32_i32
  let v4209 : BitVec 32 := Scalar.addi c0_i32_2212 v4208
  let v5079 : Index := Scalar.indexCast v4209
  let c1920_2463 : Index := 1920#32
  ![v5079.toNat, 1920]
def k0_off18 (k0_t1 : Fin k0_t1_loop.trips) : Fin 2 → Nat :=
  let c0_i32_2212 : BitVec 32 := 0#32
  let c0_i32_2208 : BitVec 32 := 0#32
  let c1_i32_2210 : BitVec 32 := 1#32
  let arg9 : BitVec 32 := Scf.iv c0_i32_2208 c1_i32_2210 k0_t1
  let c32_i32 : BitVec 32 := 32#32
  let v4208 : BitVec 32 := Scalar.muli arg9 c32_i32
  let v4209 : BitVec 32 := Scalar.addi c0_i32_2212 v4208
  let v5136 : Index := Scalar.indexCast v4209
  let c2048_2479 : Index := 2048#32
  ![v5136.toNat, 2048]
def k0_off19 (k0_t1 : Fin k0_t1_loop.trips) : Fin 2 → Nat :=
  let c0_i32_2212 : BitVec 32 := 0#32
  let c0_i32_2208 : BitVec 32 := 0#32
  let c1_i32_2210 : BitVec 32 := 1#32
  let arg9 : BitVec 32 := Scf.iv c0_i32_2208 c1_i32_2210 k0_t1
  let c32_i32 : BitVec 32 := 32#32
  let v4208 : BitVec 32 := Scalar.muli arg9 c32_i32
  let v4209 : BitVec 32 := Scalar.addi c0_i32_2212 v4208
  let v5193 : Index := Scalar.indexCast v4209
  let c2176_2495 : Index := 2176#32
  ![v5193.toNat, 2176]
def k0_off20 (k0_t1 : Fin k0_t1_loop.trips) : Fin 2 → Nat :=
  let c0_i32_2212 : BitVec 32 := 0#32
  let c0_i32_2208 : BitVec 32 := 0#32
  let c1_i32_2210 : BitVec 32 := 1#32
  let arg9 : BitVec 32 := Scf.iv c0_i32_2208 c1_i32_2210 k0_t1
  let c32_i32 : BitVec 32 := 32#32
  let v4208 : BitVec 32 := Scalar.muli arg9 c32_i32
  let v4209 : BitVec 32 := Scalar.addi c0_i32_2212 v4208
  let v5250 : Index := Scalar.indexCast v4209
  let c2304_2511 : Index := 2304#32
  ![v5250.toNat, 2304]
def k0_off21 (k0_t1 : Fin k0_t1_loop.trips) : Fin 2 → Nat :=
  let c0_i32_2212 : BitVec 32 := 0#32
  let c0_i32_2208 : BitVec 32 := 0#32
  let c1_i32_2210 : BitVec 32 := 1#32
  let arg9 : BitVec 32 := Scf.iv c0_i32_2208 c1_i32_2210 k0_t1
  let c32_i32 : BitVec 32 := 32#32
  let v4208 : BitVec 32 := Scalar.muli arg9 c32_i32
  let v4209 : BitVec 32 := Scalar.addi c0_i32_2212 v4208
  let v5307 : Index := Scalar.indexCast v4209
  let c2432_2527 : Index := 2432#32
  ![v5307.toNat, 2432]
def k0_off22 (k0_t1 : Fin k0_t1_loop.trips) : Fin 2 → Nat :=
  let c0_i32_2212 : BitVec 32 := 0#32
  let c0_i32_2208 : BitVec 32 := 0#32
  let c1_i32_2210 : BitVec 32 := 1#32
  let arg9 : BitVec 32 := Scf.iv c0_i32_2208 c1_i32_2210 k0_t1
  let c32_i32 : BitVec 32 := 32#32
  let v4208 : BitVec 32 := Scalar.muli arg9 c32_i32
  let v4209 : BitVec 32 := Scalar.addi c0_i32_2212 v4208
  let v5364 : Index := Scalar.indexCast v4209
  let c2560_2543 : Index := 2560#32
  ![v5364.toNat, 2560]
def k0_off23 (k0_t1 : Fin k0_t1_loop.trips) : Fin 2 → Nat :=
  let c0_i32_2212 : BitVec 32 := 0#32
  let c0_i32_2208 : BitVec 32 := 0#32
  let c1_i32_2210 : BitVec 32 := 1#32
  let arg9 : BitVec 32 := Scf.iv c0_i32_2208 c1_i32_2210 k0_t1
  let c32_i32 : BitVec 32 := 32#32
  let v4208 : BitVec 32 := Scalar.muli arg9 c32_i32
  let v4209 : BitVec 32 := Scalar.addi c0_i32_2212 v4208
  let v5421 : Index := Scalar.indexCast v4209
  let c2688_2559 : Index := 2688#32
  ![v5421.toNat, 2688]
def k0_off24 (k0_t1 : Fin k0_t1_loop.trips) : Fin 2 → Nat :=
  let c0_i32_2212 : BitVec 32 := 0#32
  let c0_i32_2208 : BitVec 32 := 0#32
  let c1_i32_2210 : BitVec 32 := 1#32
  let arg9 : BitVec 32 := Scf.iv c0_i32_2208 c1_i32_2210 k0_t1
  let c32_i32 : BitVec 32 := 32#32
  let v4208 : BitVec 32 := Scalar.muli arg9 c32_i32
  let v4209 : BitVec 32 := Scalar.addi c0_i32_2212 v4208
  let v5478 : Index := Scalar.indexCast v4209
  let c2816_2575 : Index := 2816#32
  ![v5478.toNat, 2816]
def k0_off25 (k0_t1 : Fin k0_t1_loop.trips) : Fin 2 → Nat :=
  let c0_i32_2212 : BitVec 32 := 0#32
  let c0_i32_2208 : BitVec 32 := 0#32
  let c1_i32_2210 : BitVec 32 := 1#32
  let arg9 : BitVec 32 := Scf.iv c0_i32_2208 c1_i32_2210 k0_t1
  let c32_i32 : BitVec 32 := 32#32
  let v4208 : BitVec 32 := Scalar.muli arg9 c32_i32
  let v4209 : BitVec 32 := Scalar.addi c0_i32_2212 v4208
  let v5535 : Index := Scalar.indexCast v4209
  let c2944_2591 : Index := 2944#32
  ![v5535.toNat, 2944]
def k0_off26 (k0_t1 : Fin k0_t1_loop.trips) : Fin 2 → Nat :=
  let c0_i32_2212 : BitVec 32 := 0#32
  let c0_i32_2208 : BitVec 32 := 0#32
  let c1_i32_2210 : BitVec 32 := 1#32
  let arg9 : BitVec 32 := Scf.iv c0_i32_2208 c1_i32_2210 k0_t1
  let c32_i32 : BitVec 32 := 32#32
  let v4208 : BitVec 32 := Scalar.muli arg9 c32_i32
  let v4209 : BitVec 32 := Scalar.addi c0_i32_2212 v4208
  let v5592 : Index := Scalar.indexCast v4209
  let c3072_2608 : Index := 3072#32
  ![v5592.toNat, 3072]
def k0_off27 (k0_t1 : Fin k0_t1_loop.trips) : Fin 2 → Nat :=
  let c0_i32_2212 : BitVec 32 := 0#32
  let c0_i32_2208 : BitVec 32 := 0#32
  let c1_i32_2210 : BitVec 32 := 1#32
  let arg9 : BitVec 32 := Scf.iv c0_i32_2208 c1_i32_2210 k0_t1
  let c32_i32 : BitVec 32 := 32#32
  let v4208 : BitVec 32 := Scalar.muli arg9 c32_i32
  let v4209 : BitVec 32 := Scalar.addi c0_i32_2212 v4208
  let v5649 : Index := Scalar.indexCast v4209
  let c3200_2624 : Index := 3200#32
  ![v5649.toNat, 3200]
def k0_off28 (k0_t1 : Fin k0_t1_loop.trips) : Fin 2 → Nat :=
  let c0_i32_2212 : BitVec 32 := 0#32
  let c0_i32_2208 : BitVec 32 := 0#32
  let c1_i32_2210 : BitVec 32 := 1#32
  let arg9 : BitVec 32 := Scf.iv c0_i32_2208 c1_i32_2210 k0_t1
  let c32_i32 : BitVec 32 := 32#32
  let v4208 : BitVec 32 := Scalar.muli arg9 c32_i32
  let v4209 : BitVec 32 := Scalar.addi c0_i32_2212 v4208
  let v5706 : Index := Scalar.indexCast v4209
  let c3328_2640 : Index := 3328#32
  ![v5706.toNat, 3328]
def k0_off29 (k0_t1 : Fin k0_t1_loop.trips) : Fin 2 → Nat :=
  let c0_i32_2212 : BitVec 32 := 0#32
  let c0_i32_2208 : BitVec 32 := 0#32
  let c1_i32_2210 : BitVec 32 := 1#32
  let arg9 : BitVec 32 := Scf.iv c0_i32_2208 c1_i32_2210 k0_t1
  let c32_i32 : BitVec 32 := 32#32
  let v4208 : BitVec 32 := Scalar.muli arg9 c32_i32
  let v4209 : BitVec 32 := Scalar.addi c0_i32_2212 v4208
  let v5763 : Index := Scalar.indexCast v4209
  let c3456_2656 : Index := 3456#32
  ![v5763.toNat, 3456]
def k0_off30 (k0_t1 : Fin k0_t1_loop.trips) : Fin 2 → Nat :=
  let c0_i32_2212 : BitVec 32 := 0#32
  let c0_i32_2208 : BitVec 32 := 0#32
  let c1_i32_2210 : BitVec 32 := 1#32
  let arg9 : BitVec 32 := Scf.iv c0_i32_2208 c1_i32_2210 k0_t1
  let c32_i32 : BitVec 32 := 32#32
  let v4208 : BitVec 32 := Scalar.muli arg9 c32_i32
  let v4209 : BitVec 32 := Scalar.addi c0_i32_2212 v4208
  let v5820 : Index := Scalar.indexCast v4209
  let c3584_2672 : Index := 3584#32
  ![v5820.toNat, 3584]
def k0_off31 (k0_t1 : Fin k0_t1_loop.trips) : Fin 2 → Nat :=
  let c0_i32_2212 : BitVec 32 := 0#32
  let c0_i32_2208 : BitVec 32 := 0#32
  let c1_i32_2210 : BitVec 32 := 1#32
  let arg9 : BitVec 32 := Scf.iv c0_i32_2208 c1_i32_2210 k0_t1
  let c32_i32 : BitVec 32 := 32#32
  let v4208 : BitVec 32 := Scalar.muli arg9 c32_i32
  let v4209 : BitVec 32 := Scalar.addi c0_i32_2212 v4208
  let v5877 : Index := Scalar.indexCast v4209
  let c3712_2688 : Index := 3712#32
  ![v5877.toNat, 3712]
def k0_off32 (k0_t1 : Fin k0_t1_loop.trips) : Fin 2 → Nat :=
  let c0_i32_2212 : BitVec 32 := 0#32
  let c0_i32_2208 : BitVec 32 := 0#32
  let c1_i32_2210 : BitVec 32 := 1#32
  let arg9 : BitVec 32 := Scf.iv c0_i32_2208 c1_i32_2210 k0_t1
  let c32_i32 : BitVec 32 := 32#32
  let v4208 : BitVec 32 := Scalar.muli arg9 c32_i32
  let v4209 : BitVec 32 := Scalar.addi c0_i32_2212 v4208
  let v5934 : Index := Scalar.indexCast v4209
  let c3840_2704 : Index := 3840#32
  ![v5934.toNat, 3840]
def k0_off33 (k0_t1 : Fin k0_t1_loop.trips) : Fin 2 → Nat :=
  let c0_i32_2212 : BitVec 32 := 0#32
  let c0_i32_2208 : BitVec 32 := 0#32
  let c1_i32_2210 : BitVec 32 := 1#32
  let arg9 : BitVec 32 := Scf.iv c0_i32_2208 c1_i32_2210 k0_t1
  let c32_i32 : BitVec 32 := 32#32
  let v4208 : BitVec 32 := Scalar.muli arg9 c32_i32
  let v4209 : BitVec 32 := Scalar.addi c0_i32_2212 v4208
  let v5991 : Index := Scalar.indexCast v4209
  let c3968_2720 : Index := 3968#32
  ![v5991.toNat, 3968]
def k0_off34 (k0_t1 : Fin k0_t1_loop.trips) : Fin 2 → Nat :=
  let c0_i32_2212 : BitVec 32 := 0#32
  let c0_i32_2208 : BitVec 32 := 0#32
  let c1_i32_2210 : BitVec 32 := 1#32
  let arg9 : BitVec 32 := Scf.iv c0_i32_2208 c1_i32_2210 k0_t1
  let c32_i32 : BitVec 32 := 32#32
  let v4208 : BitVec 32 := Scalar.muli arg9 c32_i32
  let v4209 : BitVec 32 := Scalar.addi c0_i32_2212 v4208
  let v6048 : Index := Scalar.indexCast v4209
  let c4096_2736 : Index := 4096#32
  ![v6048.toNat, 4096]
def k0_off35 (k0_t1 : Fin k0_t1_loop.trips) : Fin 2 → Nat :=
  let c0_i32_2212 : BitVec 32 := 0#32
  let c0_i32_2208 : BitVec 32 := 0#32
  let c1_i32_2210 : BitVec 32 := 1#32
  let arg9 : BitVec 32 := Scf.iv c0_i32_2208 c1_i32_2210 k0_t1
  let c32_i32 : BitVec 32 := 32#32
  let v4208 : BitVec 32 := Scalar.muli arg9 c32_i32
  let v4209 : BitVec 32 := Scalar.addi c0_i32_2212 v4208
  let v6105 : Index := Scalar.indexCast v4209
  let c4224_2753 : Index := 4224#32
  ![v6105.toNat, 4224]
def k0_off36 (k0_t1 : Fin k0_t1_loop.trips) : Fin 2 → Nat :=
  let c0_i32_2212 : BitVec 32 := 0#32
  let c0_i32_2208 : BitVec 32 := 0#32
  let c1_i32_2210 : BitVec 32 := 1#32
  let arg9 : BitVec 32 := Scf.iv c0_i32_2208 c1_i32_2210 k0_t1
  let c32_i32 : BitVec 32 := 32#32
  let v4208 : BitVec 32 := Scalar.muli arg9 c32_i32
  let v4209 : BitVec 32 := Scalar.addi c0_i32_2212 v4208
  let v6162 : Index := Scalar.indexCast v4209
  let c4352_2769 : Index := 4352#32
  ![v6162.toNat, 4352]
def k0_off37 (k0_t1 : Fin k0_t1_loop.trips) : Fin 2 → Nat :=
  let c0_i32_2212 : BitVec 32 := 0#32
  let c0_i32_2208 : BitVec 32 := 0#32
  let c1_i32_2210 : BitVec 32 := 1#32
  let arg9 : BitVec 32 := Scf.iv c0_i32_2208 c1_i32_2210 k0_t1
  let c32_i32 : BitVec 32 := 32#32
  let v4208 : BitVec 32 := Scalar.muli arg9 c32_i32
  let v4209 : BitVec 32 := Scalar.addi c0_i32_2212 v4208
  let v6219 : Index := Scalar.indexCast v4209
  let c4480_2785 : Index := 4480#32
  ![v6219.toNat, 4480]
def k0_off38 (k0_t1 : Fin k0_t1_loop.trips) : Fin 2 → Nat :=
  let c0_i32_2212 : BitVec 32 := 0#32
  let c0_i32_2208 : BitVec 32 := 0#32
  let c1_i32_2210 : BitVec 32 := 1#32
  let arg9 : BitVec 32 := Scf.iv c0_i32_2208 c1_i32_2210 k0_t1
  let c32_i32 : BitVec 32 := 32#32
  let v4208 : BitVec 32 := Scalar.muli arg9 c32_i32
  let v4209 : BitVec 32 := Scalar.addi c0_i32_2212 v4208
  let v6276 : Index := Scalar.indexCast v4209
  let c4608_2801 : Index := 4608#32
  ![v6276.toNat, 4608]
def k0_off39 (k0_t1 : Fin k0_t1_loop.trips) : Fin 2 → Nat :=
  let c0_i32_2212 : BitVec 32 := 0#32
  let c0_i32_2208 : BitVec 32 := 0#32
  let c1_i32_2210 : BitVec 32 := 1#32
  let arg9 : BitVec 32 := Scf.iv c0_i32_2208 c1_i32_2210 k0_t1
  let c32_i32 : BitVec 32 := 32#32
  let v4208 : BitVec 32 := Scalar.muli arg9 c32_i32
  let v4209 : BitVec 32 := Scalar.addi c0_i32_2212 v4208
  let v6333 : Index := Scalar.indexCast v4209
  let c4736_2817 : Index := 4736#32
  ![v6333.toNat, 4736]
def k0_off40 (k0_t1 : Fin k0_t1_loop.trips) : Fin 2 → Nat :=
  let c0_i32_2212 : BitVec 32 := 0#32
  let c0_i32_2208 : BitVec 32 := 0#32
  let c1_i32_2210 : BitVec 32 := 1#32
  let arg9 : BitVec 32 := Scf.iv c0_i32_2208 c1_i32_2210 k0_t1
  let c32_i32 : BitVec 32 := 32#32
  let v4208 : BitVec 32 := Scalar.muli arg9 c32_i32
  let v4209 : BitVec 32 := Scalar.addi c0_i32_2212 v4208
  let v6390 : Index := Scalar.indexCast v4209
  let c4864_2833 : Index := 4864#32
  ![v6390.toNat, 4864]
def k0_off41 (k0_t1 : Fin k0_t1_loop.trips) : Fin 2 → Nat :=
  let c0_i32_2212 : BitVec 32 := 0#32
  let c0_i32_2208 : BitVec 32 := 0#32
  let c1_i32_2210 : BitVec 32 := 1#32
  let arg9 : BitVec 32 := Scf.iv c0_i32_2208 c1_i32_2210 k0_t1
  let c32_i32 : BitVec 32 := 32#32
  let v4208 : BitVec 32 := Scalar.muli arg9 c32_i32
  let v4209 : BitVec 32 := Scalar.addi c0_i32_2212 v4208
  let v6447 : Index := Scalar.indexCast v4209
  let c4992_2849 : Index := 4992#32
  ![v6447.toNat, 4992]
def k0_off42 (k0_t1 : Fin k0_t1_loop.trips) : Fin 2 → Nat :=
  let c0_i32_2212 : BitVec 32 := 0#32
  let c0_i32_2208 : BitVec 32 := 0#32
  let c1_i32_2210 : BitVec 32 := 1#32
  let arg9 : BitVec 32 := Scf.iv c0_i32_2208 c1_i32_2210 k0_t1
  let c32_i32 : BitVec 32 := 32#32
  let v4208 : BitVec 32 := Scalar.muli arg9 c32_i32
  let v4209 : BitVec 32 := Scalar.addi c0_i32_2212 v4208
  let v6504 : Index := Scalar.indexCast v4209
  let c5120_2865 : Index := 5120#32
  ![v6504.toNat, 5120]
def k0_off43 (k0_t1 : Fin k0_t1_loop.trips) : Fin 2 → Nat :=
  let c0_i32_2212 : BitVec 32 := 0#32
  let c0_i32_2208 : BitVec 32 := 0#32
  let c1_i32_2210 : BitVec 32 := 1#32
  let arg9 : BitVec 32 := Scf.iv c0_i32_2208 c1_i32_2210 k0_t1
  let c32_i32 : BitVec 32 := 32#32
  let v4208 : BitVec 32 := Scalar.muli arg9 c32_i32
  let v4209 : BitVec 32 := Scalar.addi c0_i32_2212 v4208
  let v6561 : Index := Scalar.indexCast v4209
  let c5248_2881 : Index := 5248#32
  ![v6561.toNat, 5248]
def k0_off44 (k0_t1 : Fin k0_t1_loop.trips) : Fin 2 → Nat :=
  let c0_i32_2212 : BitVec 32 := 0#32
  let c0_i32_2208 : BitVec 32 := 0#32
  let c1_i32_2210 : BitVec 32 := 1#32
  let arg9 : BitVec 32 := Scf.iv c0_i32_2208 c1_i32_2210 k0_t1
  let c32_i32 : BitVec 32 := 32#32
  let v4208 : BitVec 32 := Scalar.muli arg9 c32_i32
  let v4209 : BitVec 32 := Scalar.addi c0_i32_2212 v4208
  let v6618 : Index := Scalar.indexCast v4209
  let c5376_2897 : Index := 5376#32
  ![v6618.toNat, 5376]
def k0_off45 (k0_t1 : Fin k0_t1_loop.trips) : Fin 2 → Nat :=
  let c0_i32_2212 : BitVec 32 := 0#32
  let c0_i32_2208 : BitVec 32 := 0#32
  let c1_i32_2210 : BitVec 32 := 1#32
  let arg9 : BitVec 32 := Scf.iv c0_i32_2208 c1_i32_2210 k0_t1
  let c32_i32 : BitVec 32 := 32#32
  let v4208 : BitVec 32 := Scalar.muli arg9 c32_i32
  let v4209 : BitVec 32 := Scalar.addi c0_i32_2212 v4208
  let v6675 : Index := Scalar.indexCast v4209
  let c5504_2913 : Index := 5504#32
  ![v6675.toNat, 5504]
def k0_off46 (k0_t1 : Fin k0_t1_loop.trips) : Fin 2 → Nat :=
  let c0_i32_2212 : BitVec 32 := 0#32
  let c0_i32_2208 : BitVec 32 := 0#32
  let c1_i32_2210 : BitVec 32 := 1#32
  let arg9 : BitVec 32 := Scf.iv c0_i32_2208 c1_i32_2210 k0_t1
  let c32_i32 : BitVec 32 := 32#32
  let v4208 : BitVec 32 := Scalar.muli arg9 c32_i32
  let v4209 : BitVec 32 := Scalar.addi c0_i32_2212 v4208
  let v6732 : Index := Scalar.indexCast v4209
  let c5632_2929 : Index := 5632#32
  ![v6732.toNat, 5632]
def k0_off47 (k0_t1 : Fin k0_t1_loop.trips) : Fin 2 → Nat :=
  let c0_i32_2212 : BitVec 32 := 0#32
  let c0_i32_2208 : BitVec 32 := 0#32
  let c1_i32_2210 : BitVec 32 := 1#32
  let arg9 : BitVec 32 := Scf.iv c0_i32_2208 c1_i32_2210 k0_t1
  let c32_i32 : BitVec 32 := 32#32
  let v4208 : BitVec 32 := Scalar.muli arg9 c32_i32
  let v4209 : BitVec 32 := Scalar.addi c0_i32_2212 v4208
  let v6789 : Index := Scalar.indexCast v4209
  let c5760_2945 : Index := 5760#32
  ![v6789.toNat, 5760]
def k0_off48 (k0_t1 : Fin k0_t1_loop.trips) : Fin 2 → Nat :=
  let c0_i32_2212 : BitVec 32 := 0#32
  let c0_i32_2208 : BitVec 32 := 0#32
  let c1_i32_2210 : BitVec 32 := 1#32
  let arg9 : BitVec 32 := Scf.iv c0_i32_2208 c1_i32_2210 k0_t1
  let c32_i32 : BitVec 32 := 32#32
  let v4208 : BitVec 32 := Scalar.muli arg9 c32_i32
  let v4209 : BitVec 32 := Scalar.addi c0_i32_2212 v4208
  let v6846 : Index := Scalar.indexCast v4209
  let c5888_2961 : Index := 5888#32
  ![v6846.toNat, 5888]
def k0_off49 (k0_t1 : Fin k0_t1_loop.trips) : Fin 2 → Nat :=
  let c0_i32_2212 : BitVec 32 := 0#32
  let c0_i32_2208 : BitVec 32 := 0#32
  let c1_i32_2210 : BitVec 32 := 1#32
  let arg9 : BitVec 32 := Scf.iv c0_i32_2208 c1_i32_2210 k0_t1
  let c32_i32 : BitVec 32 := 32#32
  let v4208 : BitVec 32 := Scalar.muli arg9 c32_i32
  let v4209 : BitVec 32 := Scalar.addi c0_i32_2212 v4208
  let v6903 : Index := Scalar.indexCast v4209
  let c6016_2977 : Index := 6016#32
  ![v6903.toNat, 6016]
def k0_off50 (k0_t1 : Fin k0_t1_loop.trips) : Fin 2 → Nat :=
  let c0_i32_2212 : BitVec 32 := 0#32
  let c0_i32_2208 : BitVec 32 := 0#32
  let c1_i32_2210 : BitVec 32 := 1#32
  let arg9 : BitVec 32 := Scf.iv c0_i32_2208 c1_i32_2210 k0_t1
  let c32_i32 : BitVec 32 := 32#32
  let v4208 : BitVec 32 := Scalar.muli arg9 c32_i32
  let v4209 : BitVec 32 := Scalar.addi c0_i32_2212 v4208
  let v6960 : Index := Scalar.indexCast v4209
  let c6144_2993 : Index := 6144#32
  ![v6960.toNat, 6144]
def k0_off51 (k0_t1 : Fin k0_t1_loop.trips) : Fin 2 → Nat :=
  let c0_i32_2212 : BitVec 32 := 0#32
  let c0_i32_2208 : BitVec 32 := 0#32
  let c1_i32_2210 : BitVec 32 := 1#32
  let arg9 : BitVec 32 := Scf.iv c0_i32_2208 c1_i32_2210 k0_t1
  let c32_i32 : BitVec 32 := 32#32
  let v4208 : BitVec 32 := Scalar.muli arg9 c32_i32
  let v4209 : BitVec 32 := Scalar.addi c0_i32_2212 v4208
  let v7017 : Index := Scalar.indexCast v4209
  let c6272_3009 : Index := 6272#32
  ![v7017.toNat, 6272]
def k0_off52 (k0_t1 : Fin k0_t1_loop.trips) : Fin 2 → Nat :=
  let c0_i32_2212 : BitVec 32 := 0#32
  let c0_i32_2208 : BitVec 32 := 0#32
  let c1_i32_2210 : BitVec 32 := 1#32
  let arg9 : BitVec 32 := Scf.iv c0_i32_2208 c1_i32_2210 k0_t1
  let c32_i32 : BitVec 32 := 32#32
  let v4208 : BitVec 32 := Scalar.muli arg9 c32_i32
  let v4209 : BitVec 32 := Scalar.addi c0_i32_2212 v4208
  let v7074 : Index := Scalar.indexCast v4209
  let c6400_3025 : Index := 6400#32
  ![v7074.toNat, 6400]
def k0_off53 (k0_t1 : Fin k0_t1_loop.trips) : Fin 2 → Nat :=
  let c0_i32_2212 : BitVec 32 := 0#32
  let c0_i32_2208 : BitVec 32 := 0#32
  let c1_i32_2210 : BitVec 32 := 1#32
  let arg9 : BitVec 32 := Scf.iv c0_i32_2208 c1_i32_2210 k0_t1
  let c32_i32 : BitVec 32 := 32#32
  let v4208 : BitVec 32 := Scalar.muli arg9 c32_i32
  let v4209 : BitVec 32 := Scalar.addi c0_i32_2212 v4208
  let v7131 : Index := Scalar.indexCast v4209
  let c6528_3041 : Index := 6528#32
  ![v7131.toNat, 6528]
def k0_off54 (k0_t1 : Fin k0_t1_loop.trips) : Fin 2 → Nat :=
  let c0_i32_2212 : BitVec 32 := 0#32
  let c0_i32_2208 : BitVec 32 := 0#32
  let c1_i32_2210 : BitVec 32 := 1#32
  let arg9 : BitVec 32 := Scf.iv c0_i32_2208 c1_i32_2210 k0_t1
  let c32_i32 : BitVec 32 := 32#32
  let v4208 : BitVec 32 := Scalar.muli arg9 c32_i32
  let v4209 : BitVec 32 := Scalar.addi c0_i32_2212 v4208
  let v7188 : Index := Scalar.indexCast v4209
  let c6656_3057 : Index := 6656#32
  ![v7188.toNat, 6656]
def k0_off55 (k0_t1 : Fin k0_t1_loop.trips) : Fin 2 → Nat :=
  let c0_i32_2212 : BitVec 32 := 0#32
  let c0_i32_2208 : BitVec 32 := 0#32
  let c1_i32_2210 : BitVec 32 := 1#32
  let arg9 : BitVec 32 := Scf.iv c0_i32_2208 c1_i32_2210 k0_t1
  let c32_i32 : BitVec 32 := 32#32
  let v4208 : BitVec 32 := Scalar.muli arg9 c32_i32
  let v4209 : BitVec 32 := Scalar.addi c0_i32_2212 v4208
  let v7245 : Index := Scalar.indexCast v4209
  let c6784_3073 : Index := 6784#32
  ![v7245.toNat, 6784]
def k0_off56 (k0_t1 : Fin k0_t1_loop.trips) : Fin 2 → Nat :=
  let c0_i32_2212 : BitVec 32 := 0#32
  let c0_i32_2208 : BitVec 32 := 0#32
  let c1_i32_2210 : BitVec 32 := 1#32
  let arg9 : BitVec 32 := Scf.iv c0_i32_2208 c1_i32_2210 k0_t1
  let c32_i32 : BitVec 32 := 32#32
  let v4208 : BitVec 32 := Scalar.muli arg9 c32_i32
  let v4209 : BitVec 32 := Scalar.addi c0_i32_2212 v4208
  let v7302 : Index := Scalar.indexCast v4209
  let c6912_3089 : Index := 6912#32
  ![v7302.toNat, 6912]
def k0_off57 (k0_t1 : Fin k0_t1_loop.trips) : Fin 2 → Nat :=
  let c0_i32_2212 : BitVec 32 := 0#32
  let c0_i32_2208 : BitVec 32 := 0#32
  let c1_i32_2210 : BitVec 32 := 1#32
  let arg9 : BitVec 32 := Scf.iv c0_i32_2208 c1_i32_2210 k0_t1
  let c32_i32 : BitVec 32 := 32#32
  let v4208 : BitVec 32 := Scalar.muli arg9 c32_i32
  let v4209 : BitVec 32 := Scalar.addi c0_i32_2212 v4208
  let v7359 : Index := Scalar.indexCast v4209
  let c7040_3105 : Index := 7040#32
  ![v7359.toNat, 7040]
def k0_off58 (k0_t1 : Fin k0_t1_loop.trips) : Fin 2 → Nat :=
  let c0_i32_2212 : BitVec 32 := 0#32
  let c0_i32_2208 : BitVec 32 := 0#32
  let c1_i32_2210 : BitVec 32 := 1#32
  let arg9 : BitVec 32 := Scf.iv c0_i32_2208 c1_i32_2210 k0_t1
  let c32_i32 : BitVec 32 := 32#32
  let v4208 : BitVec 32 := Scalar.muli arg9 c32_i32
  let v4209 : BitVec 32 := Scalar.addi c0_i32_2212 v4208
  let v7416 : Index := Scalar.indexCast v4209
  let c0_3121 : Index := 0#32
  ![v7416.toNat, 0]
def k0_off59 (i : grid0.Coords) (c0_i32_1 : BitVec 32) : Fin 2 → Nat :=
  let arg0 : BitVec 32 := BitVec.ofNat 32 (i 0).val
  let c8_i32 : BitVec 32 := 8#32
  let v4 : BitVec 32 := Scalar.muli arg0 c8_i32
  let v5 : BitVec 32 := Scalar.addi v4 c0_i32_1
  let v6 : Index := Scalar.indexCast v5
  let c0 : Index := 0#32
  ![v6.toNat, 0]
def k0_off60 (i : grid0.Coords) (c0_i32_26 : BitVec 32) : Fin 2 → Nat :=
  let arg0 : BitVec 32 := BitVec.ofNat 32 (i 0).val
  let c8_i32_25 : BitVec 32 := 8#32
  let v77 : BitVec 32 := Scalar.muli arg0 c8_i32_25
  let v78 : BitVec 32 := Scalar.addi v77 c0_i32_26
  let v79 : Index := Scalar.indexCast v78
  let c1 : Index := 1#32
  ![v79.toNat, 1]
def k0_off61 (i : grid0.Coords) (c0_i32_68 : BitVec 32) : Fin 2 → Nat :=
  let arg0 : BitVec 32 := BitVec.ofNat 32 (i 0).val
  let c8_i32_67 : BitVec 32 := 8#32
  let v154 : BitVec 32 := Scalar.muli arg0 c8_i32_67
  let v155 : BitVec 32 := Scalar.addi v154 c0_i32_68
  let v156 : Index := Scalar.indexCast v155
  let c2 : Index := 2#32
  ![v156.toNat, 2]
def k0_off62 (i : grid0.Coords) (c0_i32_107 : BitVec 32) : Fin 2 → Nat :=
  let arg0 : BitVec 32 := BitVec.ofNat 32 (i 0).val
  let c8_i32_106 : BitVec 32 := 8#32
  let v227 : BitVec 32 := Scalar.muli arg0 c8_i32_106
  let v228 : BitVec 32 := Scalar.addi v227 c0_i32_107
  let v229 : Index := Scalar.indexCast v228
  let c3 : Index := 3#32
  ![v229.toNat, 3]
def k0_off63 (i : grid0.Coords) (c0_i32_149 : BitVec 32) : Fin 2 → Nat :=
  let arg0 : BitVec 32 := BitVec.ofNat 32 (i 0).val
  let c8_i32_148 : BitVec 32 := 8#32
  let v304 : BitVec 32 := Scalar.muli arg0 c8_i32_148
  let v305 : BitVec 32 := Scalar.addi v304 c0_i32_149
  let v306 : Index := Scalar.indexCast v305
  let c4 : Index := 4#32
  ![v306.toNat, 4]
def k0_off64 (i : grid0.Coords) (c0_i32_188 : BitVec 32) : Fin 2 → Nat :=
  let arg0 : BitVec 32 := BitVec.ofNat 32 (i 0).val
  let c8_i32_187 : BitVec 32 := 8#32
  let v377 : BitVec 32 := Scalar.muli arg0 c8_i32_187
  let v378 : BitVec 32 := Scalar.addi v377 c0_i32_188
  let v379 : Index := Scalar.indexCast v378
  let c5 : Index := 5#32
  ![v379.toNat, 5]
def k0_off65 (i : grid0.Coords) (c0_i32_230 : BitVec 32) : Fin 2 → Nat :=
  let arg0 : BitVec 32 := BitVec.ofNat 32 (i 0).val
  let c8_i32_229 : BitVec 32 := 8#32
  let v454 : BitVec 32 := Scalar.muli arg0 c8_i32_229
  let v455 : BitVec 32 := Scalar.addi v454 c0_i32_230
  let v456 : Index := Scalar.indexCast v455
  let c6 : Index := 6#32
  ![v456.toNat, 6]
def k0_off66 (i : grid0.Coords) (c0_i32_269 : BitVec 32) : Fin 2 → Nat :=
  let arg0 : BitVec 32 := BitVec.ofNat 32 (i 0).val
  let c8_i32_268 : BitVec 32 := 8#32
  let v527 : BitVec 32 := Scalar.muli arg0 c8_i32_268
  let v528 : BitVec 32 := Scalar.addi v527 c0_i32_269
  let v529 : Index := Scalar.indexCast v528
  let c7 : Index := 7#32
  ![v529.toNat, 7]
def k0_off67 (i : grid0.Coords) (c0_i32_311 : BitVec 32) : Fin 2 → Nat :=
  let arg0 : BitVec 32 := BitVec.ofNat 32 (i 0).val
  let c8_i32_310 : BitVec 32 := 8#32
  let v604 : BitVec 32 := Scalar.muli arg0 c8_i32_310
  let v605 : BitVec 32 := Scalar.addi v604 c0_i32_311
  let v606 : Index := Scalar.indexCast v605
  let c8 : Index := 8#32
  ![v606.toNat, 8]
def k0_off68 (i : grid0.Coords) (c0_i32_349 : BitVec 32) : Fin 2 → Nat :=
  let arg0 : BitVec 32 := BitVec.ofNat 32 (i 0).val
  let c8_i32_348 : BitVec 32 := 8#32
  let v677 : BitVec 32 := Scalar.muli arg0 c8_i32_348
  let v678 : BitVec 32 := Scalar.addi v677 c0_i32_349
  let v679 : Index := Scalar.indexCast v678
  let c9 : Index := 9#32
  ![v679.toNat, 9]
def k0_off69 (i : grid0.Coords) (c0_i32_390 : BitVec 32) : Fin 2 → Nat :=
  let arg0 : BitVec 32 := BitVec.ofNat 32 (i 0).val
  let c8_i32_389 : BitVec 32 := 8#32
  let v754 : BitVec 32 := Scalar.muli arg0 c8_i32_389
  let v755 : BitVec 32 := Scalar.addi v754 c0_i32_390
  let v756 : Index := Scalar.indexCast v755
  let c10 : Index := 10#32
  ![v756.toNat, 10]
def k0_off70 (i : grid0.Coords) (c0_i32_428 : BitVec 32) : Fin 2 → Nat :=
  let arg0 : BitVec 32 := BitVec.ofNat 32 (i 0).val
  let c8_i32_427 : BitVec 32 := 8#32
  let v827 : BitVec 32 := Scalar.muli arg0 c8_i32_427
  let v828 : BitVec 32 := Scalar.addi v827 c0_i32_428
  let v829 : Index := Scalar.indexCast v828
  let c11 : Index := 11#32
  ![v829.toNat, 11]
def k0_off71 (i : grid0.Coords) (c0_i32_469 : BitVec 32) : Fin 2 → Nat :=
  let arg0 : BitVec 32 := BitVec.ofNat 32 (i 0).val
  let c8_i32_468 : BitVec 32 := 8#32
  let v904 : BitVec 32 := Scalar.muli arg0 c8_i32_468
  let v905 : BitVec 32 := Scalar.addi v904 c0_i32_469
  let v906 : Index := Scalar.indexCast v905
  let c12 : Index := 12#32
  ![v906.toNat, 12]
def k0_off72 (i : grid0.Coords) (c0_i32_507 : BitVec 32) : Fin 2 → Nat :=
  let arg0 : BitVec 32 := BitVec.ofNat 32 (i 0).val
  let c8_i32_506 : BitVec 32 := 8#32
  let v977 : BitVec 32 := Scalar.muli arg0 c8_i32_506
  let v978 : BitVec 32 := Scalar.addi v977 c0_i32_507
  let v979 : Index := Scalar.indexCast v978
  let c13 : Index := 13#32
  ![v979.toNat, 13]
def k0_off73 (i : grid0.Coords) (c0_i32_548 : BitVec 32) : Fin 2 → Nat :=
  let arg0 : BitVec 32 := BitVec.ofNat 32 (i 0).val
  let c8_i32_547 : BitVec 32 := 8#32
  let v1054 : BitVec 32 := Scalar.muli arg0 c8_i32_547
  let v1055 : BitVec 32 := Scalar.addi v1054 c0_i32_548
  let v1056 : Index := Scalar.indexCast v1055
  let c14 : Index := 14#32
  ![v1056.toNat, 14]
def k0_off74 (i : grid0.Coords) (c0_i32_586 : BitVec 32) : Fin 2 → Nat :=
  let arg0 : BitVec 32 := BitVec.ofNat 32 (i 0).val
  let c8_i32_585 : BitVec 32 := 8#32
  let v1127 : BitVec 32 := Scalar.muli arg0 c8_i32_585
  let v1128 : BitVec 32 := Scalar.addi v1127 c0_i32_586
  let v1129 : Index := Scalar.indexCast v1128
  let c15 : Index := 15#32
  ![v1129.toNat, 15]
def k0_off75 (i : grid0.Coords) (c0_i32_627 : BitVec 32) : Fin 2 → Nat :=
  let arg0 : BitVec 32 := BitVec.ofNat 32 (i 0).val
  let c8_i32_626 : BitVec 32 := 8#32
  let v1204 : BitVec 32 := Scalar.muli arg0 c8_i32_626
  let v1205 : BitVec 32 := Scalar.addi v1204 c0_i32_627
  let v1206 : Index := Scalar.indexCast v1205
  let c16 : Index := 16#32
  ![v1206.toNat, 16]
def k0_off76 (i : grid0.Coords) (c0_i32_665 : BitVec 32) : Fin 2 → Nat :=
  let arg0 : BitVec 32 := BitVec.ofNat 32 (i 0).val
  let c8_i32_664 : BitVec 32 := 8#32
  let v1277 : BitVec 32 := Scalar.muli arg0 c8_i32_664
  let v1278 : BitVec 32 := Scalar.addi v1277 c0_i32_665
  let v1279 : Index := Scalar.indexCast v1278
  let c17 : Index := 17#32
  ![v1279.toNat, 17]
def k0_off77 (i : grid0.Coords) (c0_i32_706 : BitVec 32) : Fin 2 → Nat :=
  let arg0 : BitVec 32 := BitVec.ofNat 32 (i 0).val
  let c8_i32_705 : BitVec 32 := 8#32
  let v1354 : BitVec 32 := Scalar.muli arg0 c8_i32_705
  let v1355 : BitVec 32 := Scalar.addi v1354 c0_i32_706
  let v1356 : Index := Scalar.indexCast v1355
  let c18 : Index := 18#32
  ![v1356.toNat, 18]
def k0_off78 (i : grid0.Coords) (c0_i32_744 : BitVec 32) : Fin 2 → Nat :=
  let arg0 : BitVec 32 := BitVec.ofNat 32 (i 0).val
  let c8_i32_743 : BitVec 32 := 8#32
  let v1427 : BitVec 32 := Scalar.muli arg0 c8_i32_743
  let v1428 : BitVec 32 := Scalar.addi v1427 c0_i32_744
  let v1429 : Index := Scalar.indexCast v1428
  let c19 : Index := 19#32
  ![v1429.toNat, 19]
def k0_off79 (i : grid0.Coords) (c0_i32_785 : BitVec 32) : Fin 2 → Nat :=
  let arg0 : BitVec 32 := BitVec.ofNat 32 (i 0).val
  let c8_i32_784 : BitVec 32 := 8#32
  let v1504 : BitVec 32 := Scalar.muli arg0 c8_i32_784
  let v1505 : BitVec 32 := Scalar.addi v1504 c0_i32_785
  let v1506 : Index := Scalar.indexCast v1505
  let c20 : Index := 20#32
  ![v1506.toNat, 20]
def k0_off80 (i : grid0.Coords) (c0_i32_823 : BitVec 32) : Fin 2 → Nat :=
  let arg0 : BitVec 32 := BitVec.ofNat 32 (i 0).val
  let c8_i32_822 : BitVec 32 := 8#32
  let v1577 : BitVec 32 := Scalar.muli arg0 c8_i32_822
  let v1578 : BitVec 32 := Scalar.addi v1577 c0_i32_823
  let v1579 : Index := Scalar.indexCast v1578
  let c21 : Index := 21#32
  ![v1579.toNat, 21]
def k0_off81 (i : grid0.Coords) (c0_i32_864 : BitVec 32) : Fin 2 → Nat :=
  let arg0 : BitVec 32 := BitVec.ofNat 32 (i 0).val
  let c8_i32_863 : BitVec 32 := 8#32
  let v1654 : BitVec 32 := Scalar.muli arg0 c8_i32_863
  let v1655 : BitVec 32 := Scalar.addi v1654 c0_i32_864
  let v1656 : Index := Scalar.indexCast v1655
  let c22 : Index := 22#32
  ![v1656.toNat, 22]
def k0_off82 (i : grid0.Coords) (c0_i32_902 : BitVec 32) : Fin 2 → Nat :=
  let arg0 : BitVec 32 := BitVec.ofNat 32 (i 0).val
  let c8_i32_901 : BitVec 32 := 8#32
  let v1727 : BitVec 32 := Scalar.muli arg0 c8_i32_901
  let v1728 : BitVec 32 := Scalar.addi v1727 c0_i32_902
  let v1729 : Index := Scalar.indexCast v1728
  let c23 : Index := 23#32
  ![v1729.toNat, 23]
def k0_off83 (i : grid0.Coords) (c0_i32_943 : BitVec 32) : Fin 2 → Nat :=
  let arg0 : BitVec 32 := BitVec.ofNat 32 (i 0).val
  let c8_i32_942 : BitVec 32 := 8#32
  let v1804 : BitVec 32 := Scalar.muli arg0 c8_i32_942
  let v1805 : BitVec 32 := Scalar.addi v1804 c0_i32_943
  let v1806 : Index := Scalar.indexCast v1805
  let c24 : Index := 24#32
  ![v1806.toNat, 24]
def k0_off84 (i : grid0.Coords) (c0_i32_981 : BitVec 32) : Fin 2 → Nat :=
  let arg0 : BitVec 32 := BitVec.ofNat 32 (i 0).val
  let c8_i32_980 : BitVec 32 := 8#32
  let v1877 : BitVec 32 := Scalar.muli arg0 c8_i32_980
  let v1878 : BitVec 32 := Scalar.addi v1877 c0_i32_981
  let v1879 : Index := Scalar.indexCast v1878
  let c25 : Index := 25#32
  ![v1879.toNat, 25]
def k0_off85 (i : grid0.Coords) (c0_i32_1022 : BitVec 32) : Fin 2 → Nat :=
  let arg0 : BitVec 32 := BitVec.ofNat 32 (i 0).val
  let c8_i32_1021 : BitVec 32 := 8#32
  let v1954 : BitVec 32 := Scalar.muli arg0 c8_i32_1021
  let v1955 : BitVec 32 := Scalar.addi v1954 c0_i32_1022
  let v1956 : Index := Scalar.indexCast v1955
  let c26 : Index := 26#32
  ![v1956.toNat, 26]
def k0_off86 (i : grid0.Coords) (c0_i32_1060 : BitVec 32) : Fin 2 → Nat :=
  let arg0 : BitVec 32 := BitVec.ofNat 32 (i 0).val
  let c8_i32_1059 : BitVec 32 := 8#32
  let v2027 : BitVec 32 := Scalar.muli arg0 c8_i32_1059
  let v2028 : BitVec 32 := Scalar.addi v2027 c0_i32_1060
  let v2029 : Index := Scalar.indexCast v2028
  let c27 : Index := 27#32
  ![v2029.toNat, 27]
def k0_off87 (i : grid0.Coords) (c0_i32_1101 : BitVec 32) : Fin 2 → Nat :=
  let arg0 : BitVec 32 := BitVec.ofNat 32 (i 0).val
  let c8_i32_1100 : BitVec 32 := 8#32
  let v2104 : BitVec 32 := Scalar.muli arg0 c8_i32_1100
  let v2105 : BitVec 32 := Scalar.addi v2104 c0_i32_1101
  let v2106 : Index := Scalar.indexCast v2105
  let c28 : Index := 28#32
  ![v2106.toNat, 28]
def k0_off88 (i : grid0.Coords) (c0_i32_1139 : BitVec 32) : Fin 2 → Nat :=
  let arg0 : BitVec 32 := BitVec.ofNat 32 (i 0).val
  let c8_i32_1138 : BitVec 32 := 8#32
  let v2177 : BitVec 32 := Scalar.muli arg0 c8_i32_1138
  let v2178 : BitVec 32 := Scalar.addi v2177 c0_i32_1139
  let v2179 : Index := Scalar.indexCast v2178
  let c29 : Index := 29#32
  ![v2179.toNat, 29]
def k0_off89 (i : grid0.Coords) (c0_i32_1180 : BitVec 32) : Fin 2 → Nat :=
  let arg0 : BitVec 32 := BitVec.ofNat 32 (i 0).val
  let c8_i32_1179 : BitVec 32 := 8#32
  let v2254 : BitVec 32 := Scalar.muli arg0 c8_i32_1179
  let v2255 : BitVec 32 := Scalar.addi v2254 c0_i32_1180
  let v2256 : Index := Scalar.indexCast v2255
  let c30 : Index := 30#32
  ![v2256.toNat, 30]
def k0_off90 (i : grid0.Coords) (c0_i32_1218 : BitVec 32) : Fin 2 → Nat :=
  let arg0 : BitVec 32 := BitVec.ofNat 32 (i 0).val
  let c8_i32_1217 : BitVec 32 := 8#32
  let v2327 : BitVec 32 := Scalar.muli arg0 c8_i32_1217
  let v2328 : BitVec 32 := Scalar.addi v2327 c0_i32_1218
  let v2329 : Index := Scalar.indexCast v2328
  let c31 : Index := 31#32
  ![v2329.toNat, 31]
def k0_off91 (i : grid0.Coords) (c0_i32_1259 : BitVec 32) : Fin 2 → Nat :=
  let arg0 : BitVec 32 := BitVec.ofNat 32 (i 0).val
  let c8_i32_1258 : BitVec 32 := 8#32
  let v2404 : BitVec 32 := Scalar.muli arg0 c8_i32_1258
  let v2405 : BitVec 32 := Scalar.addi v2404 c0_i32_1259
  let v2406 : Index := Scalar.indexCast v2405
  let c32 : Index := 32#32
  ![v2406.toNat, 32]
def k0_off92 (i : grid0.Coords) (c0_i32_1297 : BitVec 32) : Fin 2 → Nat :=
  let arg0 : BitVec 32 := BitVec.ofNat 32 (i 0).val
  let c8_i32_1296 : BitVec 32 := 8#32
  let v2477 : BitVec 32 := Scalar.muli arg0 c8_i32_1296
  let v2478 : BitVec 32 := Scalar.addi v2477 c0_i32_1297
  let v2479 : Index := Scalar.indexCast v2478
  let c33 : Index := 33#32
  ![v2479.toNat, 33]
def k0_off93 (i : grid0.Coords) (c0_i32_1338 : BitVec 32) : Fin 2 → Nat :=
  let arg0 : BitVec 32 := BitVec.ofNat 32 (i 0).val
  let c8_i32_1337 : BitVec 32 := 8#32
  let v2554 : BitVec 32 := Scalar.muli arg0 c8_i32_1337
  let v2555 : BitVec 32 := Scalar.addi v2554 c0_i32_1338
  let v2556 : Index := Scalar.indexCast v2555
  let c34 : Index := 34#32
  ![v2556.toNat, 34]
def k0_off94 (i : grid0.Coords) (c0_i32_1376 : BitVec 32) : Fin 2 → Nat :=
  let arg0 : BitVec 32 := BitVec.ofNat 32 (i 0).val
  let c8_i32_1375 : BitVec 32 := 8#32
  let v2627 : BitVec 32 := Scalar.muli arg0 c8_i32_1375
  let v2628 : BitVec 32 := Scalar.addi v2627 c0_i32_1376
  let v2629 : Index := Scalar.indexCast v2628
  let c35 : Index := 35#32
  ![v2629.toNat, 35]
def k0_off95 (i : grid0.Coords) (c0_i32_1417 : BitVec 32) : Fin 2 → Nat :=
  let arg0 : BitVec 32 := BitVec.ofNat 32 (i 0).val
  let c8_i32_1416 : BitVec 32 := 8#32
  let v2704 : BitVec 32 := Scalar.muli arg0 c8_i32_1416
  let v2705 : BitVec 32 := Scalar.addi v2704 c0_i32_1417
  let v2706 : Index := Scalar.indexCast v2705
  let c36 : Index := 36#32
  ![v2706.toNat, 36]
def k0_off96 (i : grid0.Coords) (c0_i32_1455 : BitVec 32) : Fin 2 → Nat :=
  let arg0 : BitVec 32 := BitVec.ofNat 32 (i 0).val
  let c8_i32_1454 : BitVec 32 := 8#32
  let v2777 : BitVec 32 := Scalar.muli arg0 c8_i32_1454
  let v2778 : BitVec 32 := Scalar.addi v2777 c0_i32_1455
  let v2779 : Index := Scalar.indexCast v2778
  let c37 : Index := 37#32
  ![v2779.toNat, 37]
def k0_off97 (i : grid0.Coords) (c0_i32_1496 : BitVec 32) : Fin 2 → Nat :=
  let arg0 : BitVec 32 := BitVec.ofNat 32 (i 0).val
  let c8_i32_1495 : BitVec 32 := 8#32
  let v2854 : BitVec 32 := Scalar.muli arg0 c8_i32_1495
  let v2855 : BitVec 32 := Scalar.addi v2854 c0_i32_1496
  let v2856 : Index := Scalar.indexCast v2855
  let c38 : Index := 38#32
  ![v2856.toNat, 38]
def k0_off98 (i : grid0.Coords) (c0_i32_1534 : BitVec 32) : Fin 2 → Nat :=
  let arg0 : BitVec 32 := BitVec.ofNat 32 (i 0).val
  let c8_i32_1533 : BitVec 32 := 8#32
  let v2927 : BitVec 32 := Scalar.muli arg0 c8_i32_1533
  let v2928 : BitVec 32 := Scalar.addi v2927 c0_i32_1534
  let v2929 : Index := Scalar.indexCast v2928
  let c39 : Index := 39#32
  ![v2929.toNat, 39]
def k0_off99 (i : grid0.Coords) (c0_i32_1575 : BitVec 32) : Fin 2 → Nat :=
  let arg0 : BitVec 32 := BitVec.ofNat 32 (i 0).val
  let c8_i32_1574 : BitVec 32 := 8#32
  let v3004 : BitVec 32 := Scalar.muli arg0 c8_i32_1574
  let v3005 : BitVec 32 := Scalar.addi v3004 c0_i32_1575
  let v3006 : Index := Scalar.indexCast v3005
  let c40 : Index := 40#32
  ![v3006.toNat, 40]
def k0_off100 (i : grid0.Coords) (c0_i32_1613 : BitVec 32) : Fin 2 → Nat :=
  let arg0 : BitVec 32 := BitVec.ofNat 32 (i 0).val
  let c8_i32_1612 : BitVec 32 := 8#32
  let v3077 : BitVec 32 := Scalar.muli arg0 c8_i32_1612
  let v3078 : BitVec 32 := Scalar.addi v3077 c0_i32_1613
  let v3079 : Index := Scalar.indexCast v3078
  let c41 : Index := 41#32
  ![v3079.toNat, 41]
def k0_off101 (i : grid0.Coords) (c0_i32_1654 : BitVec 32) : Fin 2 → Nat :=
  let arg0 : BitVec 32 := BitVec.ofNat 32 (i 0).val
  let c8_i32_1653 : BitVec 32 := 8#32
  let v3154 : BitVec 32 := Scalar.muli arg0 c8_i32_1653
  let v3155 : BitVec 32 := Scalar.addi v3154 c0_i32_1654
  let v3156 : Index := Scalar.indexCast v3155
  let c42 : Index := 42#32
  ![v3156.toNat, 42]
def k0_off102 (i : grid0.Coords) (c0_i32_1692 : BitVec 32) : Fin 2 → Nat :=
  let arg0 : BitVec 32 := BitVec.ofNat 32 (i 0).val
  let c8_i32_1691 : BitVec 32 := 8#32
  let v3227 : BitVec 32 := Scalar.muli arg0 c8_i32_1691
  let v3228 : BitVec 32 := Scalar.addi v3227 c0_i32_1692
  let v3229 : Index := Scalar.indexCast v3228
  let c43 : Index := 43#32
  ![v3229.toNat, 43]
def k0_off103 (i : grid0.Coords) (c0_i32_1733 : BitVec 32) : Fin 2 → Nat :=
  let arg0 : BitVec 32 := BitVec.ofNat 32 (i 0).val
  let c8_i32_1732 : BitVec 32 := 8#32
  let v3304 : BitVec 32 := Scalar.muli arg0 c8_i32_1732
  let v3305 : BitVec 32 := Scalar.addi v3304 c0_i32_1733
  let v3306 : Index := Scalar.indexCast v3305
  let c44 : Index := 44#32
  ![v3306.toNat, 44]
def k0_off104 (i : grid0.Coords) (c0_i32_1771 : BitVec 32) : Fin 2 → Nat :=
  let arg0 : BitVec 32 := BitVec.ofNat 32 (i 0).val
  let c8_i32_1770 : BitVec 32 := 8#32
  let v3377 : BitVec 32 := Scalar.muli arg0 c8_i32_1770
  let v3378 : BitVec 32 := Scalar.addi v3377 c0_i32_1771
  let v3379 : Index := Scalar.indexCast v3378
  let c45 : Index := 45#32
  ![v3379.toNat, 45]
def k0_off105 (i : grid0.Coords) (c0_i32_1812 : BitVec 32) : Fin 2 → Nat :=
  let arg0 : BitVec 32 := BitVec.ofNat 32 (i 0).val
  let c8_i32_1811 : BitVec 32 := 8#32
  let v3454 : BitVec 32 := Scalar.muli arg0 c8_i32_1811
  let v3455 : BitVec 32 := Scalar.addi v3454 c0_i32_1812
  let v3456 : Index := Scalar.indexCast v3455
  let c46 : Index := 46#32
  ![v3456.toNat, 46]
def k0_off106 (i : grid0.Coords) (c0_i32_1850 : BitVec 32) : Fin 2 → Nat :=
  let arg0 : BitVec 32 := BitVec.ofNat 32 (i 0).val
  let c8_i32_1849 : BitVec 32 := 8#32
  let v3527 : BitVec 32 := Scalar.muli arg0 c8_i32_1849
  let v3528 : BitVec 32 := Scalar.addi v3527 c0_i32_1850
  let v3529 : Index := Scalar.indexCast v3528
  let c47 : Index := 47#32
  ![v3529.toNat, 47]
def k0_off107 (i : grid0.Coords) (c0_i32_1891 : BitVec 32) : Fin 2 → Nat :=
  let arg0 : BitVec 32 := BitVec.ofNat 32 (i 0).val
  let c8_i32_1890 : BitVec 32 := 8#32
  let v3604 : BitVec 32 := Scalar.muli arg0 c8_i32_1890
  let v3605 : BitVec 32 := Scalar.addi v3604 c0_i32_1891
  let v3606 : Index := Scalar.indexCast v3605
  let c48 : Index := 48#32
  ![v3606.toNat, 48]
def k0_off108 (i : grid0.Coords) (c0_i32_1929 : BitVec 32) : Fin 2 → Nat :=
  let arg0 : BitVec 32 := BitVec.ofNat 32 (i 0).val
  let c8_i32_1928 : BitVec 32 := 8#32
  let v3677 : BitVec 32 := Scalar.muli arg0 c8_i32_1928
  let v3678 : BitVec 32 := Scalar.addi v3677 c0_i32_1929
  let v3679 : Index := Scalar.indexCast v3678
  let c49 : Index := 49#32
  ![v3679.toNat, 49]
def k0_off109 (i : grid0.Coords) (c0_i32_1970 : BitVec 32) : Fin 2 → Nat :=
  let arg0 : BitVec 32 := BitVec.ofNat 32 (i 0).val
  let c8_i32_1969 : BitVec 32 := 8#32
  let v3754 : BitVec 32 := Scalar.muli arg0 c8_i32_1969
  let v3755 : BitVec 32 := Scalar.addi v3754 c0_i32_1970
  let v3756 : Index := Scalar.indexCast v3755
  let c50 : Index := 50#32
  ![v3756.toNat, 50]
def k0_off110 (i : grid0.Coords) (c0_i32_2008 : BitVec 32) : Fin 2 → Nat :=
  let arg0 : BitVec 32 := BitVec.ofNat 32 (i 0).val
  let c8_i32_2007 : BitVec 32 := 8#32
  let v3827 : BitVec 32 := Scalar.muli arg0 c8_i32_2007
  let v3828 : BitVec 32 := Scalar.addi v3827 c0_i32_2008
  let v3829 : Index := Scalar.indexCast v3828
  let c51 : Index := 51#32
  ![v3829.toNat, 51]
def k0_off111 (i : grid0.Coords) (c0_i32_2049 : BitVec 32) : Fin 2 → Nat :=
  let arg0 : BitVec 32 := BitVec.ofNat 32 (i 0).val
  let c8_i32_2048 : BitVec 32 := 8#32
  let v3904 : BitVec 32 := Scalar.muli arg0 c8_i32_2048
  let v3905 : BitVec 32 := Scalar.addi v3904 c0_i32_2049
  let v3906 : Index := Scalar.indexCast v3905
  let c52 : Index := 52#32
  ![v3906.toNat, 52]
def k0_off112 (i : grid0.Coords) (c0_i32_2087 : BitVec 32) : Fin 2 → Nat :=
  let arg0 : BitVec 32 := BitVec.ofNat 32 (i 0).val
  let c8_i32_2086 : BitVec 32 := 8#32
  let v3977 : BitVec 32 := Scalar.muli arg0 c8_i32_2086
  let v3978 : BitVec 32 := Scalar.addi v3977 c0_i32_2087
  let v3979 : Index := Scalar.indexCast v3978
  let c53 : Index := 53#32
  ![v3979.toNat, 53]
def k0_off113 (i : grid0.Coords) (c0_i32_2128 : BitVec 32) : Fin 2 → Nat :=
  let arg0 : BitVec 32 := BitVec.ofNat 32 (i 0).val
  let c8_i32_2127 : BitVec 32 := 8#32
  let v4054 : BitVec 32 := Scalar.muli arg0 c8_i32_2127
  let v4055 : BitVec 32 := Scalar.addi v4054 c0_i32_2128
  let v4056 : Index := Scalar.indexCast v4055
  let c54 : Index := 54#32
  ![v4056.toNat, 54]
def k0_off114 (i : grid0.Coords) (c0_i32_2166 : BitVec 32) : Fin 2 → Nat :=
  let arg0 : BitVec 32 := BitVec.ofNat 32 (i 0).val
  let c8_i32_2165 : BitVec 32 := 8#32
  let v4127 : BitVec 32 := Scalar.muli arg0 c8_i32_2165
  let v4128 : BitVec 32 := Scalar.addi v4127 c0_i32_2166
  let v4129 : Index := Scalar.indexCast v4128
  let c55 : Index := 55#32
  ![v4129.toNat, 55]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .smem S192x56 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S256x7168 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x7168 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x7168 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S256x7168 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x56 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== ReferenceIdeal.lean ====
abbrev S2x128x7168 : Shape := ⟨3, ![2, 128, 7168]⟩
abbrev S7168 : Shape := ⟨1, ![7168]⟩
abbrev S24576x7168 : Shape := ⟨2, ![24576, 7168]⟩
abbrev S192x56 : Shape := ⟨2, ![192, 56]⟩
abbrev S256x7168 : Shape := ⟨2, ![256, 7168]⟩
abbrev S1x7168 : Shape := ⟨2, ![1, 7168]⟩
abbrev S256x24576 : Shape := ⟨2, ![256, 24576]⟩
abbrev S256x56 : Shape := ⟨2, ![256, 56]⟩
abbrev S256 : Shape := ⟨1, ![256]⟩
abbrev S256x1 : Shape := ⟨2, ![256, 1]⟩
abbrev S256x56x128 : Shape := ⟨3, ![256, 56, 128]⟩
abbrev S256x56x1 : Shape := ⟨3, ![256, 56, 1]⟩
abbrev S192x128x56x128 : Shape := ⟨4, ![192, 128, 56, 128]⟩
abbrev S192x1x56x1 : Shape := ⟨4, ![192, 1, 56, 1]⟩

abbrev nBuf : Space → Nat
  | .hbm => 9
  | .vmem => 7
  | .smem => 0
  | _ => 0

abbrev bufTy : (tb : Table) → Fin (tcTables nBuf tb) → BufTy
  | .hbm, ⟨0, _⟩ => ⟨S2x128x7168, .bf16⟩
  | .hbm, ⟨1, _⟩ => ⟨S7168, .f32⟩
  | .hbm, ⟨2, _⟩ => ⟨S24576x7168, .fp8e4m3⟩
  | .hbm, ⟨3, _⟩ => ⟨S192x56, .f32⟩
  | .hbm, ⟨4, _⟩ => ⟨S256x7168, .bf16⟩
  | .hbm, ⟨5, _⟩ => ⟨S1x7168, .f32⟩
  | .hbm, ⟨6, _⟩ => ⟨S256x24576, .bf16⟩
  | .hbm, ⟨7, _⟩ => ⟨S256x7168, .fp8e4m3⟩
  | .hbm, ⟨8, _⟩ => ⟨S256x56, .f32⟩
  | .local _ .vmem, ⟨0, _⟩ => ⟨S256x7168, .bf16⟩
  | .local _ .vmem, ⟨1, _⟩ => ⟨S1x7168, .f32⟩
  | .local _ .vmem, ⟨2, _⟩ => ⟨S24576x7168, .fp8e4m3⟩
  | .local _ .vmem, ⟨3, _⟩ => ⟨S192x56, .f32⟩
  | .local _ .vmem, ⟨4, _⟩ => ⟨S256x24576, .bf16⟩
  | .local _ .vmem, ⟨5, _⟩ => ⟨S256x7168, .fp8e4m3⟩
  | .local _ .vmem, ⟨6, _⟩ => ⟨S256x56, .f32⟩
  | _, _ => ⟨S2x128x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v2_2 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S256x7168 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x7168 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S24576x7168 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S192x56 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x24576 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S256x7168 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S256x56 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Proof.HwRuns.lean ====
/- The kernel body's branch condition, its staging memrefs and its invariant, at the program as printed. -/
module

public import proofs.«01_k».proof.Proof.Gen.Kernel.Launch
public import proofs.«01_k».proof.Proof.Gen.Kernel.Skeleton
public import proofs.«01_k».proof.Proof.Gen.Kernel.Loops
public import proofs.«01_k».proof.Proof.Gen.Kernel.Points
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The body's branch conditions -/

/-- The condition of the body's `scf.if` 0 (`k0_h1`), from the grid coordinates (the skeleton's scalar
    chain substituted). -/
abbrev cond0_0 (i : grid0.Coords) : Prop := k0_cond1 i = 1#1
/-- It holds at the first point only — by arithmetic of the point. -/
theorem hcond0_0 : ∀ t : Fin cfg0.N, cond0_0 (grid0.coords t) ↔ t.val % 24 = 0 :=
  (fun t => by
    have ht : t.val < 24 := Nat.lt_of_lt_of_eq t.isLt N_0
    have e0 : (grid0.coords t 0).val = t.val / 1 % 24 := Pipeline.Grid.coords_val t 0 (by decide) rfl
    simp only [cond0_0, k0_cond1, e0]
    word_cmp
   : ∀ t : Fin grid0.N, cond0_0 (grid0.coords t) ↔ t.val % 24 = 0)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .smem S192x56 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S256x7168 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x7168 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1024x7168 .fp8e4m3 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S256x1024 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S256x7168 .fp8e4m3 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S256x56 .f32 := win0_6.stage (cfg0.slots t 6)
abbrev hs0_6 (t : Fin cfg0.N) : (ms0_6 t).IsWhole := hstage0_6 ((cfg0.slots t 6).cast nbuf0_6)
/-- The scratch operands: whole scoped buffers of the kernel's own, passed beside the windows. -/
abbrev scM0_0 : Memref sig .tc .vmem S256x7168 .bf16 := Memref.whole cc0_scratch0

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.Kernel.Gen

end
-- ==== Proof.HwRunA.lean ====
/- The kernel body run at case A, its results named. -/
module

public import proofs.«01_k».proof.Proof.HwRuns

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 10112000 in
/-- The body at the point that runs the quantising loop: the codes, the scales and the scratch end at what the loop's
    trips write, and the block of `y` at the pieces of the witness. -/
def runA (c : Dev nD) (i : grid0.Coords) (arg1 : Memref sig .tc .smem S192x56 .f32) (harg1 : arg1.IsWhole) (arg2 : Memref sig .tc .vmem S256x7168 .bf16) (harg2 : arg2.IsWhole) (arg3 : Memref sig .tc .vmem S1x7168 .f32) (harg3 : arg3.IsWhole) (arg4 : Memref sig .tc .vmem S1024x7168 .fp8e4m3) (harg4 : arg4.IsWhole) (arg5 : Memref sig .tc .vmem S256x1024 .bf16) (harg5 : arg5.IsWhole) (arg6 : Memref sig .tc .vmem S256x7168 .fp8e4m3) (harg6 : arg6.IsWhole) (arg7 : Memref sig .tc .vmem S256x56 .f32) (harg7 : arg7.IsWhole) (arg8 : Memref sig .tc .vmem S256x7168 .bf16) (harg8 : arg8.IsWhole) (hc0 : cond0_0 i)
    (f1 : BufTy.Contents (Elt F) arg1.view.ty) (f2 : BufTy.Contents (Elt F) arg2.view.ty) (f3 : BufTy.Contents (Elt F) arg3.view.ty) (f4 : BufTy.Contents (Elt F) arg4.view.ty) (f8 : BufTy.Contents (Elt F) arg8.view.ty) :
      { L : List (View.Piece (Elt F) S256x1024 .bf16) // ∀ (E : Set ℕ) (f5 : BufTy.Contents (Elt F) arg5.view.ty) (f6 : BufTy.Contents (Elt F) arg6.view.ty) (f7 : BufTy.Contents (Elt F) arg7.view.ty),
        (iprop((arg1.view.loc (c : Thread nD τ) ↦[arg1.view.set]{fullShare} f1) ∗ (arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8)) : sProp 𝕄)
          ⊢ wp frame (wpE (defs₀ (F := F)) Variants.none c none) E (cc0_rmsnorm_fp8_linear i arg1 harg1 arg2 harg2 arg3 harg3 arg4 harg4 arg5 harg5 arg6 harg6 arg7 harg7 arg8 harg8)
            (fun _ => iprop((arg1.view.loc (c : Thread nD τ) ↦[arg1.view.set]{fullShare} f1) ∗ (arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} (arg5.view.writes (Elt F) f5 L)) ∗ (arg6.view.loc (c : Thread nD τ) ↦[arg6.view.set]{fullShare} (arg6.view.writes (Elt F) f6 (pb_k0_t1 (F := F) Variants.none c none i arg1 harg1 arg2 harg2 arg3 harg3 arg4 harg4 arg5 harg5 arg6 harg6 arg7 harg7 arg8 harg8 hc0 f2 f3 k0_t1_loop.trips).1)) ∗ (arg7.view.loc (c : Thread nD τ) ↦[arg7.view.set]{fullShare} (arg7.view.writes (Elt F) f7 (pb_k0_t1 (F := F) Variants.none c none i arg1 harg1 arg2 harg2 arg3 harg3 arg4 harg4 arg5 harg5 arg6 harg6 arg7 harg7 arg8 harg8 hc0 f2 f3 k0_t1_loop.trips).2.1)) ∗ (arg8.view.loc (c : Thread nD τ) ↦[arg8.view.set]{fullShare} (arg8.view.writes (Elt F) f8 (pb_k0_t1 (F := F) Variants.none c none i arg1 harg1 arg2 harg2 arg3 harg3 arg4 harg4 arg5 harg5 arg6 harg6 arg7 harg7 arg8 harg8 hc0 f2 f3 k0_t1_loop.trips).2.2)))) } := by
  refine ⟨?_, fun E f5 f6 f7 => ?run⟩
  case run =>
    simp only [cc0_rmsnorm_fp8_linear_eq_skeleton]; unfold cc0_rmsnorm_fp8_linear_skel
    simp only [k0_part181_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part182_eq_skeleton, k0_part133_eq_skeleton, k0_part134_eq_skeleton, k0_part135_eq_skeleton, k0_part136_eq_skeleton, k0_part137_eq_skeleton, k0_part138_eq_skeleton, k0_part139_eq_skeleton, k0_part140_eq_skeleton, k0_part141_eq_skeleton, k0_part142_eq_skeleton, k0_part143_eq_skeleton, k0_part144_eq_skeleton, k0_part145_eq_skeleton, k0_part146_eq_skeleton, k0_part147_eq_skeleton, k0_part148_eq_skeleton, k0_part149_eq_skeleton, k0_part150_eq_skeleton, k0_part151_eq_skeleton, k0_part152_eq_skeleton, k0_part153_eq_skeleton, k0_part154_eq_skeleton, k0_part155_eq_skeleton, k0_part156_eq_skeleton, k0_part157_eq_skeleton, k0_part158_eq_skeleton, k0_part159_eq_skeleton, k0_part160_eq_skeleton, k0_part161_eq_skeleton, k0_part162_eq_skeleton, k0_part163_eq_skeleton, k0_part164_eq_skeleton, k0_part165_eq_skeleton, k0_part166_eq_skeleton, k0_part167_eq_skeleton, k0_part168_eq_skeleton, k0_part169_eq_skeleton, k0_part170_eq_skeleton, k0_part171_eq_skeleton, k0_part172_eq_skeleton, k0_part173_eq_skeleton, k0_part174_eq_skeleton, k0_part175_eq_skeleton, k0_part176_eq_skeleton, k0_part177_eq_skeleton, k0_part178_eq_skeleton, k0_part179_eq_skeleton, k0_part180_eq_skeleton]
    iintro ⟨H1, H2, H3, H4, H5, H6, H7, H8⟩
    sl_exec (disch := first | sl_exact hc0)
    sl_step
    sl_close

end Cert.Kernel.Gen

end
-- ==== Proof.HwRunB.lean ====
/- The kernel body run at case B, its results named. -/
module

public import proofs.«01_k».proof.Proof.HwRuns

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 10112000 in
/-- The body at a point that skips the quantising loop, run: it writes the pieces of the witness into the block of `y`, and
    every other buffer stays. -/
def runB (c : Dev nD) (i : grid0.Coords) (arg1 : Memref sig .tc .smem S192x56 .f32) (harg1 : arg1.IsWhole) (arg2 : Memref sig .tc .vmem S256x7168 .bf16) (harg2 : arg2.IsWhole) (arg3 : Memref sig .tc .vmem S1x7168 .f32) (harg3 : arg3.IsWhole) (arg4 : Memref sig .tc .vmem S1024x7168 .fp8e4m3) (harg4 : arg4.IsWhole) (arg5 : Memref sig .tc .vmem S256x1024 .bf16) (harg5 : arg5.IsWhole) (arg6 : Memref sig .tc .vmem S256x7168 .fp8e4m3) (harg6 : arg6.IsWhole) (arg7 : Memref sig .tc .vmem S256x56 .f32) (harg7 : arg7.IsWhole) (arg8 : Memref sig .tc .vmem S256x7168 .bf16) (harg8 : arg8.IsWhole) (hc0 : ¬cond0_0 i)
    (f1 : BufTy.Contents (Elt F) arg1.view.ty) (f2 : BufTy.Contents (Elt F) arg2.view.ty) (f3 : BufTy.Contents (Elt F) arg3.view.ty) (f4 : BufTy.Contents (Elt F) arg4.view.ty) (f8 : BufTy.Contents (Elt F) arg8.view.ty) :
      { L : List (View.Piece (Elt F) S256x1024 .bf16) // ∀ (E : Set ℕ) (f5 : BufTy.Contents (Elt F) arg5.view.ty) (f6 : BufTy.Contents (Elt F) arg6.view.ty) (f7 : BufTy.Contents (Elt F) arg7.view.ty),
        (iprop((arg1.view.loc (c : Thread nD τ) ↦[arg1.view.set]{fullShare} f1) ∗ (arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8)) : sProp 𝕄)
          ⊢ wp frame (wpE (defs₀ (F := F)) Variants.none c none) E (cc0_rmsnorm_fp8_linear i arg1 harg1 arg2 harg2 arg3 harg3 arg4 harg4 arg5 harg5 arg6 harg6 arg7 harg7 arg8 harg8)
            (fun _ => iprop((arg1.view.loc (c : Thread nD τ) ↦[arg1.view.set]{fullShare} f1) ∗ (arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} (arg5.view.writes (Elt F) f5 L)) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8))) } := by
  refine ⟨?_, fun E f5 f6 f7 => ?run⟩
  case run =>
    simp only [cc0_rmsnorm_fp8_linear_eq_skeleton]; unfold cc0_rmsnorm_fp8_linear_skel
    simp only [k0_part181_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part182_eq_skeleton, k0_part133_eq_skeleton, k0_part134_eq_skeleton, k0_part135_eq_skeleton, k0_part136_eq_skeleton, k0_part137_eq_skeleton, k0_part138_eq_skeleton, k0_part139_eq_skeleton, k0_part140_eq_skeleton, k0_part141_eq_skeleton, k0_part142_eq_skeleton, k0_part143_eq_skeleton, k0_part144_eq_skeleton, k0_part145_eq_skeleton, k0_part146_eq_skeleton, k0_part147_eq_skeleton, k0_part148_eq_skeleton, k0_part149_eq_skeleton, k0_part150_eq_skeleton, k0_part151_eq_skeleton, k0_part152_eq_skeleton, k0_part153_eq_skeleton, k0_part154_eq_skeleton, k0_part155_eq_skeleton, k0_part156_eq_skeleton, k0_part157_eq_skeleton, k0_part158_eq_skeleton, k0_part159_eq_skeleton, k0_part160_eq_skeleton, k0_part161_eq_skeleton, k0_part162_eq_skeleton, k0_part163_eq_skeleton, k0_part164_eq_skeleton, k0_part165_eq_skeleton, k0_part166_eq_skeleton, k0_part167_eq_skeleton, k0_part168_eq_skeleton, k0_part169_eq_skeleton, k0_part170_eq_skeleton, k0_part171_eq_skeleton, k0_part172_eq_skeleton, k0_part173_eq_skeleton, k0_part174_eq_skeleton, k0_part175_eq_skeleton, k0_part176_eq_skeleton, k0_part177_eq_skeleton, k0_part178_eq_skeleton, k0_part179_eq_skeleton, k0_part180_eq_skeleton]
    iintro ⟨H1, H2, H3, H4, H5, H6, H7, H8⟩
    sl_exec (disch := first | sl_exact hc0)
    sl_step
    sl_close

end Cert.Kernel.Gen

end
-- ==== Proof.HwFrame.lean ====
/- The frame of the kernel as printed: the run ends, the arguments as they were, every counter at zero. The three results are
left unnamed here. -/
module

public import proofs.«01_k».proof.Proof.HwRunA
public import proofs.«01_k».proof.Proof.HwRunB
public import proofs.«01_k».proof.Proof.Gen.Kernel.Frame
public import Idealize.ShloMosaic.Lib.LaneScatter.Own
public import Idealize.ShloMosaic.Lib.Claim
public import Idealize.ShloMosaic.Lib.Pipeline.Value

@[expose] public section

set_option maxRecDepth 16384

noncomputable section

namespace Cert.Kernel.Hand

open Cert.Kernel Cert.Kernel.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.LaneScatter (owns_raw raw_owns)
open Idealize.ShloMosaic.Pipeline (Dat Cfg Window BodyObligation cellOf)

variable {F : FTy → Type} [FloatOps F]

local notation "𝕄" => MT nD τ sig Unit (Elt F) ℕ (UR sig nD τ) ℕ

theorem own_raw (c : Dev nD) {sp : Space} {sh : Shape} {e : EltTy} (M : Memref sig .tc sp sh e) (h : M.IsWhole) (x : sh.Idx → Elt F e) :
    (owns (c : Thread nD τ) M fullShare x : sProp 𝕄) ⊢ (M.view.loc (c : Thread nD τ) ↦[M.view.set]{fullShare} (h.unread x)) :=
  owns_raw (c : Thread nD τ) M h x

theorem raw_own (c : Dev nD) {sp : Space} {sh : Shape} {e : EltTy} (M : Memref sig .tc sp sh e) (f : M.view.ty.Contents (Elt F)) (x : sh.Idx → Elt F e)
    (hx : M.view.read (Elt F) f = x) :
    (M.view.loc (c : Thread nD τ) ↦[M.view.set]{fullShare} f : sProp 𝕄) ⊢ owns (c : Thread nD τ) M fullShare x :=
  raw_owns (c : Thread nD τ) M hx

theorem raw_ex (c : Dev nD) {sp : Space} {sh : Shape} {e : EltTy} (M : Memref sig .tc sp sh e) (f : M.view.ty.Contents (Elt F)) :
    (M.view.loc (c : Thread nD τ) ↦[M.view.set]{fullShare} f : sProp 𝕄) ⊢ iprop(∃ Z, owns (c : Thread nD τ) M fullShare Z) := by
  iintro H
  iexists M.view.read (Elt F) f
  iapply (raw_own c M f _ rfl)
  iexact H

/-- The body at any point keeps its four inputs; what it leaves in the other buffers is not named. -/
theorem owns_any (c : Dev nD) (i : grid0.Coords) (arg1 : Memref sig .tc .smem S192x56 .f32) (harg1 : arg1.IsWhole) (arg2 : Memref sig .tc .vmem S256x7168 .bf16) (harg2 : arg2.IsWhole) (arg3 : Memref sig .tc .vmem S1x7168 .f32) (harg3 : arg3.IsWhole) (arg4 : Memref sig .tc .vmem S1024x7168 .fp8e4m3) (harg4 : arg4.IsWhole) (arg5 : Memref sig .tc .vmem S256x1024 .bf16) (harg5 : arg5.IsWhole) (arg6 : Memref sig .tc .vmem S256x7168 .fp8e4m3) (harg6 : arg6.IsWhole) (arg7 : Memref sig .tc .vmem S256x56 .f32) (harg7 : arg7.IsWhole) (arg8 : Memref sig .tc .vmem S256x7168 .bf16) (harg8 : arg8.IsWhole)
    (WS : Vec F S192x56 .f32) (X : Vec F S256x7168 .bf16) (G : Vec F S1x7168 .f32) (W : Vec F S1024x7168 .fp8e4m3) (D5 : Vec F S256x1024 .bf16) (D6 : Vec F S256x7168 .fp8e4m3) (D7 : Vec F S256x56 .f32) (D8 : Vec F S256x7168 .bf16) (E : Set ℕ) :
    (iprop(owns (c : Thread nD τ) arg1 fullShare WS ∗ owns (c : Thread nD τ) arg2 fullShare X ∗ owns (c : Thread nD τ) arg3 fullShare G ∗ owns (c : Thread nD τ) arg4 fullShare W ∗ owns (c : Thread nD τ) arg5 fullShare D5 ∗ owns (c : Thread nD τ) arg6 fullShare D6 ∗ owns (c : Thread nD τ) arg7 fullShare D7 ∗ owns (c : Thread nD τ) arg8 fullShare D8) : sProp 𝕄)
      ⊢ wp frame (wpE (defs₀ (F := F)) Variants.none c none) E (cc0_rmsnorm_fp8_linear (F := F) i arg1 harg1 arg2 harg2 arg3 harg3 arg4 harg4 arg5 harg5 arg6 harg6 arg7 harg7 arg8 harg8)
        (fun _ => iprop(owns (c : Thread nD τ) arg1 fullShare WS ∗ owns (c : Thread nD τ) arg2 fullShare X ∗ owns (c : Thread nD τ) arg3 fullShare G ∗ owns (c : Thread nD τ) arg4 fullShare W ∗ (∃ Z, owns (c : Thread nD τ) arg5 fullShare Z) ∗ (∃ Z, owns (c : Thread nD τ) arg6 fullShare Z) ∗ (∃ Z, owns (c : Thread nD τ) arg7 fullShare Z) ∗ (∃ Z, owns (c : Thread nD τ) arg8 fullShare Z))) := by
  by_cases hc0 : cond0_0 i
  · have h := (runA (F := F) c i arg1 harg1 arg2 harg2 arg3 harg3 arg4 harg4 arg5 harg5 arg6 harg6 arg7 harg7 arg8 harg8 hc0 (harg1.unread WS) (harg2.unread X) (harg3.unread G) (harg4.unread W) (harg8.unread D8)).2 E (harg5.unread D5) (harg6.unread D6) (harg7.unread D7)
    refine BIBase.Entails.trans ?_ (BIBase.Entails.trans h (wp_mono _ _ _ fun _ => ?_))
    · exact BIClass.sep_mono (own_raw c arg1 harg1 WS) (BIClass.sep_mono (own_raw c arg2 harg2 X) (BIClass.sep_mono (own_raw c arg3 harg3 G) (BIClass.sep_mono (own_raw c arg4 harg4 W) (BIClass.sep_mono (own_raw c arg5 harg5 D5) (BIClass.sep_mono (own_raw c arg6 harg6 D6) (BIClass.sep_mono (own_raw c arg7 harg7 D7) (own_raw c arg8 harg8 D8)))))))
    · exact BIClass.sep_mono (raw_own c arg1 _ _ (harg1.read_unread _)) (BIClass.sep_mono (raw_own c arg2 _ _ (harg2.read_unread _)) (BIClass.sep_mono (raw_own c arg3 _ _ (harg3.read_unread _)) (BIClass.sep_mono (raw_own c arg4 _ _ (harg4.read_unread _)) (BIClass.sep_mono (raw_ex c arg5 _) (BIClass.sep_mono (raw_ex c arg6 _) (BIClass.sep_mono (raw_ex c arg7 _) (raw_ex c arg8 _)))))))
  · have h := (runB (F := F) c i arg1 harg1 arg2 harg2 arg3 harg3 arg4 harg4 arg5 harg5 arg6 harg6 arg7 harg7 arg8 harg8 hc0 (harg1.unread WS) (harg2.unread X) (harg3.unread G) (harg4.unread W) (harg8.unread D8)).2 E (harg5.unread D5) (harg6.unread D6) (harg7.unread D7)
    refine BIBase.Entails.trans ?_ (BIBase.Entails.trans h (wp_mono _ _ _ fun _ => ?_))
    · exact BIClass.sep_mono (own_raw c arg1 harg1 WS) (BIClass.sep_mono (own_raw c arg2 harg2 X) (BIClass.sep_mono (own_raw c arg3 harg3 G) (BIClass.sep_mono (own_raw c arg4 harg4 W) (BIClass.sep_mono (own_raw c arg5 harg5 D5) (BIClass.sep_mono (own_raw c arg6 harg6 D6) (BIClass.sep_mono (own_raw c arg7 harg7 D7) (own_raw c arg8 harg8 D8)))))))
    · exact BIClass.sep_mono (raw_own c arg1 _ _ (harg1.read_unread _)) (BIClass.sep_mono (raw_own c arg2 _ _ (harg2.read_unread _)) (BIClass.sep_mono (raw_own c arg3 _ _ (harg3.read_unread _)) (BIClass.sep_mono (raw_own c arg4 _ _ (harg4.read_unread _)) (BIClass.sep_mono (raw_ex c arg5 _) (BIClass.sep_mono (raw_ex c arg6 _) (BIClass.sep_mono (raw_ex c arg7 _) (raw_ex c arg8 _)))))))

variable (m : (ℓ : Loc nD τ sig) → Buf (Elt F) ℓ) (ρ : Dev nD → PrngReg)

/-- The three outputs are not named. -/
def fgt0 (w : Fin 7) : Bool := match w with
  | ⟨0, _⟩ => false
  | ⟨1, _⟩ => false
  | ⟨2, _⟩ => false
  | ⟨3, _⟩ => false
  | ⟨4, _⟩ => true
  | ⟨5, _⟩ => true
  | ⟨6, _⟩ => true

/-- The arrays as the region finds them; after each point the inputs' buffers at their blocks. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => Pipeline.Dat.unnamed (cfg := cfg0) 4 t
    | ⟨5, _⟩ => Pipeline.Dat.unnamed (cfg := cfg0) 5 t
    | ⟨6, _⟩ => Pipeline.Dat.unnamed (cfg := cfg0) 6 t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ Z, owns (c : Thread nD τ) (ms0_4 t) fullShare Z)
    ∗ (∃ Z, owns (c : Thread nD τ) (ms0_5 t) fullShare Z)
    ∗ (∃ Z, owns (c : Thread nD τ) (ms0_6 t) fullShare Z))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (∃ Z, owns (c : Thread nD τ) (ms0_4 t) fullShare Z)
    ∗ (∃ Z, owns (c : Thread nD τ) (ms0_5 t) fullShare Z)
    ∗ (∃ Z, owns (c : Thread nD τ) (ms0_6 t) fullShare Z))

set_option maxHeartbeats 1600000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl]
  rw [show (dats m 0 c).Φ t.succ = Pipeline.ΦA spec0 c from rfl, show (dats m 0 c).Φ t.castSucc = Pipeline.ΦA spec0 c from rfl, PhiA0_eq]
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  iintro ⟨⟨⟨%ds, HS⟩, Hg⟩, Ho, ⟨%d0, H0⟩, ⟨%d1, H1⟩, ⟨%d2, H2⟩, ⟨%d3, H3⟩, ⟨%d4, H4⟩, ⟨%d5, H5⟩, ⟨%d6, H6⟩⟩
  iapply (wp_wand_r frame _ _)
  isplitl [H0 H1 H2 H3 H4 H5 H6 HS]
  · iapply (owns_any c (grid0.coords t) _ _ _ _ _ _ _ _ _ _ _ _ _ _ _ _ (iblk m c 0 t) (iblk m c 1 t) (iblk m c 2 t) (iblk m c 3 t) _ _ _ _ Set.univ)
    isplitl [H0]; · iexact H0
    isplitl [H1]; · iexact H1
    isplitl [H2]; · iexact H2
    isplitl [H3]; · iexact H3
    isplitl [H4]; · iexact H4
    isplitl [H5]; · iexact H5
    isplitl [H6]; · iexact H6
    iexact HS
  iintro %_ ⟨H0, H1, H2, H3, H4, H5, H6, HS⟩
  isplitl [HS Hg]
  · isplitl [HS]
    · iexact HS
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats m 0 c) (defs₀ (F := F)) Variants.none () Set.univ fgt0 := fun t => by
  rw [bigSep_W0, bigSep_W0, defs₀_row]
  exact triple_restated (sound_body m c t) rfl .rfl fun _ => .rfl

-- the launch's implicit arguments are found by unfolding plain definitions
set_option backward.isDefEq.respectTransparency.types false in
theorem run_main : θ_run defs (onTc (τ := τ) (main (F := F))) (s₀ m ρ)
    (fun r => Pipeline.RDat.FramePost (cfgs 0) (fun c => (dats m 0 c).toRForget fgt0) (V m) r ∧ r.2.sem = fun _ => 0) :=
  Pipeline.θ_run_frame_forget (Q' := _) cfgs (dats m) (0 : Fin 1) launch0 defs₀ Variants.none fgt0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem kept_in (w : Fin cfg0.W) (hin : (cfg0.win w).isOut = false) {r : PUnit × MemSt nD τ sig (Elt F)}
    (h : Pipeline.RDat.FramePost (cfgs 0) (fun c => (dats m 0 c).toRForget fgt0) (V m) r) (c : Dev nD) :
    r.2.mem ((cfg0.spec w).arr.view.loc (c.tc : Thread nD τ)) = V m c (Pipeline.arrRef spec0 w) := by
  have h1 := (h c).1 w
  rw [((dats m 0 c).toRForget fgt0).ArrAt_in w hin] at h1
  exact h1.trans (A_eq m c w)

/-- The frame: the run ends, the arguments as they were, every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c =>
      ⟨((h.1 c).2 main_arg0 (Pipeline.mem_restRefs_of main_arg0 (by decide) (by decide))).trans (V_main_arg0 m c),
       ((h.1 c).2 main_arg1 (Pipeline.mem_restRefs_of main_arg1 (by decide) (by decide))).trans (V_main_arg1 m c),
       (kept_in m 3 rfl h.1 c).trans (V_main_arg2 m c),
       (kept_in m 0 rfl h.1 c).trans (V_main_arg3 m c)⟩, h.2⟩) (run_main m ρ)

end Cert.Kernel.Hand

end
-- ==== Proof.BlockTerms.lean ====
/- The block of `y` that one grid point computes, as 28 accumulation steps over the reads of its operands. -/
module

public import proofs.«01_k».proof.Proof.Gen.KernelIdeal.Skeleton

@[expose] public section

set_option maxRecDepth 16384

noncomputable section

namespace Cert.KernelIdeal.Hand

open Cert.KernelIdeal Cert.KernelIdeal.Gen Idealize.ShloMosaic Idealize.ShloMosaic.TcCoe

variable {F : FTy → Type} [FloatOps F]

/-- One 128 × 128 block of the weights, dequantised by its scale. -/
def blk (s : Elt F .f32) (w : Vec F S128x128 .fp8e4m3) : FVec F S128x128 .bf16 :=
  mulf (extf .bf16 w bitsLt_fp8e4m3_bf16) (truncf .bf16 (broadcast S128x128 s) bitsLt_bf16_f32)

/-- Eight blocks one below the other: 128 columns of the weights of a grid point. -/
def half (s : Fin 8 → Elt F .f32) (w : Fin 8 → Vec F S128x128 .fp8e4m3) : FVec F S1024x128 .bf16 :=
  concatenate S1024x128 0 [⟨S128x128, blk (s 0) (w 0)⟩, ⟨S128x128, blk (s 1) (w 1)⟩, ⟨S128x128, blk (s 2) (w 2)⟩, ⟨S128x128, blk (s 3) (w 3)⟩, ⟨S128x128, blk (s 4) (w 4)⟩, ⟨S128x128, blk (s 5) (w 5)⟩, ⟨S128x128, blk (s 6) (w 6)⟩, ⟨S128x128, blk (s 7) (w 7)⟩] concatenates_S128x128_S128x128_S128x128_S128x128_S128x128_S128x128_S128x128_S128x128_S1024x128_d0

/-- One accumulation step: 256 columns of the weights against 256 columns of the dequantised input. -/
def step (acc : FVec F S1024x256 .f32) (s0 : Fin 8 → Elt F .f32) (w0 : Fin 8 → Vec F S128x128 .fp8e4m3) (s1 : Fin 8 → Elt F .f32)
    (w1 : Fin 8 → Vec F S128x128 .fp8e4m3) (x : Vec F S256x256 .bf16) : FVec F S1024x256 .f32 :=
  addf acc (matmul dot_S1024x256_S256x256_S1024x256_1_1_0_0_n_n none
    (concatenate S1024x256 1 [⟨S1024x128, half s0 w0⟩, ⟨S1024x128, half s1 w1⟩] concatenates_S1024x128_S1024x128_S1024x256_d1)
    x (constant S1024x256 .f32 0x00000000#32))

theorem wR_inb (g : Fin 56) (b : Fin 8) : ∀ a, (![128 * b.val, 128 * g.val] : Fin 2 → ℕ) a + S128x128.size a ≤ S1024x7168.size a := by
  intro a; have := g.isLt; have := b.isLt
  match a with
  | ⟨0, _⟩ => show 128 * b.val + 128 ≤ 1024; omega
  | ⟨1, _⟩ => show 128 * g.val + 128 ≤ 7168; omega

theorem xR_inb (k : Fin 28) : ∀ a, (![0, 256 * k.val] : Fin 2 → ℕ) a + S256x256.size a ≤ S256x7168.size a := by
  intro a; have := k.isLt
  match a with
  | ⟨0, _⟩ => show 0 + 256 ≤ 256; omega
  | ⟨1, _⟩ => show 256 * k.val + 256 ≤ 7168; omega

/-- The weights' block at block row `b` and block column `g`, as the body reads it. -/
def wR (arg4 : Memref sig .tc .vmem S1024x7168 .fp8e4m3) (f4 : BufTy.Contents (Elt F) arg4.view.ty) (g : Fin 56) (b : Fin 8) : Vec F S128x128 .fp8e4m3 :=
  View.readAt (Elt F) arg4.view (Rect.unit (s := S1024x7168) ![128 * b.val, 128 * g.val] S128x128.size (wR_inb g b)).toLoadRect f4

/-- The columns of the dequantised input that step `k` reads. -/
def xR (arg8 : Memref sig .tc .vmem S256x7168 .bf16) (f8 : BufTy.Contents (Elt F) arg8.view.ty) (k : Fin 28) : Vec F S256x256 .bf16 :=
  View.readAt (Elt F) arg8.view (Rect.unit (s := S256x7168) ![0, 256 * k.val] S256x256.size (xR_inb k)).toLoadRect f8

/-- The weights' scale read through any offsets. -/
def sAt (arg1 : Memref sig .tc .smem S192x56 .f32) (f1 : BufTy.Contents (Elt F) arg1.view.ty) (off : Fin 2 → ℕ)
    (h : ∀ a, off a + S1x1.size a ≤ S192x56.size a) : Elt F .f32 :=
  View.readAt (Elt F) arg1.view (Rect.unit (s := S192x56) off S1x1.size h).toLoadRect f1 (Shape.Idx.first (show 0 < S1x1.numel by rw [numel1_S1x1]; exact Nat.one_pos))

section
variable (i : grid0.Coords) (arg1 : Memref sig .tc .smem S192x56 .f32) (arg4 : Memref sig .tc .vmem S1024x7168 .fp8e4m3) (arg8 : Memref sig .tc .vmem S256x7168 .bf16) (f1 : BufTy.Contents (Elt F) arg1.view.ty) (f4 : BufTy.Contents (Elt F) arg4.view.ty) (f8 : BufTy.Contents (Elt F) arg8.view.ty)

/-- The accumulator before the first step. -/
def acc0 : FVec F S1024x256 .f32 := broadcast S1024x256 (Scalar.ofBits .f32 0x00000000#32)
/-- The accumulator after step 0. -/
def acc1 : FVec F S1024x256 .f32 := step acc0 (fun b => sAt arg1 f1 (k0_off59 i (BitVec.ofNat 32 b.val)) (k0_off59_inb i b)) (wR arg4 f4 0) (fun b => sAt arg1 f1 (k0_off60 i (BitVec.ofNat 32 b.val)) (k0_off60_inb i b)) (wR arg4 f4 1) (xR arg8 f8 0)
/-- The accumulator after step 1. -/
def acc2 : FVec F S1024x256 .f32 := step (acc1 i arg1 arg4 arg8 f1 f4 f8) (fun b => sAt arg1 f1 (k0_off61 i (BitVec.ofNat 32 b.val)) (k0_off61_inb i b)) (wR arg4 f4 2) (fun b => sAt arg1 f1 (k0_off62 i (BitVec.ofNat 32 b.val)) (k0_off62_inb i b)) (wR arg4 f4 3) (xR arg8 f8 1)
/-- The accumulator after step 2. -/
def acc3 : FVec F S1024x256 .f32 := step (acc2 i arg1 arg4 arg8 f1 f4 f8) (fun b => sAt arg1 f1 (k0_off63 i (BitVec.ofNat 32 b.val)) (k0_off63_inb i b)) (wR arg4 f4 4) (fun b => sAt arg1 f1 (k0_off64 i (BitVec.ofNat 32 b.val)) (k0_off64_inb i b)) (wR arg4 f4 5) (xR arg8 f8 2)
/-- The accumulator after step 3. -/
def acc4 : FVec F S1024x256 .f32 := step (acc3 i arg1 arg4 arg8 f1 f4 f8) (fun b => sAt arg1 f1 (k0_off65 i (BitVec.ofNat 32 b.val)) (k0_off65_inb i b)) (wR arg4 f4 6) (fun b => sAt arg1 f1 (k0_off66 i (BitVec.ofNat 32 b.val)) (k0_off66_inb i b)) (wR arg4 f4 7) (xR arg8 f8 3)
/-- The accumulator after step 4. -/
def acc5 : FVec F S1024x256 .f32 := step (acc4 i arg1 arg4 arg8 f1 f4 f8) (fun b => sAt arg1 f1 (k0_off67 i (BitVec.ofNat 32 b.val)) (k0_off67_inb i b)) (wR arg4 f4 8) (fun b => sAt arg1 f1 (k0_off68 i (BitVec.ofNat 32 b.val)) (k0_off68_inb i b)) (wR arg4 f4 9) (xR arg8 f8 4)
/-- The accumulator after step 5. -/
def acc6 : FVec F S1024x256 .f32 := step (acc5 i arg1 arg4 arg8 f1 f4 f8) (fun b => sAt arg1 f1 (k0_off69 i (BitVec.ofNat 32 b.val)) (k0_off69_inb i b)) (wR arg4 f4 10) (fun b => sAt arg1 f1 (k0_off70 i (BitVec.ofNat 32 b.val)) (k0_off70_inb i b)) (wR arg4 f4 11) (xR arg8 f8 5)
/-- The accumulator after step 6. -/
def acc7 : FVec F S1024x256 .f32 := step (acc6 i arg1 arg4 arg8 f1 f4 f8) (fun b => sAt arg1 f1 (k0_off71 i (BitVec.ofNat 32 b.val)) (k0_off71_inb i b)) (wR arg4 f4 12) (fun b => sAt arg1 f1 (k0_off72 i (BitVec.ofNat 32 b.val)) (k0_off72_inb i b)) (wR arg4 f4 13) (xR arg8 f8 6)
/-- The accumulator after step 7. -/
def acc8 : FVec F S1024x256 .f32 := step (acc7 i arg1 arg4 arg8 f1 f4 f8) (fun b => sAt arg1 f1 (k0_off73 i (BitVec.ofNat 32 b.val)) (k0_off73_inb i b)) (wR arg4 f4 14) (fun b => sAt arg1 f1 (k0_off74 i (BitVec.ofNat 32 b.val)) (k0_off74_inb i b)) (wR arg4 f4 15) (xR arg8 f8 7)
/-- The accumulator after step 8. -/
def acc9 : FVec F S1024x256 .f32 := step (acc8 i arg1 arg4 arg8 f1 f4 f8) (fun b => sAt arg1 f1 (k0_off75 i (BitVec.ofNat 32 b.val)) (k0_off75_inb i b)) (wR arg4 f4 16) (fun b => sAt arg1 f1 (k0_off76 i (BitVec.ofNat 32 b.val)) (k0_off76_inb i b)) (wR arg4 f4 17) (xR arg8 f8 8)
/-- The accumulator after step 9. -/
def acc10 : FVec F S1024x256 .f32 := step (acc9 i arg1 arg4 arg8 f1 f4 f8) (fun b => sAt arg1 f1 (k0_off77 i (BitVec.ofNat 32 b.val)) (k0_off77_inb i b)) (wR arg4 f4 18) (fun b => sAt arg1 f1 (k0_off78 i (BitVec.ofNat 32 b.val)) (k0_off78_inb i b)) (wR arg4 f4 19) (xR arg8 f8 9)
/-- The accumulator after step 10. -/
def acc11 : FVec F S1024x256 .f32 := step (acc10 i arg1 arg4 arg8 f1 f4 f8) (fun b => sAt arg1 f1 (k0_off79 i (BitVec.ofNat 32 b.val)) (k0_off79_inb i b)) (wR arg4 f4 20) (fun b => sAt arg1 f1 (k0_off80 i (BitVec.ofNat 32 b.val)) (k0_off80_inb i b)) (wR arg4 f4 21) (xR arg8 f8 10)
/-- The accumulator after step 11. -/
def acc12 : FVec F S1024x256 .f32 := step (acc11 i arg1 arg4 arg8 f1 f4 f8) (fun b => sAt arg1 f1 (k0_off81 i (BitVec.ofNat 32 b.val)) (k0_off81_inb i b)) (wR arg4 f4 22) (fun b => sAt arg1 f1 (k0_off82 i (BitVec.ofNat 32 b.val)) (k0_off82_inb i b)) (wR arg4 f4 23) (xR arg8 f8 11)
/-- The accumulator after step 12. -/
def acc13 : FVec F S1024x256 .f32 := step (acc12 i arg1 arg4 arg8 f1 f4 f8) (fun b => sAt arg1 f1 (k0_off83 i (BitVec.ofNat 32 b.val)) (k0_off83_inb i b)) (wR arg4 f4 24) (fun b => sAt arg1 f1 (k0_off84 i (BitVec.ofNat 32 b.val)) (k0_off84_inb i b)) (wR arg4 f4 25) (xR arg8 f8 12)
/-- The accumulator after step 13. -/
def acc14 : FVec F S1024x256 .f32 := step (acc13 i arg1 arg4 arg8 f1 f4 f8) (fun b => sAt arg1 f1 (k0_off85 i (BitVec.ofNat 32 b.val)) (k0_off85_inb i b)) (wR arg4 f4 26) (fun b => sAt arg1 f1 (k0_off86 i (BitVec.ofNat 32 b.val)) (k0_off86_inb i b)) (wR arg4 f4 27) (xR arg8 f8 13)
/-- The accumulator after step 14. -/
def acc15 : FVec F S1024x256 .f32 := step (acc14 i arg1 arg4 arg8 f1 f4 f8) (fun b => sAt arg1 f1 (k0_off87 i (BitVec.ofNat 32 b.val)) (k0_off87_inb i b)) (wR arg4 f4 28) (fun b => sAt arg1 f1 (k0_off88 i (BitVec.ofNat 32 b.val)) (k0_off88_inb i b)) (wR arg4 f4 29) (xR arg8 f8 14)
/-- The accumulator after step 15. -/
def acc16 : FVec F S1024x256 .f32 := step (acc15 i arg1 arg4 arg8 f1 f4 f8) (fun b => sAt arg1 f1 (k0_off89 i (BitVec.ofNat 32 b.val)) (k0_off89_inb i b)) (wR arg4 f4 30) (fun b => sAt arg1 f1 (k0_off90 i (BitVec.ofNat 32 b.val)) (k0_off90_inb i b)) (wR arg4 f4 31) (xR arg8 f8 15)
/-- The accumulator after step 16. -/
def acc17 : FVec F S1024x256 .f32 := step (acc16 i arg1 arg4 arg8 f1 f4 f8) (fun b => sAt arg1 f1 (k0_off91 i (BitVec.ofNat 32 b.val)) (k0_off91_inb i b)) (wR arg4 f4 32) (fun b => sAt arg1 f1 (k0_off92 i (BitVec.ofNat 32 b.val)) (k0_off92_inb i b)) (wR arg4 f4 33) (xR arg8 f8 16)
/-- The accumulator after step 17. -/
def acc18 : FVec F S1024x256 .f32 := step (acc17 i arg1 arg4 arg8 f1 f4 f8) (fun b => sAt arg1 f1 (k0_off93 i (BitVec.ofNat 32 b.val)) (k0_off93_inb i b)) (wR arg4 f4 34) (fun b => sAt arg1 f1 (k0_off94 i (BitVec.ofNat 32 b.val)) (k0_off94_inb i b)) (wR arg4 f4 35) (xR arg8 f8 17)
/-- The accumulator after step 18. -/
def acc19 : FVec F S1024x256 .f32 := step (acc18 i arg1 arg4 arg8 f1 f4 f8) (fun b => sAt arg1 f1 (k0_off95 i (BitVec.ofNat 32 b.val)) (k0_off95_inb i b)) (wR arg4 f4 36) (fun b => sAt arg1 f1 (k0_off96 i (BitVec.ofNat 32 b.val)) (k0_off96_inb i b)) (wR arg4 f4 37) (xR arg8 f8 18)
/-- The accumulator after step 19. -/
def acc20 : FVec F S1024x256 .f32 := step (acc19 i arg1 arg4 arg8 f1 f4 f8) (fun b => sAt arg1 f1 (k0_off97 i (BitVec.ofNat 32 b.val)) (k0_off97_inb i b)) (wR arg4 f4 38) (fun b => sAt arg1 f1 (k0_off98 i (BitVec.ofNat 32 b.val)) (k0_off98_inb i b)) (wR arg4 f4 39) (xR arg8 f8 19)
/-- The accumulator after step 20. -/
def acc21 : FVec F S1024x256 .f32 := step (acc20 i arg1 arg4 arg8 f1 f4 f8) (fun b => sAt arg1 f1 (k0_off99 i (BitVec.ofNat 32 b.val)) (k0_off99_inb i b)) (wR arg4 f4 40) (fun b => sAt arg1 f1 (k0_off100 i (BitVec.ofNat 32 b.val)) (k0_off100_inb i b)) (wR arg4 f4 41) (xR arg8 f8 20)
/-- The accumulator after step 21. -/
def acc22 : FVec F S1024x256 .f32 := step (acc21 i arg1 arg4 arg8 f1 f4 f8) (fun b => sAt arg1 f1 (k0_off101 i (BitVec.ofNat 32 b.val)) (k0_off101_inb i b)) (wR arg4 f4 42) (fun b => sAt arg1 f1 (k0_off102 i (BitVec.ofNat 32 b.val)) (k0_off102_inb i b)) (wR arg4 f4 43) (xR arg8 f8 21)
/-- The accumulator after step 22. -/
def acc23 : FVec F S1024x256 .f32 := step (acc22 i arg1 arg4 arg8 f1 f4 f8) (fun b => sAt arg1 f1 (k0_off103 i (BitVec.ofNat 32 b.val)) (k0_off103_inb i b)) (wR arg4 f4 44) (fun b => sAt arg1 f1 (k0_off104 i (BitVec.ofNat 32 b.val)) (k0_off104_inb i b)) (wR arg4 f4 45) (xR arg8 f8 22)
/-- The accumulator after step 23. -/
def acc24 : FVec F S1024x256 .f32 := step (acc23 i arg1 arg4 arg8 f1 f4 f8) (fun b => sAt arg1 f1 (k0_off105 i (BitVec.ofNat 32 b.val)) (k0_off105_inb i b)) (wR arg4 f4 46) (fun b => sAt arg1 f1 (k0_off106 i (BitVec.ofNat 32 b.val)) (k0_off106_inb i b)) (wR arg4 f4 47) (xR arg8 f8 23)
/-- The accumulator after step 24. -/
def acc25 : FVec F S1024x256 .f32 := step (acc24 i arg1 arg4 arg8 f1 f4 f8) (fun b => sAt arg1 f1 (k0_off107 i (BitVec.ofNat 32 b.val)) (k0_off107_inb i b)) (wR arg4 f4 48) (fun b => sAt arg1 f1 (k0_off108 i (BitVec.ofNat 32 b.val)) (k0_off108_inb i b)) (wR arg4 f4 49) (xR arg8 f8 24)
/-- The accumulator after step 25. -/
def acc26 : FVec F S1024x256 .f32 := step (acc25 i arg1 arg4 arg8 f1 f4 f8) (fun b => sAt arg1 f1 (k0_off109 i (BitVec.ofNat 32 b.val)) (k0_off109_inb i b)) (wR arg4 f4 50) (fun b => sAt arg1 f1 (k0_off110 i (BitVec.ofNat 32 b.val)) (k0_off110_inb i b)) (wR arg4 f4 51) (xR arg8 f8 25)
/-- The accumulator after step 26. -/
def acc27 : FVec F S1024x256 .f32 := step (acc26 i arg1 arg4 arg8 f1 f4 f8) (fun b => sAt arg1 f1 (k0_off111 i (BitVec.ofNat 32 b.val)) (k0_off111_inb i b)) (wR arg4 f4 52) (fun b => sAt arg1 f1 (k0_off112 i (BitVec.ofNat 32 b.val)) (k0_off112_inb i b)) (wR arg4 f4 53) (xR arg8 f8 26)
/-- The accumulator after step 27. -/
def acc28 : FVec F S1024x256 .f32 := step (acc27 i arg1 arg4 arg8 f1 f4 f8) (fun b => sAt arg1 f1 (k0_off113 i (BitVec.ofNat 32 b.val)) (k0_off113_inb i b)) (wR arg4 f4 54) (fun b => sAt arg1 f1 (k0_off114 i (BitVec.ofNat 32 b.val)) (k0_off114_inb i b)) (wR arg4 f4 55) (xR arg8 f8 27)

/-- The block of `y`. -/
def yBlk : FVec F S256x1024 .bf16 :=
  transpose S256x1024 [1, 0] (truncf .bf16 (acc28 i arg1 arg4 arg8 f1 f4 f8) bitsLt_bf16_f32) transposes_S1024x256_p1_0_S256x1024

end

end Cert.KernelIdeal.Hand

end
-- ==== Proof.Runs.lean ====
/- The kernel body's branch condition, its staging memrefs and its invariant, at the ideal program. -/
module

public import proofs.«01_k».proof.Proof.Gen.KernelIdeal.Launch
public import proofs.«01_k».proof.Proof.Gen.KernelIdeal.Skeleton
public import proofs.«01_k».proof.Proof.Gen.KernelIdeal.Loops
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The body's branch conditions -/

/-- The condition of the body's `scf.if` 0 (`k0_h1`), from the grid coordinates (the skeleton's scalar
    chain substituted). -/
abbrev cond0_0 (i : grid0.Coords) : Prop := k0_cond1 i = 1#1
/-- It holds at the first point only — by arithmetic of the point. -/
theorem hcond0_0 : ∀ t : Fin cfg0.N, cond0_0 (grid0.coords t) ↔ t.val % 24 = 0 :=
  (fun t => by
    have ht : t.val < 24 := Nat.lt_of_lt_of_eq t.isLt N_0
    have e0 : (grid0.coords t 0).val = t.val / 1 % 24 := Pipeline.Grid.coords_val t 0 (by decide) rfl
    simp only [cond0_0, k0_cond1, e0]
    word_cmp
   : ∀ t : Fin grid0.N, cond0_0 (grid0.coords t) ↔ t.val % 24 = 0)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .smem S192x56 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S256x7168 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x7168 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1024x7168 .fp8e4m3 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S256x1024 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S256x7168 .fp8e4m3 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S256x56 .f32 := win0_6.stage (cfg0.slots t 6)
abbrev hs0_6 (t : Fin cfg0.N) : (ms0_6 t).IsWhole := hstage0_6 ((cfg0.slots t 6).cast nbuf0_6)
/-- The scratch operands: whole scoped buffers of the kernel's own, passed beside the windows. -/
abbrev scM0_0 : Memref sig .tc .vmem S256x7168 .bf16 := Memref.whole cc0_scratch0

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.KernelIdeal.Gen

end
-- ==== Proof.RunA.lean ====
/- The kernel body run at case A, its results named. -/
module

public import proofs.«01_k».proof.Proof.Runs

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 10112000 in
/-- The body at the point that runs the quantising loop: the codes, the scales and the scratch end at what the loop's
    trips write, and the block of `y` at the pieces of the witness. -/
def runA (c : Dev nD) (i : grid0.Coords) (arg1 : Memref sig .tc .smem S192x56 .f32) (harg1 : arg1.IsWhole) (arg2 : Memref sig .tc .vmem S256x7168 .bf16) (harg2 : arg2.IsWhole) (arg3 : Memref sig .tc .vmem S1x7168 .f32) (harg3 : arg3.IsWhole) (arg4 : Memref sig .tc .vmem S1024x7168 .fp8e4m3) (harg4 : arg4.IsWhole) (arg5 : Memref sig .tc .vmem S256x1024 .bf16) (harg5 : arg5.IsWhole) (arg6 : Memref sig .tc .vmem S256x7168 .fp8e4m3) (harg6 : arg6.IsWhole) (arg7 : Memref sig .tc .vmem S256x56 .f32) (harg7 : arg7.IsWhole) (arg8 : Memref sig .tc .vmem S256x7168 .bf16) (harg8 : arg8.IsWhole) (hc0 : cond0_0 i)
    (f1 : BufTy.Contents (Elt F) arg1.view.ty) (f2 : BufTy.Contents (Elt F) arg2.view.ty) (f3 : BufTy.Contents (Elt F) arg3.view.ty) (f4 : BufTy.Contents (Elt F) arg4.view.ty) (f8 : BufTy.Contents (Elt F) arg8.view.ty) :
      { L : List (View.Piece (Elt F) S256x1024 .bf16) // ∀ (E : Set ℕ) (f5 : BufTy.Contents (Elt F) arg5.view.ty) (f6 : BufTy.Contents (Elt F) arg6.view.ty) (f7 : BufTy.Contents (Elt F) arg7.view.ty),
        (iprop((arg1.view.loc (c : Thread nD τ) ↦[arg1.view.set]{fullShare} f1) ∗ (arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8)) : sProp 𝕄)
          ⊢ wp frame (wpE (defs₀ (F := F)) Variants.none c none) E (cc0_rmsnorm_fp8_linear i arg1 harg1 arg2 harg2 arg3 harg3 arg4 harg4 arg5 harg5 arg6 harg6 arg7 harg7 arg8 harg8)
            (fun _ => iprop((arg1.view.loc (c : Thread nD τ) ↦[arg1.view.set]{fullShare} f1) ∗ (arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} (arg5.view.writes (Elt F) f5 L)) ∗ (arg6.view.loc (c : Thread nD τ) ↦[arg6.view.set]{fullShare} (arg6.view.writes (Elt F) f6 (pb_k0_t1 (F := F) Variants.none c none i arg1 harg1 arg2 harg2 arg3 harg3 arg4 harg4 arg5 harg5 arg6 harg6 arg7 harg7 arg8 harg8 hc0 f2 f3 k0_t1_loop.trips).1)) ∗ (arg7.view.loc (c : Thread nD τ) ↦[arg7.view.set]{fullShare} (arg7.view.writes (Elt F) f7 (pb_k0_t1 (F := F) Variants.none c none i arg1 harg1 arg2 harg2 arg3 harg3 arg4 harg4 arg5 harg5 arg6 harg6 arg7 harg7 arg8 harg8 hc0 f2 f3 k0_t1_loop.trips).2.1)) ∗ (arg8.view.loc (c : Thread nD τ) ↦[arg8.view.set]{fullShare} (arg8.view.writes (Elt F) f8 (pb_k0_t1 (F := F) Variants.none c none i arg1 harg1 arg2 harg2 arg3 harg3 arg4 harg4 arg5 harg5 arg6 harg6 arg7 harg7 arg8 harg8 hc0 f2 f3 k0_t1_loop.trips).2.2)))) } := by
  refine ⟨?_, fun E f5 f6 f7 => ?run⟩
  case run =>
    simp only [cc0_rmsnorm_fp8_linear_eq_skeleton]; unfold cc0_rmsnorm_fp8_linear_skel
    simp only [k0_part181_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part182_eq_skeleton, k0_part133_eq_skeleton, k0_part134_eq_skeleton, k0_part135_eq_skeleton, k0_part136_eq_skeleton, k0_part137_eq_skeleton, k0_part138_eq_skeleton, k0_part139_eq_skeleton, k0_part140_eq_skeleton, k0_part141_eq_skeleton, k0_part142_eq_skeleton, k0_part143_eq_skeleton, k0_part144_eq_skeleton, k0_part145_eq_skeleton, k0_part146_eq_skeleton, k0_part147_eq_skeleton, k0_part148_eq_skeleton, k0_part149_eq_skeleton, k0_part150_eq_skeleton, k0_part151_eq_skeleton, k0_part152_eq_skeleton, k0_part153_eq_skeleton, k0_part154_eq_skeleton, k0_part155_eq_skeleton, k0_part156_eq_skeleton, k0_part157_eq_skeleton, k0_part158_eq_skeleton, k0_part159_eq_skeleton, k0_part160_eq_skeleton, k0_part161_eq_skeleton, k0_part162_eq_skeleton, k0_part163_eq_skeleton, k0_part164_eq_skeleton, k0_part165_eq_skeleton, k0_part166_eq_skeleton, k0_part167_eq_skeleton, k0_part168_eq_skeleton, k0_part169_eq_skeleton, k0_part170_eq_skeleton, k0_part171_eq_skeleton, k0_part172_eq_skeleton, k0_part173_eq_skeleton, k0_part174_eq_skeleton, k0_part175_eq_skeleton, k0_part176_eq_skeleton, k0_part177_eq_skeleton, k0_part178_eq_skeleton, k0_part179_eq_skeleton, k0_part180_eq_skeleton]
    iintro ⟨H1, H2, H3, H4, H5, H6, H7, H8⟩
    sl_exec (disch := first | sl_exact hc0)
    sl_step
    sl_close

end Cert.KernelIdeal.Gen

end
-- ==== Proof.BlockA.lean ====
/- The pieces the body's run writes into the block of `y` at case A are the closed form of `BlockTerms`. -/
module

public import proofs.«01_k».proof.Proof.BlockTerms
public import proofs.«01_k».proof.Proof.RunA

@[expose] public section

set_option maxRecDepth 16384

noncomputable section

namespace Cert.KernelIdeal.Hand

open Cert.KernelIdeal Cert.KernelIdeal.Gen Idealize.ShloMosaic Idealize.ShloMosaic.TcCoe

variable {F : FTy → Type} [FloatOps F]

section
variable (c : Dev nD) (i : grid0.Coords) (arg1 : Memref sig .tc .smem S192x56 .f32) (harg1 : arg1.IsWhole) (arg2 : Memref sig .tc .vmem S256x7168 .bf16) (harg2 : arg2.IsWhole) (arg3 : Memref sig .tc .vmem S1x7168 .f32) (harg3 : arg3.IsWhole) (arg4 : Memref sig .tc .vmem S1024x7168 .fp8e4m3) (harg4 : arg4.IsWhole) (arg5 : Memref sig .tc .vmem S256x1024 .bf16) (harg5 : arg5.IsWhole) (arg6 : Memref sig .tc .vmem S256x7168 .fp8e4m3) (harg6 : arg6.IsWhole) (arg7 : Memref sig .tc .vmem S256x56 .f32) (harg7 : arg7.IsWhole) (arg8 : Memref sig .tc .vmem S256x7168 .bf16) (harg8 : arg8.IsWhole) (hc0 : cond0_0 i)
    (f1 : BufTy.Contents (Elt F) arg1.view.ty) (f2 : BufTy.Contents (Elt F) arg2.view.ty) (f3 : BufTy.Contents (Elt F) arg3.view.ty) (f4 : BufTy.Contents (Elt F) arg4.view.ty) (f8 : BufTy.Contents (Elt F) arg8.view.ty)

theorem hA1 : runA.sl.r_35 c i arg1 harg1 arg2 harg2 arg3 harg3 arg4 harg4 arg5 harg5 arg6 harg6 arg7 harg7 arg8 harg8 hc0 f1 f2 f3 f4 f8 = acc1 i arg1 arg4 arg8 f1 f4 (arg8.view.writes (Elt F) f8 (pb_k0_t1 (F := F) Variants.none c none i arg1 harg1 arg2 harg2 arg3 harg3 arg4 harg4 arg5 harg5 arg6 harg6 arg7 harg7 arg8 harg8 hc0 f2 f3 k0_t1_loop.trips).2.2) := by unfold runA.sl.r_35; rfl
theorem hA2 : runA.sl.r_57 c i arg1 harg1 arg2 harg2 arg3 harg3 arg4 harg4 arg5 harg5 arg6 harg6 arg7 harg7 arg8 harg8 hc0 f1 f2 f3 f4 f8 = acc2 i arg1 arg4 arg8 f1 f4 (arg8.view.writes (Elt F) f8 (pb_k0_t1 (F := F) Variants.none c none i arg1 harg1 arg2 harg2 arg3 harg3 arg4 harg4 arg5 harg5 arg6 harg6 arg7 harg7 arg8 harg8 hc0 f2 f3 k0_t1_loop.trips).2.2) := by unfold runA.sl.r_57; rw [hA1]; rfl
theorem hA3 : runA.sl.r_87 c i arg1 harg1 arg2 harg2 arg3 harg3 arg4 harg4 arg5 harg5 arg6 harg6 arg7 harg7 arg8 harg8 hc0 f1 f2 f3 f4 f8 = acc3 i arg1 arg4 arg8 f1 f4 (arg8.view.writes (Elt F) f8 (pb_k0_t1 (F := F) Variants.none c none i arg1 harg1 arg2 harg2 arg3 harg3 arg4 harg4 arg5 harg5 arg6 harg6 arg7 harg7 arg8 harg8 hc0 f2 f3 k0_t1_loop.trips).2.2) := by unfold runA.sl.r_87; rw [hA2]; rfl
theorem hA4 : runA.sl.r_117 c i arg1 harg1 arg2 harg2 arg3 harg3 arg4 harg4 arg5 harg5 arg6 harg6 arg7 harg7 arg8 harg8 hc0 f1 f2 f3 f4 f8 = acc4 i arg1 arg4 arg8 f1 f4 (arg8.view.writes (Elt F) f8 (pb_k0_t1 (F := F) Variants.none c none i arg1 harg1 arg2 harg2 arg3 harg3 arg4 harg4 arg5 harg5 arg6 harg6 arg7 harg7 arg8 harg8 hc0 f2 f3 k0_t1_loop.trips).2.2) := by unfold runA.sl.r_117; rw [hA3]; rfl
theorem hA5 : runA.sl.r_149 c i arg1 harg1 arg2 harg2 arg3 harg3 arg4 harg4 arg5 harg5 arg6 harg6 arg7 harg7 arg8 harg8 hc0 f1 f2 f3 f4 f8 = acc5 i arg1 arg4 arg8 f1 f4 (arg8.view.writes (Elt F) f8 (pb_k0_t1 (F := F) Variants.none c none i arg1 harg1 arg2 harg2 arg3 harg3 arg4 harg4 arg5 harg5 arg6 harg6 arg7 harg7 arg8 harg8 hc0 f2 f3 k0_t1_loop.trips).2.2) := by unfold runA.sl.r_149; rw [hA4]; rfl
theorem hA6 : runA.sl.r_181 c i arg1 harg1 arg2 harg2 arg3 harg3 arg4 harg4 arg5 harg5 arg6 harg6 arg7 harg7 arg8 harg8 hc0 f1 f2 f3 f4 f8 = acc6 i arg1 arg4 arg8 f1 f4 (arg8.view.writes (Elt F) f8 (pb_k0_t1 (F := F) Variants.none c none i arg1 harg1 arg2 harg2 arg3 harg3 arg4 harg4 arg5 harg5 arg6 harg6 arg7 harg7 arg8 harg8 hc0 f2 f3 k0_t1_loop.trips).2.2) := by unfold runA.sl.r_181; rw [hA5]; rfl
theorem hA7 : runA.sl.r_215 c i arg1 harg1 arg2 harg2 arg3 harg3 arg4 harg4 arg5 harg5 arg6 harg6 arg7 harg7 arg8 harg8 hc0 f1 f2 f3 f4 f8 = acc7 i arg1 arg4 arg8 f1 f4 (arg8.view.writes (Elt F) f8 (pb_k0_t1 (F := F) Variants.none c none i arg1 harg1 arg2 harg2 arg3 harg3 arg4 harg4 arg5 harg5 arg6 harg6 arg7 harg7 arg8 harg8 hc0 f2 f3 k0_t1_loop.trips).2.2) := by unfold runA.sl.r_215; rw [hA6]; rfl
theorem hA8 : runA.sl.r_249 c i arg1 harg1 arg2 harg2 arg3 harg3 arg4 harg4 arg5 harg5 arg6 harg6 arg7 harg7 arg8 harg8 hc0 f1 f2 f3 f4 f8 = acc8 i arg1 arg4 arg8 f1 f4 (arg8.view.writes (Elt F) f8 (pb_k0_t1 (F := F) Variants.none c none i arg1 harg1 arg2 harg2 arg3 harg3 arg4 harg4 arg5 harg5 arg6 harg6 arg7 harg7 arg8 harg8 hc0 f2 f3 k0_t1_loop.trips).2.2) := by unfold runA.sl.r_249; rw [hA7]; rfl
theorem hA9 : runA.sl.r_281 c i arg1 harg1 arg2 harg2 arg3 harg3 arg4 harg4 arg5 harg5 arg6 harg6 arg7 harg7 arg8 harg8 hc0 f1 f2 f3 f4 f8 = acc9 i arg1 arg4 arg8 f1 f4 (arg8.view.writes (Elt F) f8 (pb_k0_t1 (F := F) Variants.none c none i arg1 harg1 arg2 harg2 arg3 harg3 arg4 harg4 arg5 harg5 arg6 harg6 arg7 harg7 arg8 harg8 hc0 f2 f3 k0_t1_loop.trips).2.2) := by unfold runA.sl.r_281; rw [hA8]; rfl
theorem hA10 : runA.sl.r_304 c i arg1 harg1 arg2 harg2 arg3 harg3 arg4 harg4 arg5 harg5 arg6 harg6 arg7 harg7 arg8 harg8 hc0 f1 f2 f3 f4 f8 = acc10 i arg1 arg4 arg8 f1 f4 (arg8.view.writes (Elt F) f8 (pb_k0_t1 (F := F) Variants.none c none i arg1 harg1 arg2 harg2 arg3 harg3 arg4 harg4 arg5 harg5 arg6 harg6 arg7 harg7 arg8 harg8 hc0 f2 f3 k0_t1_loop.trips).2.2) := by unfold runA.sl.r_304; rw [hA9]; rfl
theorem hA11 : runA.sl.r_333 c i arg1 harg1 arg2 harg2 arg3 harg3 arg4 harg4 arg5 harg5 arg6 harg6 arg7 harg7 arg8 harg8 hc0 f1 f2 f3 f4 f8 = acc11 i arg1 arg4 arg8 f1 f4 (arg8.view.writes (Elt F) f8 (pb_k0_t1 (F := F) Variants.none c none i arg1 harg1 arg2 harg2 arg3 harg3 arg4 harg4 arg5 harg5 arg6 harg6 arg7 harg7 arg8 harg8 hc0 f2 f3 k0_t1_loop.trips).2.2) := by unfold runA.sl.r_333; rw [hA10]; rfl
theorem hA12 : runA.sl.r_362 c i arg1 harg1 arg2 harg2 arg3 harg3 arg4 harg4 arg5 harg5 arg6 harg6 arg7 harg7 arg8 harg8 hc0 f1 f2 f3 f4 f8 = acc12 i arg1 arg4 arg8 f1 f4 (arg8.view.writes (Elt F) f8 (pb_k0_t1 (F := F) Variants.none c none i arg1 harg1 arg2 harg2 arg3 harg3 arg4 harg4 arg5 harg5 arg6 harg6 arg7 harg7 arg8 harg8 hc0 f2 f3 k0_t1_loop.trips).2.2) := by unfold runA.sl.r_362; rw [hA11]; rfl
theorem hA13 : runA.sl.r_393 c i arg1 harg1 arg2 harg2 arg3 harg3 arg4 harg4 arg5 harg5 arg6 harg6 arg7 harg7 arg8 harg8 hc0 f1 f2 f3 f4 f8 = acc13 i arg1 arg4 arg8 f1 f4 (arg8.view.writes (Elt F) f8 (pb_k0_t1 (F := F) Variants.none c none i arg1 harg1 arg2 harg2 arg3 harg3 arg4 harg4 arg5 harg5 arg6 harg6 arg7 harg7 arg8 harg8 hc0 f2 f3 k0_t1_loop.trips).2.2) := by unfold runA.sl.r_393; rw [hA12]; rfl
theorem hA14 : runA.sl.r_424 c i arg1 harg1 arg2 harg2 arg3 harg3 arg4 harg4 arg5 harg5 arg6 harg6 arg7 harg7 arg8 harg8 hc0 f1 f2 f3 f4 f8 = acc14 i arg1 arg4 arg8 f1 f4 (arg8.view.writes (Elt F) f8 (pb_k0_t1 (F := F) Variants.none c none i arg1 harg1 arg2 harg2 arg3 harg3 arg4 harg4 arg5 harg5 arg6 harg6 arg7 harg7 arg8 harg8 hc0 f2 f3 k0_t1_loop.trips).2.2) := by unfold runA.sl.r_424; rw [hA13]; rfl
theorem hA15 : runA.sl.r_457 c i arg1 harg1 arg2 harg2 arg3 harg3 arg4 harg4 arg5 harg5 arg6 harg6 arg7 harg7 arg8 harg8 hc0 f1 f2 f3 f4 f8 = acc15 i arg1 arg4 arg8 f1 f4 (arg8.view.writes (Elt F) f8 (pb_k0_t1 (F := F) Variants.none c none i arg1 harg1 arg2 harg2 arg3 harg3 arg4 harg4 arg5 harg5 arg6 harg6 arg7 harg7 arg8 harg8 hc0 f2 f3 k0_t1_loop.trips).2.2) := by unfold runA.sl.r_457; rw [hA14]; rfl
theorem hA16 : runA.sl.r_490 c i arg1 harg1 arg2 harg2 arg3 harg3 arg4 harg4 arg5 harg5 arg6 harg6 arg7 harg7 arg8 harg8 hc0 f1 f2 f3 f4 f8 = acc16 i arg1 arg4 arg8 f1 f4 (arg8.view.writes (Elt F) f8 (pb_k0_t1 (F := F) Variants.none c none i arg1 harg1 arg2 harg2 arg3 harg3 arg4 harg4 arg5 harg5 arg6 harg6 arg7 harg7 arg8 harg8 hc0 f2 f3 k0_t1_loop.trips).2.2) := by unfold runA.sl.r_490; rw [hA15]; rfl
theorem hA17 : runA.sl.r_525 c i arg1 harg1 arg2 harg2 arg3 harg3 arg4 harg4 arg5 harg5 arg6 harg6 arg7 harg7 arg8 harg8 hc0 f1 f2 f3 f4 f8 = acc17 i arg1 arg4 arg8 f1 f4 (arg8.view.writes (Elt F) f8 (pb_k0_t1 (F := F) Variants.none c none i arg1 harg1 arg2 harg2 arg3 harg3 arg4 harg4 arg5 harg5 arg6 harg6 arg7 harg7 arg8 harg8 hc0 f2 f3 k0_t1_loop.trips).2.2) := by unfold runA.sl.r_525; rw [hA16]; rfl
theorem hA18 : runA.sl.r_557 c i arg1 harg1 arg2 harg2 arg3 harg3 arg4 harg4 arg5 harg5 arg6 harg6 arg7 harg7 arg8 harg8 hc0 f1 f2 f3 f4 f8 = acc18 i arg1 arg4 arg8 f1 f4 (arg8.view.writes (Elt F) f8 (pb_k0_t1 (F := F) Variants.none c none i arg1 harg1 arg2 harg2 arg3 harg3 arg4 harg4 arg5 harg5 arg6 harg6 arg7 harg7 arg8 harg8 hc0 f2 f3 k0_t1_loop.trips).2.2) := by unfold runA.sl.r_557; rw [hA17]; rfl
theorem hA19 : runA.sl.r_579 c i arg1 harg1 arg2 harg2 arg3 harg3 arg4 harg4 arg5 harg5 arg6 harg6 arg7 harg7 arg8 harg8 hc0 f1 f2 f3 f4 f8 = acc19 i arg1 arg4 arg8 f1 f4 (arg8.view.writes (Elt F) f8 (pb_k0_t1 (F := F) Variants.none c none i arg1 harg1 arg2 harg2 arg3 harg3 arg4 harg4 arg5 harg5 arg6 harg6 arg7 harg7 arg8 harg8 hc0 f2 f3 k0_t1_loop.trips).2.2) := by unfold runA.sl.r_579; rw [hA18]; rfl
theorem hA20 : runA.sl.r_608 c i arg1 harg1 arg2 harg2 arg3 harg3 arg4 harg4 arg5 harg5 arg6 harg6 arg7 harg7 arg8 harg8 hc0 f1 f2 f3 f4 f8 = acc20 i arg1 arg4 arg8 f1 f4 (arg8.view.writes (Elt F) f8 (pb_k0_t1 (F := F) Variants.none c none i arg1 harg1 arg2 harg2 arg3 harg3 arg4 harg4 arg5 harg5 arg6 harg6 arg7 harg7 arg8 harg8 hc0 f2 f3 k0_t1_loop.trips).2.2) := by unfold runA.sl.r_608; rw [hA19]; rfl
theorem hA21 : runA.sl.r_637 c i arg1 harg1 arg2 harg2 arg3 harg3 arg4 harg4 arg5 harg5 arg6 harg6 arg7 harg7 arg8 harg8 hc0 f1 f2 f3 f4 f8 = acc21 i arg1 arg4 arg8 f1 f4 (arg8.view.writes (Elt F) f8 (pb_k0_t1 (F := F) Variants.none c none i arg1 harg1 arg2 harg2 arg3 harg3 arg4 harg4 arg5 harg5 arg6 harg6 arg7 harg7 arg8 harg8 hc0 f2 f3 k0_t1_loop.trips).2.2) := by unfold runA.sl.r_637; rw [hA20]; rfl
theorem hA22 : runA.sl.r_668 c i arg1 harg1 arg2 harg2 arg3 harg3 arg4 harg4 arg5 harg5 arg6 harg6 arg7 harg7 arg8 harg8 hc0 f1 f2 f3 f4 f8 = acc22 i arg1 arg4 arg8 f1 f4 (arg8.view.writes (Elt F) f8 (pb_k0_t1 (F := F) Variants.none c none i arg1 harg1 arg2 harg2 arg3 harg3 arg4 harg4 arg5 harg5 arg6 harg6 arg7 harg7 arg8 harg8 hc0 f2 f3 k0_t1_loop.trips).2.2) := by unfold runA.sl.r_668; rw [hA21]; rfl
theorem hA23 : runA.sl.r_699 c i arg1 harg1 arg2 harg2 arg3 harg3 arg4 harg4 arg5 harg5 arg6 harg6 arg7 harg7 arg8 harg8 hc0 f1 f2 f3 f4 f8 = acc23 i arg1 arg4 arg8 f1 f4 (arg8.view.writes (Elt F) f8 (pb_k0_t1 (F := F) Variants.none c none i arg1 harg1 arg2 harg2 arg3 harg3 arg4 harg4 arg5 harg5 arg6 harg6 arg7 harg7 arg8 harg8 hc0 f2 f3 k0_t1_loop.trips).2.2) := by unfold runA.sl.r_699; rw [hA22]; rfl
theorem hA24 : runA.sl.r_732 c i arg1 harg1 arg2 harg2 arg3 harg3 arg4 harg4 arg5 harg5 arg6 harg6 arg7 harg7 arg8 harg8 hc0 f1 f2 f3 f4 f8 = acc24 i arg1 arg4 arg8 f1 f4 (arg8.view.writes (Elt F) f8 (pb_k0_t1 (F := F) Variants.none c none i arg1 harg1 arg2 harg2 arg3 harg3 arg4 harg4 arg5 harg5 arg6 harg6 arg7 harg7 arg8 harg8 hc0 f2 f3 k0_t1_loop.trips).2.2) := by unfold runA.sl.r_732; rw [hA23]; rfl
theorem hA25 : runA.sl.r_765 c i arg1 harg1 arg2 harg2 arg3 harg3 arg4 harg4 arg5 harg5 arg6 harg6 arg7 harg7 arg8 harg8 hc0 f1 f2 f3 f4 f8 = acc25 i arg1 arg4 arg8 f1 f4 (arg8.view.writes (Elt F) f8 (pb_k0_t1 (F := F) Variants.none c none i arg1 harg1 arg2 harg2 arg3 harg3 arg4 harg4 arg5 harg5 arg6 harg6 arg7 harg7 arg8 harg8 hc0 f2 f3 k0_t1_loop.trips).2.2) := by unfold runA.sl.r_765; rw [hA24]; rfl
theorem hA26 : runA.sl.r_796 c i arg1 harg1 arg2 harg2 arg3 harg3 arg4 harg4 arg5 harg5 arg6 harg6 arg7 harg7 arg8 harg8 hc0 f1 f2 f3 f4 f8 = acc26 i arg1 arg4 arg8 f1 f4 (arg8.view.writes (Elt F) f8 (pb_k0_t1 (F := F) Variants.none c none i arg1 harg1 arg2 harg2 arg3 harg3 arg4 harg4 arg5 harg5 arg6 harg6 arg7 harg7 arg8 harg8 hc0 f2 f3 k0_t1_loop.trips).2.2) := by unfold runA.sl.r_796; rw [hA25]; rfl
theorem hA27 : runA.sl.r_818 c i arg1 harg1 arg2 harg2 arg3 harg3 arg4 harg4 arg5 harg5 arg6 harg6 arg7 harg7 arg8 harg8 hc0 f1 f2 f3 f4 f8 = acc27 i arg1 arg4 arg8 f1 f4 (arg8.view.writes (Elt F) f8 (pb_k0_t1 (F := F) Variants.none c none i arg1 harg1 arg2 harg2 arg3 harg3 arg4 harg4 arg5 harg5 arg6 harg6 arg7 harg7 arg8 harg8 hc0 f2 f3 k0_t1_loop.trips).2.2) := by unfold runA.sl.r_818; rw [hA26]; rfl

end

/-- The run's witness is one store of the whole block. -/
theorem runA_eq (c : Dev nD) (i : grid0.Coords) (arg1 : Memref sig .tc .smem S192x56 .f32) (harg1 : arg1.IsWhole) (arg2 : Memref sig .tc .vmem S256x7168 .bf16) (harg2 : arg2.IsWhole) (arg3 : Memref sig .tc .vmem S1x7168 .f32) (harg3 : arg3.IsWhole) (arg4 : Memref sig .tc .vmem S1024x7168 .fp8e4m3) (harg4 : arg4.IsWhole) (arg5 : Memref sig .tc .vmem S256x1024 .bf16) (harg5 : arg5.IsWhole) (arg6 : Memref sig .tc .vmem S256x7168 .fp8e4m3) (harg6 : arg6.IsWhole) (arg7 : Memref sig .tc .vmem S256x56 .f32) (harg7 : arg7.IsWhole) (arg8 : Memref sig .tc .vmem S256x7168 .bf16) (harg8 : arg8.IsWhole) (hc0 : cond0_0 i)
    (f1 : BufTy.Contents (Elt F) arg1.view.ty) (f2 : BufTy.Contents (Elt F) arg2.view.ty) (f3 : BufTy.Contents (Elt F) arg3.view.ty) (f4 : BufTy.Contents (Elt F) arg4.view.ty) (f8 : BufTy.Contents (Elt F) arg8.view.ty) :
    (runA (F := F) c i arg1 harg1 arg2 harg2 arg3 harg3 arg4 harg4 arg5 harg5 arg6 harg6 arg7 harg7 arg8 harg8 hc0 f1 f2 f3 f4 f8).1 = [⟨Rect.unit (s := S256x1024) ![0, 0] S256x1024.size inb_S256x1024_S256x1024_0_0, yBlk i arg1 arg4 arg8 f1 f4 (arg8.view.writes (Elt F) f8 (pb_k0_t1 (F := F) Variants.none c none i arg1 harg1 arg2 harg2 arg3 harg3 arg4 harg4 arg5 harg5 arg6 harg6 arg7 harg7 arg8 harg8 hc0 f2 f3 k0_t1_loop.trips).2.2)⟩] := by
  unfold runA; dsimp only; rw [hA27]; rfl

end Cert.KernelIdeal.Hand

end
-- ==== Proof.RunB.lean ====
/- The kernel body run at case B, its results named. -/
module

public import proofs.«01_k».proof.Proof.Runs

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 10112000 in
/-- The body at a point that skips the quantising loop, run: it writes the pieces of the witness into the block of `y`, and
    every other buffer stays. -/
def runB (c : Dev nD) (i : grid0.Coords) (arg1 : Memref sig .tc .smem S192x56 .f32) (harg1 : arg1.IsWhole) (arg2 : Memref sig .tc .vmem S256x7168 .bf16) (harg2 : arg2.IsWhole) (arg3 : Memref sig .tc .vmem S1x7168 .f32) (harg3 : arg3.IsWhole) (arg4 : Memref sig .tc .vmem S1024x7168 .fp8e4m3) (harg4 : arg4.IsWhole) (arg5 : Memref sig .tc .vmem S256x1024 .bf16) (harg5 : arg5.IsWhole) (arg6 : Memref sig .tc .vmem S256x7168 .fp8e4m3) (harg6 : arg6.IsWhole) (arg7 : Memref sig .tc .vmem S256x56 .f32) (harg7 : arg7.IsWhole) (arg8 : Memref sig .tc .vmem S256x7168 .bf16) (harg8 : arg8.IsWhole) (hc0 : ¬cond0_0 i)
    (f1 : BufTy.Contents (Elt F) arg1.view.ty) (f2 : BufTy.Contents (Elt F) arg2.view.ty) (f3 : BufTy.Contents (Elt F) arg3.view.ty) (f4 : BufTy.Contents (Elt F) arg4.view.ty) (f8 : BufTy.Contents (Elt F) arg8.view.ty) :
      { L : List (View.Piece (Elt F) S256x1024 .bf16) // ∀ (E : Set ℕ) (f5 : BufTy.Contents (Elt F) arg5.view.ty) (f6 : BufTy.Contents (Elt F) arg6.view.ty) (f7 : BufTy.Contents (Elt F) arg7.view.ty),
        (iprop((arg1.view.loc (c : Thread nD τ) ↦[arg1.view.set]{fullShare} f1) ∗ (arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8)) : sProp 𝕄)
          ⊢ wp frame (wpE (defs₀ (F := F)) Variants.none c none) E (cc0_rmsnorm_fp8_linear i arg1 harg1 arg2 harg2 arg3 harg3 arg4 harg4 arg5 harg5 arg6 harg6 arg7 harg7 arg8 harg8)
            (fun _ => iprop((arg1.view.loc (c : Thread nD τ) ↦[arg1.view.set]{fullShare} f1) ∗ (arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} (arg5.view.writes (Elt F) f5 L)) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8))) } := by
  refine ⟨?_, fun E f5 f6 f7 => ?run⟩
  case run =>
    simp only [cc0_rmsnorm_fp8_linear_eq_skeleton]; unfold cc0_rmsnorm_fp8_linear_skel
    simp only [k0_part181_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part182_eq_skeleton, k0_part133_eq_skeleton, k0_part134_eq_skeleton, k0_part135_eq_skeleton, k0_part136_eq_skeleton, k0_part137_eq_skeleton, k0_part138_eq_skeleton, k0_part139_eq_skeleton, k0_part140_eq_skeleton, k0_part141_eq_skeleton, k0_part142_eq_skeleton, k0_part143_eq_skeleton, k0_part144_eq_skeleton, k0_part145_eq_skeleton, k0_part146_eq_skeleton, k0_part147_eq_skeleton, k0_part148_eq_skeleton, k0_part149_eq_skeleton, k0_part150_eq_skeleton, k0_part151_eq_skeleton, k0_part152_eq_skeleton, k0_part153_eq_skeleton, k0_part154_eq_skeleton, k0_part155_eq_skeleton, k0_part156_eq_skeleton, k0_part157_eq_skeleton, k0_part158_eq_skeleton, k0_part159_eq_skeleton, k0_part160_eq_skeleton, k0_part161_eq_skeleton, k0_part162_eq_skeleton, k0_part163_eq_skeleton, k0_part164_eq_skeleton, k0_part165_eq_skeleton, k0_part166_eq_skeleton, k0_part167_eq_skeleton, k0_part168_eq_skeleton, k0_part169_eq_skeleton, k0_part170_eq_skeleton, k0_part171_eq_skeleton, k0_part172_eq_skeleton, k0_part173_eq_skeleton, k0_part174_eq_skeleton, k0_part175_eq_skeleton, k0_part176_eq_skeleton, k0_part177_eq_skeleton, k0_part178_eq_skeleton, k0_part179_eq_skeleton, k0_part180_eq_skeleton]
    iintro ⟨H1, H2, H3, H4, H5, H6, H7, H8⟩
    sl_exec (disch := first | sl_exact hc0)
    sl_step
    sl_close

end Cert.KernelIdeal.Gen

end
-- ==== Proof.BlockB.lean ====
/- The pieces the body's run writes into the block of `y` at case B are the closed form of `BlockTerms`. -/
module

public import proofs.«01_k».proof.Proof.BlockTerms
public import proofs.«01_k».proof.Proof.RunB

@[expose] public section

set_option maxRecDepth 16384

noncomputable section

namespace Cert.KernelIdeal.Hand

open Cert.KernelIdeal Cert.KernelIdeal.Gen Idealize.ShloMosaic Idealize.ShloMosaic.TcCoe

variable {F : FTy → Type} [FloatOps F]

section
variable (i : grid0.Coords) (arg1 : Memref sig .tc .smem S192x56 .f32) (arg4 : Memref sig .tc .vmem S1024x7168 .fp8e4m3) (arg8 : Memref sig .tc .vmem S256x7168 .bf16) (f1 : BufTy.Contents (Elt F) arg1.view.ty) (f4 : BufTy.Contents (Elt F) arg4.view.ty) (f8 : BufTy.Contents (Elt F) arg8.view.ty)

theorem hB1 : runB.sl.r_36 i arg1 arg4 arg8 f1 f4 f8 = acc1 i arg1 arg4 arg8 f1 f4 f8 := by unfold runB.sl.r_36; rfl
theorem hB2 : runB.sl.r_58 i arg1 arg4 arg8 f1 f4 f8 = acc2 i arg1 arg4 arg8 f1 f4 f8 := by unfold runB.sl.r_58; rw [hB1]; rfl
theorem hB3 : runB.sl.r_88 i arg1 arg4 arg8 f1 f4 f8 = acc3 i arg1 arg4 arg8 f1 f4 f8 := by unfold runB.sl.r_88; rw [hB2]; rfl
theorem hB4 : runB.sl.r_118 i arg1 arg4 arg8 f1 f4 f8 = acc4 i arg1 arg4 arg8 f1 f4 f8 := by unfold runB.sl.r_118; rw [hB3]; rfl
theorem hB5 : runB.sl.r_150 i arg1 arg4 arg8 f1 f4 f8 = acc5 i arg1 arg4 arg8 f1 f4 f8 := by unfold runB.sl.r_150; rw [hB4]; rfl
theorem hB6 : runB.sl.r_182 i arg1 arg4 arg8 f1 f4 f8 = acc6 i arg1 arg4 arg8 f1 f4 f8 := by unfold runB.sl.r_182; rw [hB5]; rfl
theorem hB7 : runB.sl.r_216 i arg1 arg4 arg8 f1 f4 f8 = acc7 i arg1 arg4 arg8 f1 f4 f8 := by unfold runB.sl.r_216; rw [hB6]; rfl
theorem hB8 : runB.sl.r_250 i arg1 arg4 arg8 f1 f4 f8 = acc8 i arg1 arg4 arg8 f1 f4 f8 := by unfold runB.sl.r_250; rw [hB7]; rfl
theorem hB9 : runB.sl.r_282 i arg1 arg4 arg8 f1 f4 f8 = acc9 i arg1 arg4 arg8 f1 f4 f8 := by unfold runB.sl.r_282; rw [hB8]; rfl
theorem hB10 : runB.sl.r_305 i arg1 arg4 arg8 f1 f4 f8 = acc10 i arg1 arg4 arg8 f1 f4 f8 := by unfold runB.sl.r_305; rw [hB9]; rfl
theorem hB11 : runB.sl.r_334 i arg1 arg4 arg8 f1 f4 f8 = acc11 i arg1 arg4 arg8 f1 f4 f8 := by unfold runB.sl.r_334; rw [hB10]; rfl
theorem hB12 : runB.sl.r_363 i arg1 arg4 arg8 f1 f4 f8 = acc12 i arg1 arg4 arg8 f1 f4 f8 := by unfold runB.sl.r_363; rw [hB11]; rfl
theorem hB13 : runB.sl.r_394 i arg1 arg4 arg8 f1 f4 f8 = acc13 i arg1 arg4 arg8 f1 f4 f8 := by unfold runB.sl.r_394; rw [hB12]; rfl
theorem hB14 : runB.sl.r_425 i arg1 arg4 arg8 f1 f4 f8 = acc14 i arg1 arg4 arg8 f1 f4 f8 := by unfold runB.sl.r_425; rw [hB13]; rfl
theorem hB15 : runB.sl.r_458 i arg1 arg4 arg8 f1 f4 f8 = acc15 i arg1 arg4 arg8 f1 f4 f8 := by unfold runB.sl.r_458; rw [hB14]; rfl
theorem hB16 : runB.sl.r_491 i arg1 arg4 arg8 f1 f4 f8 = acc16 i arg1 arg4 arg8 f1 f4 f8 := by unfold runB.sl.r_491; rw [hB15]; rfl
theorem hB17 : runB.sl.r_526 i arg1 arg4 arg8 f1 f4 f8 = acc17 i arg1 arg4 arg8 f1 f4 f8 := by unfold runB.sl.r_526; rw [hB16]; rfl
theorem hB18 : runB.sl.r_559 i arg1 arg4 arg8 f1 f4 f8 = acc18 i arg1 arg4 arg8 f1 f4 f8 := by unfold runB.sl.r_559; rw [hB17]; rfl
theorem hB19 : runB.sl.r_581 i arg1 arg4 arg8 f1 f4 f8 = acc19 i arg1 arg4 arg8 f1 f4 f8 := by unfold runB.sl.r_581; rw [hB18]; rfl
theorem hB20 : runB.sl.r_610 i arg1 arg4 arg8 f1 f4 f8 = acc20 i arg1 arg4 arg8 f1 f4 f8 := by unfold runB.sl.r_610; rw [hB19]; rfl
theorem hB21 : runB.sl.r_639 i arg1 arg4 arg8 f1 f4 f8 = acc21 i arg1 arg4 arg8 f1 f4 f8 := by unfold runB.sl.r_639; rw [hB20]; rfl
theorem hB22 : runB.sl.r_670 i arg1 arg4 arg8 f1 f4 f8 = acc22 i arg1 arg4 arg8 f1 f4 f8 := by unfold runB.sl.r_670; rw [hB21]; rfl
theorem hB23 : runB.sl.r_701 i arg1 arg4 arg8 f1 f4 f8 = acc23 i arg1 arg4 arg8 f1 f4 f8 := by unfold runB.sl.r_701; rw [hB22]; rfl
theorem hB24 : runB.sl.r_734 i arg1 arg4 arg8 f1 f4 f8 = acc24 i arg1 arg4 arg8 f1 f4 f8 := by unfold runB.sl.r_734; rw [hB23]; rfl
theorem hB25 : runB.sl.r_767 i arg1 arg4 arg8 f1 f4 f8 = acc25 i arg1 arg4 arg8 f1 f4 f8 := by unfold runB.sl.r_767; rw [hB24]; rfl
theorem hB26 : runB.sl.r_798 i arg1 arg4 arg8 f1 f4 f8 = acc26 i arg1 arg4 arg8 f1 f4 f8 := by unfold runB.sl.r_798; rw [hB25]; rfl
theorem hB27 : runB.sl.r_820 i arg1 arg4 arg8 f1 f4 f8 = acc27 i arg1 arg4 arg8 f1 f4 f8 := by unfold runB.sl.r_820; rw [hB26]; rfl

end

/-- The run's witness is one store of the whole block. -/
theorem runB_eq (c : Dev nD) (i : grid0.Coords) (arg1 : Memref sig .tc .smem S192x56 .f32) (harg1 : arg1.IsWhole) (arg2 : Memref sig .tc .vmem S256x7168 .bf16) (harg2 : arg2.IsWhole) (arg3 : Memref sig .tc .vmem S1x7168 .f32) (harg3 : arg3.IsWhole) (arg4 : Memref sig .tc .vmem S1024x7168 .fp8e4m3) (harg4 : arg4.IsWhole) (arg5 : Memref sig .tc .vmem S256x1024 .bf16) (harg5 : arg5.IsWhole) (arg6 : Memref sig .tc .vmem S256x7168 .fp8e4m3) (harg6 : arg6.IsWhole) (arg7 : Memref sig .tc .vmem S256x56 .f32) (harg7 : arg7.IsWhole) (arg8 : Memref sig .tc .vmem S256x7168 .bf16) (harg8 : arg8.IsWhole) (hc0 : ¬cond0_0 i)
    (f1 : BufTy.Contents (Elt F) arg1.view.ty) (f2 : BufTy.Contents (Elt F) arg2.view.ty) (f3 : BufTy.Contents (Elt F) arg3.view.ty) (f4 : BufTy.Contents (Elt F) arg4.view.ty) (f8 : BufTy.Contents (Elt F) arg8.view.ty) :
    (runB (F := F) c i arg1 harg1 arg2 harg2 arg3 harg3 arg4 harg4 arg5 harg5 arg6 harg6 arg7 harg7 arg8 harg8 hc0 f1 f2 f3 f4 f8).1 = [⟨Rect.unit (s := S256x1024) ![0, 0] S256x1024.size inb_S256x1024_S256x1024_0_0, yBlk i arg1 arg4 arg8 f1 f4 f8⟩] := by
  unfold runB; dsimp only; rw [hB27]; rfl

end Cert.KernelIdeal.Hand

end
-- ==== Proof.BlockValue.lean ====
/- The block of `y` of one grid point, entry by entry over the extended reals: a sum over 56 groups of 128 columns. -/
module

public import proofs.«01_k».proof.Proof.BlockTerms
public import Idealize.ShloMosaic.Lib.Pointwise
public import Idealize.ShloMosaic.Lib.Pipeline.ValueKit.Tiles

@[expose] public section

set_option maxRecDepth 16384

noncomputable section

namespace Cert.KernelIdeal.Hand

open Cert.KernelIdeal Cert.KernelIdeal.Gen Idealize.ShloMosaic Idealize.ShloMosaic.TcCoe

/-- A read through a unit-stride rectangle, at an index: the contents at the index placed. -/
theorem rd {κ : Kind} {sp : Space} {S : Shape} {e : EltTy} (v : View sig κ sp S e) (off size : Fin S.rank → ℕ) (inb) (f : v.ty.Contents (Elt Ideal))
    (x : (Rect.unit off size inb).shape.Idx) (i : S.Idx) (hi : ∀ a, (i a : ℕ) = off a + x a) :
    View.readAt (Elt Ideal) v (Rect.unit off size inb).toLoadRect f x = v.read (Elt Ideal) f i :=
  View.ld_unit_apply_of (v.read (Elt Ideal) f) off size inb x i hi

/-- Row `n` of eight stacked blocks is row `n % 128` of block `n / 128`. -/
theorem half_at (s : Fin 8 → Elt Ideal .f32) (w : Fin 8 → Vec Ideal S128x128 .fp8e4m3) (n : Fin 1024) (k : Fin 128) (q : Fin 8) (r : Fin 128)
    (hn : n.val = 128 * q.val + r.val) :
    half s w (ix2 n k) = w q (ix2 r k) * s q := by
  pointwise [half, blk]
  have hr := r.isLt
  match q, hn with
  | ⟨0, _⟩, hn =>
    replace hn : n.val = 0 + r.val := hn
    rw [dif_pos (by omega)]
    exact congrArg (fun z => w 0 (ix2 z k) * s 0) (Fin.ext (by show n.val = r.val; omega))
  | ⟨1, _⟩, hn =>
    replace hn : n.val = 128 + r.val := hn
    rw [dif_neg (by omega), dif_pos (by omega)]
    exact congrArg (fun z => w 1 (ix2 z k) * s 1) (Fin.ext (by show n.val - 128 = r.val; omega))
  | ⟨2, _⟩, hn =>
    replace hn : n.val = 256 + r.val := hn
    rw [dif_neg (by omega), dif_neg (by omega), dif_pos (by omega)]
    exact congrArg (fun z => w 2 (ix2 z k) * s 2) (Fin.ext (by show n.val - 128 - 128 = r.val; omega))
  | ⟨3, _⟩, hn =>
    replace hn : n.val = 384 + r.val := hn
    rw [dif_neg (by omega), dif_neg (by omega), dif_neg (by omega), dif_pos (by omega)]
    exact congrArg (fun z => w 3 (ix2 z k) * s 3) (Fin.ext (by show n.val - 128 - 128 - 128 = r.val; omega))
  | ⟨4, _⟩, hn =>
    replace hn : n.val = 512 + r.val := hn
    rw [dif_neg (by omega), dif_neg (by omega), dif_neg (by omega), dif_neg (by omega), dif_pos (by omega)]
    exact congrArg (fun z => w 4 (ix2 z k) * s 4) (Fin.ext (by show n.val - 128 - 128 - 128 - 128 = r.val; omega))
  | ⟨5, _⟩, hn =>
    replace hn : n.val = 640 + r.val := hn
    rw [dif_neg (by omega), dif_neg (by omega), dif_neg (by omega), dif_neg (by omega), dif_neg (by omega), dif_pos (by omega)]
    exact congrArg (fun z => w 5 (ix2 z k) * s 5) (Fin.ext (by show n.val - 128 - 128 - 128 - 128 - 128 = r.val; omega))
  | ⟨6, _⟩, hn =>
    replace hn : n.val = 768 + r.val := hn
    rw [dif_neg (by omega), dif_neg (by omega), dif_neg (by omega), dif_neg (by omega), dif_neg (by omega), dif_neg (by omega), dif_pos (by omega)]
    exact congrArg (fun z => w 6 (ix2 z k) * s 6) (Fin.ext (by show n.val - 128 - 128 - 128 - 128 - 128 - 128 = r.val; omega))
  | ⟨7, _⟩, hn =>
    replace hn : n.val = 896 + r.val := hn
    rw [dif_neg (by omega), dif_neg (by omega), dif_neg (by omega), dif_neg (by omega), dif_neg (by omega), dif_neg (by omega), dif_neg (by omega)]
    exact congrArg (fun z => w 7 (ix2 z k) * s 7) (Fin.ext (by show n.val - 128 - 128 - 128 - 128 - 128 - 128 - 128 = r.val; omega))

/-- One step adds the 256 products of its columns. -/
theorem step_at (acc : FVec Ideal S1024x256 .f32) (s0 : Fin 8 → Elt Ideal .f32) (w0 : Fin 8 → Vec Ideal S128x128 .fp8e4m3) (s1 : Fin 8 → Elt Ideal .f32)
    (w1 : Fin 8 → Vec Ideal S128x128 .fp8e4m3) (x : Vec Ideal S256x256 .bf16) (n : Fin 1024) (j : Fin 256) :
    step acc s0 w0 s1 w1 x (ix2 n j) = acc (ix2 n j) + ((∑ c : Fin 128, half s0 w0 (ix2 n c) * x (ix2 j ⟨c.val, by omega⟩)) +
      ∑ c : Fin 128, half s1 w1 (ix2 n c) * x (ix2 j ⟨128 + c.val, by omega⟩)) := by
  pointwise [step]

/-- The part of an entry of `y` that one group of 128 columns gives: row `n` of the weights' tile, dequantised, against
row `j` of the dequantised input. -/
def grp (WS : Vec Ideal S192x56 .f32) (W : Vec Ideal S1024x7168 .fp8e4m3) (X : Vec Ideal S256x7168 .bf16) (b : Fin 192) (n : Fin 1024) (j : Fin 256) (g : Fin 56) : EReal :=
  ∑ c : Fin 128, (W (ix2 n ⟨128 * g.val + c.val, by omega⟩) * WS (ix2 b g)) * X (ix2 j ⟨128 * g.val + c.val, by omega⟩)

/-- The same, for any number: nothing past the last group. -/
def grpN (WS : Vec Ideal S192x56 .f32) (W : Vec Ideal S1024x7168 .fp8e4m3) (X : Vec Ideal S256x7168 .bf16) (b : Fin 192) (n : Fin 1024) (j : Fin 256) (g : ℕ) : EReal :=
  if h : g < 56 then grp WS W X b n j ⟨g, h⟩ else 0

section
variable (i : grid0.Coords) (arg1 : Memref sig .tc .smem S192x56 .f32) (arg4 : Memref sig .tc .vmem S1024x7168 .fp8e4m3) (arg8 : Memref sig .tc .vmem S256x7168 .bf16) (f1 : BufTy.Contents (Elt Ideal) arg1.view.ty) (f4 : BufTy.Contents (Elt Ideal) arg4.view.ty) (f8 : BufTy.Contents (Elt Ideal) arg8.view.ty)

/-- The scale the body reads, at any offsets equal to `![a, g]`. -/
theorem sAt_at (off : Fin 2 → ℕ) (h) (a : Fin 192) (g : Fin 56) (ho : off = ![a.val, g.val]) :
    sAt (F := Ideal) arg1 f1 off h = arg1.view.read (Elt Ideal) f1 (ix2 a g) := by
  subst ho
  refine rd arg1.view _ _ _ f1 _ (ix2 a g) fun x => ?_
  match x with
  | ⟨0, _⟩ => rfl
  | ⟨1, _⟩ => rfl

theorem wR_at (g : Fin 56) (b : Fin 8) (r c : Fin 128) (n : Fin 1024) (hn : n.val = 128 * b.val + r.val) :
    wR (F := Ideal) arg4 f4 g b (ix2 r c) = arg4.view.read (Elt Ideal) f4 (ix2 n ⟨128 * g.val + c.val, by omega⟩) := by
  refine rd arg4.view _ _ _ f4 _ _ fun x => ?_
  match x with
  | ⟨0, _⟩ => exact hn
  | ⟨1, _⟩ => rfl

theorem xR_at (k : Fin 28) (j : Fin 256) (c : Fin 256) (d : Fin 7168) (hd : d.val = 256 * k.val + c.val) :
    xR (F := Ideal) arg8 f8 k (ix2 j c) = arg8.view.read (Elt Ideal) f8 (ix2 j d) := by
  refine rd arg8.view _ _ _ f8 _ _ fun x => ?_
  match x with
  | ⟨0, _⟩ => exact (Nat.zero_add _).symm
  | ⟨1, _⟩ => exact hd

theorem lt0 (k : Fin 28) : 2 * k.val < 56 := by omega

theorem lt1 (k : Fin 28) : 2 * k.val + 1 < 56 := by omega

/-- One step of the body adds two groups. -/
theorem acc_step (acc : FVec Ideal S1024x256 .f32) (k : Fin 28) (g0 g1 : Fin 56) (hg0 : g0.val = 2 * k.val) (hg1 : g1.val = 2 * k.val + 1)
    (o0 o1 : Fin 8 → Fin 2 → ℕ) (h0 : ∀ (b : Fin 8) (x : Fin 2), o0 b x + S1x1.size x ≤ S192x56.size x) (h1 : ∀ (b : Fin 8) (x : Fin 2), o1 b x + S1x1.size x ≤ S192x56.size x) (e0 : ∀ b : Fin 8, o0 b = ![8 * (i 0).val + b.val, g0.val]) (e1 : ∀ b : Fin 8, o1 b = ![8 * (i 0).val + b.val, g1.val])
    (n : Fin 1024) (j : Fin 256) (a : Fin 192) (q : Fin 8) (r : Fin 128) (hn : n.val = 128 * q.val + r.val) (ha : a.val = 8 * (i 0).val + q.val) :
    step acc (fun b => sAt arg1 f1 (o0 b) (h0 b)) (wR arg4 f4 g0) (fun b => sAt arg1 f1 (o1 b) (h1 b)) (wR arg4 f4 g1) (xR arg8 f8 k) (ix2 n j)
      = (acc (ix2 n j) + grpN (arg1.view.read (Elt Ideal) f1) (arg4.view.read (Elt Ideal) f4) (arg8.view.read (Elt Ideal) f8) a n j (2 * k.val))
        + grpN (arg1.view.read (Elt Ideal) f1) (arg4.view.read (Elt Ideal) f4) (arg8.view.read (Elt Ideal) f8) a n j (2 * k.val + 1) := by
  obtain rfl : g0 = ⟨2 * k.val, lt0 k⟩ := Fin.ext hg0
  obtain rfl : g1 = ⟨2 * k.val + 1, lt1 k⟩ := Fin.ext hg1
  rw [step_at, add_assoc]
  have hk := k.isLt
  congr 1
  congr 1
  · rw [grpN, dif_pos (by omega)]
    refine Finset.sum_congr rfl fun c _ => ?_
    rw [half_at _ _ n c q r hn, wR_at arg4 f4 ⟨2 * k.val, lt0 k⟩ q r c n hn, sAt_at arg1 f1 (o0 q) (h0 q) a ⟨2 * k.val, lt0 k⟩ ((e0 q).trans (by rw [ha])),
      xR_at arg8 f8 k j _ ⟨128 * (2 * k.val) + c.val, by omega⟩ (by show 128 * (2 * k.val) + c.val = 256 * k.val + c.val; omega)]
  · rw [grpN, dif_pos (by omega)]
    refine Finset.sum_congr rfl fun c _ => ?_
    rw [half_at _ _ n c q r hn, wR_at arg4 f4 ⟨2 * k.val + 1, lt1 k⟩ q r c n hn, sAt_at arg1 f1 (o1 q) (h1 q) a ⟨2 * k.val + 1, lt1 k⟩ ((e1 q).trans (by rw [ha])),
      xR_at arg8 f8 k j _ ⟨128 * (2 * k.val + 1) + c.val, by omega⟩ (by show 128 * (2 * k.val + 1) + c.val = 256 * k.val + (128 + c.val); omega)]

variable (n : Fin 1024) (j : Fin 256) (a : Fin 192) (q : Fin 8) (r : Fin 128) (hn : n.val = 128 * q.val + r.val) (ha : a.val = 8 * (i 0).val + q.val)

/-- The sum of the first `k` groups. -/
def psum (k : ℕ) : EReal := ∑ g ∈ Finset.range k, grpN (arg1.view.read (Elt Ideal) f1) (arg4.view.read (Elt Ideal) f4) (arg8.view.read (Elt Ideal) f8) a n j g

theorem psum_succ (k : ℕ) : psum arg1 arg4 arg8 f1 f4 f8 n j a k + grpN (arg1.view.read (Elt Ideal) f1) (arg4.view.read (Elt Ideal) f4) (arg8.view.read (Elt Ideal) f8) a n j k
    = psum arg1 arg4 arg8 f1 f4 f8 n j a (k + 1) := (Finset.sum_range_succ _ k).symm

theorem acc0_at : acc0 (F := Ideal) (ix2 n j) = psum arg1 arg4 arg8 f1 f4 f8 n j a 0 := by
  rw [psum, Finset.sum_range_zero]
  pointwise [acc0]

include hn ha
theorem acc1_at : acc1 i arg1 arg4 arg8 f1 f4 f8 (ix2 n j) = psum arg1 arg4 arg8 f1 f4 f8 n j a 2 := by
  rw [acc1, acc_step i arg1 arg4 arg8 f1 f4 f8 _ 0 0 1 rfl rfl _ _ (k0_off59_inb i) (k0_off60_inb i) (k0_off59_eq i) (k0_off60_eq i) n j a q r hn ha, acc0_at arg1 arg4 arg8 f1 f4 f8 n j a]
  exact (congrArg (· + _) (psum_succ arg1 arg4 arg8 f1 f4 f8 n j a 0)).trans (psum_succ arg1 arg4 arg8 f1 f4 f8 n j a 1)

theorem acc2_at : acc2 i arg1 arg4 arg8 f1 f4 f8 (ix2 n j) = psum arg1 arg4 arg8 f1 f4 f8 n j a 4 := by
  rw [acc2, acc_step i arg1 arg4 arg8 f1 f4 f8 _ 1 2 3 rfl rfl _ _ (k0_off61_inb i) (k0_off62_inb i) (k0_off61_eq i) (k0_off62_eq i) n j a q r hn ha, acc1_at i arg1 arg4 arg8 f1 f4 f8 n j a q r hn ha]
  exact (congrArg (· + _) (psum_succ arg1 arg4 arg8 f1 f4 f8 n j a 2)).trans (psum_succ arg1 arg4 arg8 f1 f4 f8 n j a 3)

theorem acc3_at : acc3 i arg1 arg4 arg8 f1 f4 f8 (ix2 n j) = psum arg1 arg4 arg8 f1 f4 f8 n j a 6 := by
  rw [acc3, acc_step i arg1 arg4 arg8 f1 f4 f8 _ 2 4 5 rfl rfl _ _ (k0_off63_inb i) (k0_off64_inb i) (k0_off63_eq i) (k0_off64_eq i) n j a q r hn ha, acc2_at i arg1 arg4 arg8 f1 f4 f8 n j a q r hn ha]
  exact (congrArg (· + _) (psum_succ arg1 arg4 arg8 f1 f4 f8 n j a 4)).trans (psum_succ arg1 arg4 arg8 f1 f4 f8 n j a 5)

theorem acc4_at : acc4 i arg1 arg4 arg8 f1 f4 f8 (ix2 n j) = psum arg1 arg4 arg8 f1 f4 f8 n j a 8 := by
  rw [acc4, acc_step i arg1 arg4 arg8 f1 f4 f8 _ 3 6 7 rfl rfl _ _ (k0_off65_inb i) (k0_off66_inb i) (k0_off65_eq i) (k0_off66_eq i) n j a q r hn ha, acc3_at i arg1 arg4 arg8 f1 f4 f8 n j a q r hn ha]
  exact (congrArg (· + _) (psum_succ arg1 arg4 arg8 f1 f4 f8 n j a 6)).trans (psum_succ arg1 arg4 arg8 f1 f4 f8 n j a 7)

theorem acc5_at : acc5 i arg1 arg4 arg8 f1 f4 f8 (ix2 n j) = psum arg1 arg4 arg8 f1 f4 f8 n j a 10 := by
  rw [acc5, acc_step i arg1 arg4 arg8 f1 f4 f8 _ 4 8 9 rfl rfl _ _ (k0_off67_inb i) (k0_off68_inb i) (k0_off67_eq i) (k0_off68_eq i) n j a q r hn ha, acc4_at i arg1 arg4 arg8 f1 f4 f8 n j a q r hn ha]
  exact (congrArg (· + _) (psum_succ arg1 arg4 arg8 f1 f4 f8 n j a 8)).trans (psum_succ arg1 arg4 arg8 f1 f4 f8 n j a 9)

theorem acc6_at : acc6 i arg1 arg4 arg8 f1 f4 f8 (ix2 n j) = psum arg1 arg4 arg8 f1 f4 f8 n j a 12 := by
  rw [acc6, acc_step i arg1 arg4 arg8 f1 f4 f8 _ 5 10 11 rfl rfl _ _ (k0_off69_inb i) (k0_off70_inb i) (k0_off69_eq i) (k0_off70_eq i) n j a q r hn ha, acc5_at i arg1 arg4 arg8 f1 f4 f8 n j a q r hn ha]
  exact (congrArg (· + _) (psum_succ arg1 arg4 arg8 f1 f4 f8 n j a 10)).trans (psum_succ arg1 arg4 arg8 f1 f4 f8 n j a 11)

theorem acc7_at : acc7 i arg1 arg4 arg8 f1 f4 f8 (ix2 n j) = psum arg1 arg4 arg8 f1 f4 f8 n j a 14 := by
  rw [acc7, acc_step i arg1 arg4 arg8 f1 f4 f8 _ 6 12 13 rfl rfl _ _ (k0_off71_inb i) (k0_off72_inb i) (k0_off71_eq i) (k0_off72_eq i) n j a q r hn ha, acc6_at i arg1 arg4 arg8 f1 f4 f8 n j a q r hn ha]
  exact (congrArg (· + _) (psum_succ arg1 arg4 arg8 f1 f4 f8 n j a 12)).trans (psum_succ arg1 arg4 arg8 f1 f4 f8 n j a 13)

theorem acc8_at : acc8 i arg1 arg4 arg8 f1 f4 f8 (ix2 n j) = psum arg1 arg4 arg8 f1 f4 f8 n j a 16 := by
  rw [acc8, acc_step i arg1 arg4 arg8 f1 f4 f8 _ 7 14 15 rfl rfl _ _ (k0_off73_inb i) (k0_off74_inb i) (k0_off73_eq i) (k0_off74_eq i) n j a q r hn ha, acc7_at i arg1 arg4 arg8 f1 f4 f8 n j a q r hn ha]
  exact (congrArg (· + _) (psum_succ arg1 arg4 arg8 f1 f4 f8 n j a 14)).trans (psum_succ arg1 arg4 arg8 f1 f4 f8 n j a 15)

theorem acc9_at : acc9 i arg1 arg4 arg8 f1 f4 f8 (ix2 n j) = psum arg1 arg4 arg8 f1 f4 f8 n j a 18 := by
  rw [acc9, acc_step i arg1 arg4 arg8 f1 f4 f8 _ 8 16 17 rfl rfl _ _ (k0_off75_inb i) (k0_off76_inb i) (k0_off75_eq i) (k0_off76_eq i) n j a q r hn ha, acc8_at i arg1 arg4 arg8 f1 f4 f8 n j a q r hn ha]
  exact (congrArg (· + _) (psum_succ arg1 arg4 arg8 f1 f4 f8 n j a 16)).trans (psum_succ arg1 arg4 arg8 f1 f4 f8 n j a 17)

theorem acc10_at : acc10 i arg1 arg4 arg8 f1 f4 f8 (ix2 n j) = psum arg1 arg4 arg8 f1 f4 f8 n j a 20 := by
  rw [acc10, acc_step i arg1 arg4 arg8 f1 f4 f8 _ 9 18 19 rfl rfl _ _ (k0_off77_inb i) (k0_off78_inb i) (k0_off77_eq i) (k0_off78_eq i) n j a q r hn ha, acc9_at i arg1 arg4 arg8 f1 f4 f8 n j a q r hn ha]
  exact (congrArg (· + _) (psum_succ arg1 arg4 arg8 f1 f4 f8 n j a 18)).trans (psum_succ arg1 arg4 arg8 f1 f4 f8 n j a 19)

theorem acc11_at : acc11 i arg1 arg4 arg8 f1 f4 f8 (ix2 n j) = psum arg1 arg4 arg8 f1 f4 f8 n j a 22 := by
  rw [acc11, acc_step i arg1 arg4 arg8 f1 f4 f8 _ 10 20 21 rfl rfl _ _ (k0_off79_inb i) (k0_off80_inb i) (k0_off79_eq i) (k0_off80_eq i) n j a q r hn ha, acc10_at i arg1 arg4 arg8 f1 f4 f8 n j a q r hn ha]
  exact (congrArg (· + _) (psum_succ arg1 arg4 arg8 f1 f4 f8 n j a 20)).trans (psum_succ arg1 arg4 arg8 f1 f4 f8 n j a 21)

theorem acc12_at : acc12 i arg1 arg4 arg8 f1 f4 f8 (ix2 n j) = psum arg1 arg4 arg8 f1 f4 f8 n j a 24 := by
  rw [acc12, acc_step i arg1 arg4 arg8 f1 f4 f8 _ 11 22 23 rfl rfl _ _ (k0_off81_inb i) (k0_off82_inb i) (k0_off81_eq i) (k0_off82_eq i) n j a q r hn ha, acc11_at i arg1 arg4 arg8 f1 f4 f8 n j a q r hn ha]
  exact (congrArg (· + _) (psum_succ arg1 arg4 arg8 f1 f4 f8 n j a 22)).trans (psum_succ arg1 arg4 arg8 f1 f4 f8 n j a 23)

theorem acc13_at : acc13 i arg1 arg4 arg8 f1 f4 f8 (ix2 n j) = psum arg1 arg4 arg8 f1 f4 f8 n j a 26 := by
  rw [acc13, acc_step i arg1 arg4 arg8 f1 f4 f8 _ 12 24 25 rfl rfl _ _ (k0_off83_inb i) (k0_off84_inb i) (k0_off83_eq i) (k0_off84_eq i) n j a q r hn ha, acc12_at i arg1 arg4 arg8 f1 f4 f8 n j a q r hn ha]
  exact (congrArg (· + _) (psum_succ arg1 arg4 arg8 f1 f4 f8 n j a 24)).trans (psum_succ arg1 arg4 arg8 f1 f4 f8 n j a 25)

theorem acc14_at : acc14 i arg1 arg4 arg8 f1 f4 f8 (ix2 n j) = psum arg1 arg4 arg8 f1 f4 f8 n j a 28 := by
  rw [acc14, acc_step i arg1 arg4 arg8 f1 f4 f8 _ 13 26 27 rfl rfl _ _ (k0_off85_inb i) (k0_off86_inb i) (k0_off85_eq i) (k0_off86_eq i) n j a q r hn ha, acc13_at i arg1 arg4 arg8 f1 f4 f8 n j a q r hn ha]
  exact (congrArg (· + _) (psum_succ arg1 arg4 arg8 f1 f4 f8 n j a 26)).trans (psum_succ arg1 arg4 arg8 f1 f4 f8 n j a 27)

theorem acc15_at : acc15 i arg1 arg4 arg8 f1 f4 f8 (ix2 n j) = psum arg1 arg4 arg8 f1 f4 f8 n j a 30 := by
  rw [acc15, acc_step i arg1 arg4 arg8 f1 f4 f8 _ 14 28 29 rfl rfl _ _ (k0_off87_inb i) (k0_off88_inb i) (k0_off87_eq i) (k0_off88_eq i) n j a q r hn ha, acc14_at i arg1 arg4 arg8 f1 f4 f8 n j a q r hn ha]
  exact (congrArg (· + _) (psum_succ arg1 arg4 arg8 f1 f4 f8 n j a 28)).trans (psum_succ arg1 arg4 arg8 f1 f4 f8 n j a 29)

theorem acc16_at : acc16 i arg1 arg4 arg8 f1 f4 f8 (ix2 n j) = psum arg1 arg4 arg8 f1 f4 f8 n j a 32 := by
  rw [acc16, acc_step i arg1 arg4 arg8 f1 f4 f8 _ 15 30 31 rfl rfl _ _ (k0_off89_inb i) (k0_off90_inb i) (k0_off89_eq i) (k0_off90_eq i) n j a q r hn ha, acc15_at i arg1 arg4 arg8 f1 f4 f8 n j a q r hn ha]
  exact (congrArg (· + _) (psum_succ arg1 arg4 arg8 f1 f4 f8 n j a 30)).trans (psum_succ arg1 arg4 arg8 f1 f4 f8 n j a 31)

theorem acc17_at : acc17 i arg1 arg4 arg8 f1 f4 f8 (ix2 n j) = psum arg1 arg4 arg8 f1 f4 f8 n j a 34 := by
  rw [acc17, acc_step i arg1 arg4 arg8 f1 f4 f8 _ 16 32 33 rfl rfl _ _ (k0_off91_inb i) (k0_off92_inb i) (k0_off91_eq i) (k0_off92_eq i) n j a q r hn ha, acc16_at i arg1 arg4 arg8 f1 f4 f8 n j a q r hn ha]
  exact (congrArg (· + _) (psum_succ arg1 arg4 arg8 f1 f4 f8 n j a 32)).trans (psum_succ arg1 arg4 arg8 f1 f4 f8 n j a 33)

theorem acc18_at : acc18 i arg1 arg4 arg8 f1 f4 f8 (ix2 n j) = psum arg1 arg4 arg8 f1 f4 f8 n j a 36 := by
  rw [acc18, acc_step i arg1 arg4 arg8 f1 f4 f8 _ 17 34 35 rfl rfl _ _ (k0_off93_inb i) (k0_off94_inb i) (k0_off93_eq i) (k0_off94_eq i) n j a q r hn ha, acc17_at i arg1 arg4 arg8 f1 f4 f8 n j a q r hn ha]
  exact (congrArg (· + _) (psum_succ arg1 arg4 arg8 f1 f4 f8 n j a 34)).trans (psum_succ arg1 arg4 arg8 f1 f4 f8 n j a 35)

theorem acc19_at : acc19 i arg1 arg4 arg8 f1 f4 f8 (ix2 n j) = psum arg1 arg4 arg8 f1 f4 f8 n j a 38 := by
  rw [acc19, acc_step i arg1 arg4 arg8 f1 f4 f8 _ 18 36 37 rfl rfl _ _ (k0_off95_inb i) (k0_off96_inb i) (k0_off95_eq i) (k0_off96_eq i) n j a q r hn ha, acc18_at i arg1 arg4 arg8 f1 f4 f8 n j a q r hn ha]
  exact (congrArg (· + _) (psum_succ arg1 arg4 arg8 f1 f4 f8 n j a 36)).trans (psum_succ arg1 arg4 arg8 f1 f4 f8 n j a 37)

theorem acc20_at : acc20 i arg1 arg4 arg8 f1 f4 f8 (ix2 n j) = psum arg1 arg4 arg8 f1 f4 f8 n j a 40 := by
  rw [acc20, acc_step i arg1 arg4 arg8 f1 f4 f8 _ 19 38 39 rfl rfl _ _ (k0_off97_inb i) (k0_off98_inb i) (k0_off97_eq i) (k0_off98_eq i) n j a q r hn ha, acc19_at i arg1 arg4 arg8 f1 f4 f8 n j a q r hn ha]
  exact (congrArg (· + _) (psum_succ arg1 arg4 arg8 f1 f4 f8 n j a 38)).trans (psum_succ arg1 arg4 arg8 f1 f4 f8 n j a 39)

theorem acc21_at : acc21 i arg1 arg4 arg8 f1 f4 f8 (ix2 n j) = psum arg1 arg4 arg8 f1 f4 f8 n j a 42 := by
  rw [acc21, acc_step i arg1 arg4 arg8 f1 f4 f8 _ 20 40 41 rfl rfl _ _ (k0_off99_inb i) (k0_off100_inb i) (k0_off99_eq i) (k0_off100_eq i) n j a q r hn ha, acc20_at i arg1 arg4 arg8 f1 f4 f8 n j a q r hn ha]
  exact (congrArg (· + _) (psum_succ arg1 arg4 arg8 f1 f4 f8 n j a 40)).trans (psum_succ arg1 arg4 arg8 f1 f4 f8 n j a 41)

theorem acc22_at : acc22 i arg1 arg4 arg8 f1 f4 f8 (ix2 n j) = psum arg1 arg4 arg8 f1 f4 f8 n j a 44 := by
  rw [acc22, acc_step i arg1 arg4 arg8 f1 f4 f8 _ 21 42 43 rfl rfl _ _ (k0_off101_inb i) (k0_off102_inb i) (k0_off101_eq i) (k0_off102_eq i) n j a q r hn ha, acc21_at i arg1 arg4 arg8 f1 f4 f8 n j a q r hn ha]
  exact (congrArg (· + _) (psum_succ arg1 arg4 arg8 f1 f4 f8 n j a 42)).trans (psum_succ arg1 arg4 arg8 f1 f4 f8 n j a 43)

theorem acc23_at : acc23 i arg1 arg4 arg8 f1 f4 f8 (ix2 n j) = psum arg1 arg4 arg8 f1 f4 f8 n j a 46 := by
  rw [acc23, acc_step i arg1 arg4 arg8 f1 f4 f8 _ 22 44 45 rfl rfl _ _ (k0_off103_inb i) (k0_off104_inb i) (k0_off103_eq i) (k0_off104_eq i) n j a q r hn ha, acc22_at i arg1 arg4 arg8 f1 f4 f8 n j a q r hn ha]
  exact (congrArg (· + _) (psum_succ arg1 arg4 arg8 f1 f4 f8 n j a 44)).trans (psum_succ arg1 arg4 arg8 f1 f4 f8 n j a 45)

theorem acc24_at : acc24 i arg1 arg4 arg8 f1 f4 f8 (ix2 n j) = psum arg1 arg4 arg8 f1 f4 f8 n j a 48 := by
  rw [acc24, acc_step i arg1 arg4 arg8 f1 f4 f8 _ 23 46 47 rfl rfl _ _ (k0_off105_inb i) (k0_off106_inb i) (k0_off105_eq i) (k0_off106_eq i) n j a q r hn ha, acc23_at i arg1 arg4 arg8 f1 f4 f8 n j a q r hn ha]
  exact (congrArg (· + _) (psum_succ arg1 arg4 arg8 f1 f4 f8 n j a 46)).trans (psum_succ arg1 arg4 arg8 f1 f4 f8 n j a 47)

theorem acc25_at : acc25 i arg1 arg4 arg8 f1 f4 f8 (ix2 n j) = psum arg1 arg4 arg8 f1 f4 f8 n j a 50 := by
  rw [acc25, acc_step i arg1 arg4 arg8 f1 f4 f8 _ 24 48 49 rfl rfl _ _ (k0_off107_inb i) (k0_off108_inb i) (k0_off107_eq i) (k0_off108_eq i) n j a q r hn ha, acc24_at i arg1 arg4 arg8 f1 f4 f8 n j a q r hn ha]
  exact (congrArg (· + _) (psum_succ arg1 arg4 arg8 f1 f4 f8 n j a 48)).trans (psum_succ arg1 arg4 arg8 f1 f4 f8 n j a 49)

theorem acc26_at : acc26 i arg1 arg4 arg8 f1 f4 f8 (ix2 n j) = psum arg1 arg4 arg8 f1 f4 f8 n j a 52 := by
  rw [acc26, acc_step i arg1 arg4 arg8 f1 f4 f8 _ 25 50 51 rfl rfl _ _ (k0_off109_inb i) (k0_off110_inb i) (k0_off109_eq i) (k0_off110_eq i) n j a q r hn ha, acc25_at i arg1 arg4 arg8 f1 f4 f8 n j a q r hn ha]
  exact (congrArg (· + _) (psum_succ arg1 arg4 arg8 f1 f4 f8 n j a 50)).trans (psum_succ arg1 arg4 arg8 f1 f4 f8 n j a 51)

theorem acc27_at : acc27 i arg1 arg4 arg8 f1 f4 f8 (ix2 n j) = psum arg1 arg4 arg8 f1 f4 f8 n j a 54 := by
  rw [acc27, acc_step i arg1 arg4 arg8 f1 f4 f8 _ 26 52 53 rfl rfl _ _ (k0_off111_inb i) (k0_off112_inb i) (k0_off111_eq i) (k0_off112_eq i) n j a q r hn ha, acc26_at i arg1 arg4 arg8 f1 f4 f8 n j a q r hn ha]
  exact (congrArg (· + _) (psum_succ arg1 arg4 arg8 f1 f4 f8 n j a 52)).trans (psum_succ arg1 arg4 arg8 f1 f4 f8 n j a 53)

theorem acc28_at : acc28 i arg1 arg4 arg8 f1 f4 f8 (ix2 n j) = psum arg1 arg4 arg8 f1 f4 f8 n j a 56 := by
  rw [acc28, acc_step i arg1 arg4 arg8 f1 f4 f8 _ 27 54 55 rfl rfl _ _ (k0_off113_inb i) (k0_off114_inb i) (k0_off113_eq i) (k0_off114_eq i) n j a q r hn ha, acc27_at i arg1 arg4 arg8 f1 f4 f8 n j a q r hn ha]
  exact (congrArg (· + _) (psum_succ arg1 arg4 arg8 f1 f4 f8 n j a 54)).trans (psum_succ arg1 arg4 arg8 f1 f4 f8 n j a 55)

/-- The block of `y` at an entry: the sum of the 56 groups. -/
theorem yBlk_at : yBlk i arg1 arg4 arg8 f1 f4 f8 (ix2 j n)
    = ∑ g : Fin 56, grp (arg1.view.read (Elt Ideal) f1) (arg4.view.read (Elt Ideal) f4) (arg8.view.read (Elt Ideal) f8) a n j g := by
  have h : yBlk i arg1 arg4 arg8 f1 f4 f8 (ix2 j n) = acc28 i arg1 arg4 arg8 f1 f4 f8 (ix2 n j) := by
    pointwise [yBlk]
  rw [h, acc28_at i arg1 arg4 arg8 f1 f4 f8 n j a q r hn ha, psum, Finset.sum_range]
  refine Finset.sum_congr rfl fun g _ => ?_
  rw [grpN, dif_pos g.isLt]

end

end Cert.KernelIdeal.Hand
-- ==== Proof.TripTerms.lean ====
/- What one trip of the quantising loop stores, in one spelling for all 56 groups. -/
module

public import proofs.«01_k».proof.Proof.Gen.KernelIdeal.Loops

@[expose] public section

set_option maxRecDepth 16384

noncomputable section

namespace Cert.KernelIdeal.Hand

open Cert.KernelIdeal Cert.KernelIdeal.Gen Idealize.ShloMosaic Idealize.ShloMosaic.TcCoe

variable {F : FTy → Type} [FloatOps F]

/-- The bits of the scale of each row's group, from the group's columns, the rows' factor and the gain. -/
def bitsT (r : FVec F S32x1 .f32) (x : Vec F S32x128 .bf16) (g : Vec F S1x128 .f32) : IVec S32x1 32 :=
  k0_pay15 (k0_pay13 r x g) (iota .tc S32x256 32 [1] iota_S32x256_d1_w32) k0_pay14

/-- The codes of a group of 128 columns. -/
def codT (r : FVec F S32x1 .f32) (x : Vec F S32x128 .bf16) (g : Vec F S1x128 .f32) : FVec F S32x128 .fp8e4m3 :=
  k0_pay17 (k0_pay12 r x g) (k0_pay13 r x g) (iota .tc S32x256 32 [1] iota_S32x256_d1_w32) k0_pay14

/-- The dequantised input of a group of 128 columns. -/
def xqT (r : FVec F S32x1 .f32) (x : Vec F S32x128 .bf16) (g : Vec F S1x128 .f32) : FVec F S32x128 .bf16 :=
  k0_pay18 (k0_pay12 r x g) (k0_pay13 r x g) (iota .tc S32x256 32 [1] iota_S32x256_d1_w32) k0_pay14

/-- One column of scales put into the table: column `c` takes the group's scale. -/
def sclT (c : BitVec 32) (prev : FVec F S32x56 .f32) (r : FVec F S32x1 .f32) (x : Vec F S32x128 .bf16) (g : Vec F S1x128 .f32) : FVec F S32x56 .f32 :=
  select (cmpi .eq (iota .tc S32x56 32 [1] iota_S32x56_d1_w32) (broadcast S32x56 c))
    (broadcastTo S32x56 (shapeCast S32x1 (bitcastToFloat .f32 (bitsT r x g)) shapeCasts_S32x1_S32x1) broadcasts_S32x1_S32x56) prev

theorem gR_inb (g : Fin 56) : ∀ a, (![0, 128 * g.val] : Fin 2 → ℕ) a + S1x128.size a ≤ S1x7168.size a := by
  intro a; have := g.isLt
  match a with
  | ⟨0, _⟩ => show 0 + 1 ≤ 1; omega
  | ⟨1, _⟩ => show 128 * g.val + 128 ≤ 7168; omega

/-- The gain of a group of columns, as the body reads it. -/
def gR (arg3 : Memref sig .tc .vmem S1x7168 .f32) (f3 : BufTy.Contents (Elt F) arg3.view.ty) (g : Fin 56) : Vec F S1x128 .f32 :=
  View.readAt (Elt F) arg3.view (Rect.unit (s := S1x7168) ![0, 128 * g.val] S1x128.size (gR_inb g)).toLoadRect f3

/-- A group's rows read through any offsets. -/
def xgR (arg2 : Memref sig .tc .vmem S256x7168 .bf16) (f2 : BufTy.Contents (Elt F) arg2.view.ty) (off : Fin 2 → ℕ)
    (h : ∀ a, off a + S32x128.size a ≤ S256x7168.size a) : Vec F S32x128 .bf16 :=
  View.readAt (Elt F) arg2.view (Rect.unit (s := S256x7168) off S32x128.size h).toLoadRect f2

/-- The factor of each of a trip's 32 rows. -/
def rR (arg2 : Memref sig .tc .vmem S256x7168 .bf16) (f2 : BufTy.Contents (Elt F) arg2.view.ty) (off : Fin 2 → ℕ)
    (h : ∀ a, off a + S32x7168.size a ≤ S256x7168.size a) : FVec F S32x1 .f32 :=
  k0_pay2 (View.readAt (Elt F) arg2.view (Rect.unit (s := S256x7168) off S32x7168.size h).toLoadRect f2)

section
variable (i : grid0.Coords) (arg2 : Memref sig .tc .vmem S256x7168 .bf16) (arg3 : Memref sig .tc .vmem S1x7168 .f32) (k0_h1 : k0_cond1 i = 1#1) (f2 : BufTy.Contents (Elt F) arg2.view.ty) (f3 : BufTy.Contents (Elt F) arg3.view.ty) (k : Fin k0_t1_loop.trips)

/-- The scales' table before the first group. -/
def scl0 : FVec F S32x56 .f32 := k0_pay3
/-- The scales' table after group 0. -/
def scl1 : FVec F S32x56 .f32 := sclT 0#32 scl0 (rR arg2 f2 (k0_off1 k) (k0_off1_inb i k k0_h1)) (xgR arg2 f2 (k0_off2 k) (k0_off2_inb i k k0_h1)) (gR arg3 f3 0)
/-- The scales' table after group 1. -/
def scl2 : FVec F S32x56 .f32 := sclT 1#32 (scl1 i arg2 arg3 k0_h1 f2 f3 k) (rR arg2 f2 (k0_off1 k) (k0_off1_inb i k k0_h1)) (xgR arg2 f2 (k0_off3 k) (k0_off3_inb i k k0_h1)) (gR arg3 f3 1)
/-- The scales' table after group 2. -/
def scl3 : FVec F S32x56 .f32 := sclT 2#32 (scl2 i arg2 arg3 k0_h1 f2 f3 k) (rR arg2 f2 (k0_off1 k) (k0_off1_inb i k k0_h1)) (xgR arg2 f2 (k0_off4 k) (k0_off4_inb i k k0_h1)) (gR arg3 f3 2)
/-- The scales' table after group 3. -/
def scl4 : FVec F S32x56 .f32 := sclT 3#32 (scl3 i arg2 arg3 k0_h1 f2 f3 k) (rR arg2 f2 (k0_off1 k) (k0_off1_inb i k k0_h1)) (xgR arg2 f2 (k0_off5 k) (k0_off5_inb i k k0_h1)) (gR arg3 f3 3)
/-- The scales' table after group 4. -/
def scl5 : FVec F S32x56 .f32 := sclT 4#32 (scl4 i arg2 arg3 k0_h1 f2 f3 k) (rR arg2 f2 (k0_off1 k) (k0_off1_inb i k k0_h1)) (xgR arg2 f2 (k0_off6 k) (k0_off6_inb i k k0_h1)) (gR arg3 f3 4)
/-- The scales' table after group 5. -/
def scl6 : FVec F S32x56 .f32 := sclT 5#32 (scl5 i arg2 arg3 k0_h1 f2 f3 k) (rR arg2 f2 (k0_off1 k) (k0_off1_inb i k k0_h1)) (xgR arg2 f2 (k0_off7 k) (k0_off7_inb i k k0_h1)) (gR arg3 f3 5)
/-- The scales' table after group 6. -/
def scl7 : FVec F S32x56 .f32 := sclT 6#32 (scl6 i arg2 arg3 k0_h1 f2 f3 k) (rR arg2 f2 (k0_off1 k) (k0_off1_inb i k k0_h1)) (xgR arg2 f2 (k0_off8 k) (k0_off8_inb i k k0_h1)) (gR arg3 f3 6)
/-- The scales' table after group 7. -/
def scl8 : FVec F S32x56 .f32 := sclT 7#32 (scl7 i arg2 arg3 k0_h1 f2 f3 k) (rR arg2 f2 (k0_off1 k) (k0_off1_inb i k k0_h1)) (xgR arg2 f2 (k0_off9 k) (k0_off9_inb i k k0_h1)) (gR arg3 f3 7)
/-- The scales' table after group 8. -/
def scl9 : FVec F S32x56 .f32 := sclT 8#32 (scl8 i arg2 arg3 k0_h1 f2 f3 k) (rR arg2 f2 (k0_off1 k) (k0_off1_inb i k k0_h1)) (xgR arg2 f2 (k0_off10 k) (k0_off10_inb i k k0_h1)) (gR arg3 f3 8)
/-- The scales' table after group 9. -/
def scl10 : FVec F S32x56 .f32 := sclT 9#32 (scl9 i arg2 arg3 k0_h1 f2 f3 k) (rR arg2 f2 (k0_off1 k) (k0_off1_inb i k k0_h1)) (xgR arg2 f2 (k0_off11 k) (k0_off11_inb i k k0_h1)) (gR arg3 f3 9)
/-- The scales' table after group 10. -/
def scl11 : FVec F S32x56 .f32 := sclT 10#32 (scl10 i arg2 arg3 k0_h1 f2 f3 k) (rR arg2 f2 (k0_off1 k) (k0_off1_inb i k k0_h1)) (xgR arg2 f2 (k0_off12 k) (k0_off12_inb i k k0_h1)) (gR arg3 f3 10)
/-- The scales' table after group 11. -/
def scl12 : FVec F S32x56 .f32 := sclT 11#32 (scl11 i arg2 arg3 k0_h1 f2 f3 k) (rR arg2 f2 (k0_off1 k) (k0_off1_inb i k k0_h1)) (xgR arg2 f2 (k0_off13 k) (k0_off13_inb i k k0_h1)) (gR arg3 f3 11)
/-- The scales' table after group 12. -/
def scl13 : FVec F S32x56 .f32 := sclT 12#32 (scl12 i arg2 arg3 k0_h1 f2 f3 k) (rR arg2 f2 (k0_off1 k) (k0_off1_inb i k k0_h1)) (xgR arg2 f2 (k0_off14 k) (k0_off14_inb i k k0_h1)) (gR arg3 f3 12)
/-- The scales' table after group 13. -/
def scl14 : FVec F S32x56 .f32 := sclT 13#32 (scl13 i arg2 arg3 k0_h1 f2 f3 k) (rR arg2 f2 (k0_off1 k) (k0_off1_inb i k k0_h1)) (xgR arg2 f2 (k0_off15 k) (k0_off15_inb i k k0_h1)) (gR arg3 f3 13)
/-- The scales' table after group 14. -/
def scl15 : FVec F S32x56 .f32 := sclT 14#32 (scl14 i arg2 arg3 k0_h1 f2 f3 k) (rR arg2 f2 (k0_off1 k) (k0_off1_inb i k k0_h1)) (xgR arg2 f2 (k0_off16 k) (k0_off16_inb i k k0_h1)) (gR arg3 f3 14)
/-- The scales' table after group 15. -/
def scl16 : FVec F S32x56 .f32 := sclT 15#32 (scl15 i arg2 arg3 k0_h1 f2 f3 k) (rR arg2 f2 (k0_off1 k) (k0_off1_inb i k k0_h1)) (xgR arg2 f2 (k0_off17 k) (k0_off17_inb i k k0_h1)) (gR arg3 f3 15)
/-- The scales' table after group 16. -/
def scl17 : FVec F S32x56 .f32 := sclT 16#32 (scl16 i arg2 arg3 k0_h1 f2 f3 k) (rR arg2 f2 (k0_off1 k) (k0_off1_inb i k k0_h1)) (xgR arg2 f2 (k0_off18 k) (k0_off18_inb i k k0_h1)) (gR arg3 f3 16)
/-- The scales' table after group 17. -/
def scl18 : FVec F S32x56 .f32 := sclT 17#32 (scl17 i arg2 arg3 k0_h1 f2 f3 k) (rR arg2 f2 (k0_off1 k) (k0_off1_inb i k k0_h1)) (xgR arg2 f2 (k0_off19 k) (k0_off19_inb i k k0_h1)) (gR arg3 f3 17)
/-- The scales' table after group 18. -/
def scl19 : FVec F S32x56 .f32 := sclT 18#32 (scl18 i arg2 arg3 k0_h1 f2 f3 k) (rR arg2 f2 (k0_off1 k) (k0_off1_inb i k k0_h1)) (xgR arg2 f2 (k0_off20 k) (k0_off20_inb i k k0_h1)) (gR arg3 f3 18)
/-- The scales' table after group 19. -/
def scl20 : FVec F S32x56 .f32 := sclT 19#32 (scl19 i arg2 arg3 k0_h1 f2 f3 k) (rR arg2 f2 (k0_off1 k) (k0_off1_inb i k k0_h1)) (xgR arg2 f2 (k0_off21 k) (k0_off21_inb i k k0_h1)) (gR arg3 f3 19)
/-- The scales' table after group 20. -/
def scl21 : FVec F S32x56 .f32 := sclT 20#32 (scl20 i arg2 arg3 k0_h1 f2 f3 k) (rR arg2 f2 (k0_off1 k) (k0_off1_inb i k k0_h1)) (xgR arg2 f2 (k0_off22 k) (k0_off22_inb i k k0_h1)) (gR arg3 f3 20)
/-- The scales' table after group 21. -/
def scl22 : FVec F S32x56 .f32 := sclT 21#32 (scl21 i arg2 arg3 k0_h1 f2 f3 k) (rR arg2 f2 (k0_off1 k) (k0_off1_inb i k k0_h1)) (xgR arg2 f2 (k0_off23 k) (k0_off23_inb i k k0_h1)) (gR arg3 f3 21)
/-- The scales' table after group 22. -/
def scl23 : FVec F S32x56 .f32 := sclT 22#32 (scl22 i arg2 arg3 k0_h1 f2 f3 k) (rR arg2 f2 (k0_off1 k) (k0_off1_inb i k k0_h1)) (xgR arg2 f2 (k0_off24 k) (k0_off24_inb i k k0_h1)) (gR arg3 f3 22)
/-- The scales' table after group 23. -/
def scl24 : FVec F S32x56 .f32 := sclT 23#32 (scl23 i arg2 arg3 k0_h1 f2 f3 k) (rR arg2 f2 (k0_off1 k) (k0_off1_inb i k k0_h1)) (xgR arg2 f2 (k0_off25 k) (k0_off25_inb i k k0_h1)) (gR arg3 f3 23)
/-- The scales' table after group 24. -/
def scl25 : FVec F S32x56 .f32 := sclT 24#32 (scl24 i arg2 arg3 k0_h1 f2 f3 k) (rR arg2 f2 (k0_off1 k) (k0_off1_inb i k k0_h1)) (xgR arg2 f2 (k0_off26 k) (k0_off26_inb i k k0_h1)) (gR arg3 f3 24)
/-- The scales' table after group 25. -/
def scl26 : FVec F S32x56 .f32 := sclT 25#32 (scl25 i arg2 arg3 k0_h1 f2 f3 k) (rR arg2 f2 (k0_off1 k) (k0_off1_inb i k k0_h1)) (xgR arg2 f2 (k0_off27 k) (k0_off27_inb i k k0_h1)) (gR arg3 f3 25)
/-- The scales' table after group 26. -/
def scl27 : FVec F S32x56 .f32 := sclT 26#32 (scl26 i arg2 arg3 k0_h1 f2 f3 k) (rR arg2 f2 (k0_off1 k) (k0_off1_inb i k k0_h1)) (xgR arg2 f2 (k0_off28 k) (k0_off28_inb i k k0_h1)) (gR arg3 f3 26)
/-- The scales' table after group 27. -/
def scl28 : FVec F S32x56 .f32 := sclT 27#32 (scl27 i arg2 arg3 k0_h1 f2 f3 k) (rR arg2 f2 (k0_off1 k) (k0_off1_inb i k k0_h1)) (xgR arg2 f2 (k0_off29 k) (k0_off29_inb i k k0_h1)) (gR arg3 f3 27)
/-- The scales' table after group 28. -/
def scl29 : FVec F S32x56 .f32 := sclT 28#32 (scl28 i arg2 arg3 k0_h1 f2 f3 k) (rR arg2 f2 (k0_off1 k) (k0_off1_inb i k k0_h1)) (xgR arg2 f2 (k0_off30 k) (k0_off30_inb i k k0_h1)) (gR arg3 f3 28)
/-- The scales' table after group 29. -/
def scl30 : FVec F S32x56 .f32 := sclT 29#32 (scl29 i arg2 arg3 k0_h1 f2 f3 k) (rR arg2 f2 (k0_off1 k) (k0_off1_inb i k k0_h1)) (xgR arg2 f2 (k0_off31 k) (k0_off31_inb i k k0_h1)) (gR arg3 f3 29)
/-- The scales' table after group 30. -/
def scl31 : FVec F S32x56 .f32 := sclT 30#32 (scl30 i arg2 arg3 k0_h1 f2 f3 k) (rR arg2 f2 (k0_off1 k) (k0_off1_inb i k k0_h1)) (xgR arg2 f2 (k0_off32 k) (k0_off32_inb i k k0_h1)) (gR arg3 f3 30)
/-- The scales' table after group 31. -/
def scl32 : FVec F S32x56 .f32 := sclT 31#32 (scl31 i arg2 arg3 k0_h1 f2 f3 k) (rR arg2 f2 (k0_off1 k) (k0_off1_inb i k k0_h1)) (xgR arg2 f2 (k0_off33 k) (k0_off33_inb i k k0_h1)) (gR arg3 f3 31)
/-- The scales' table after group 32. -/
def scl33 : FVec F S32x56 .f32 := sclT 32#32 (scl32 i arg2 arg3 k0_h1 f2 f3 k) (rR arg2 f2 (k0_off1 k) (k0_off1_inb i k k0_h1)) (xgR arg2 f2 (k0_off34 k) (k0_off34_inb i k k0_h1)) (gR arg3 f3 32)
/-- The scales' table after group 33. -/
def scl34 : FVec F S32x56 .f32 := sclT 33#32 (scl33 i arg2 arg3 k0_h1 f2 f3 k) (rR arg2 f2 (k0_off1 k) (k0_off1_inb i k k0_h1)) (xgR arg2 f2 (k0_off35 k) (k0_off35_inb i k k0_h1)) (gR arg3 f3 33)
/-- The scales' table after group 34. -/
def scl35 : FVec F S32x56 .f32 := sclT 34#32 (scl34 i arg2 arg3 k0_h1 f2 f3 k) (rR arg2 f2 (k0_off1 k) (k0_off1_inb i k k0_h1)) (xgR arg2 f2 (k0_off36 k) (k0_off36_inb i k k0_h1)) (gR arg3 f3 34)
/-- The scales' table after group 35. -/
def scl36 : FVec F S32x56 .f32 := sclT 35#32 (scl35 i arg2 arg3 k0_h1 f2 f3 k) (rR arg2 f2 (k0_off1 k) (k0_off1_inb i k k0_h1)) (xgR arg2 f2 (k0_off37 k) (k0_off37_inb i k k0_h1)) (gR arg3 f3 35)
/-- The scales' table after group 36. -/
def scl37 : FVec F S32x56 .f32 := sclT 36#32 (scl36 i arg2 arg3 k0_h1 f2 f3 k) (rR arg2 f2 (k0_off1 k) (k0_off1_inb i k k0_h1)) (xgR arg2 f2 (k0_off38 k) (k0_off38_inb i k k0_h1)) (gR arg3 f3 36)
/-- The scales' table after group 37. -/
def scl38 : FVec F S32x56 .f32 := sclT 37#32 (scl37 i arg2 arg3 k0_h1 f2 f3 k) (rR arg2 f2 (k0_off1 k) (k0_off1_inb i k k0_h1)) (xgR arg2 f2 (k0_off39 k) (k0_off39_inb i k k0_h1)) (gR arg3 f3 37)
/-- The scales' table after group 38. -/
def scl39 : FVec F S32x56 .f32 := sclT 38#32 (scl38 i arg2 arg3 k0_h1 f2 f3 k) (rR arg2 f2 (k0_off1 k) (k0_off1_inb i k k0_h1)) (xgR arg2 f2 (k0_off40 k) (k0_off40_inb i k k0_h1)) (gR arg3 f3 38)
/-- The scales' table after group 39. -/
def scl40 : FVec F S32x56 .f32 := sclT 39#32 (scl39 i arg2 arg3 k0_h1 f2 f3 k) (rR arg2 f2 (k0_off1 k) (k0_off1_inb i k k0_h1)) (xgR arg2 f2 (k0_off41 k) (k0_off41_inb i k k0_h1)) (gR arg3 f3 39)
/-- The scales' table after group 40. -/
def scl41 : FVec F S32x56 .f32 := sclT 40#32 (scl40 i arg2 arg3 k0_h1 f2 f3 k) (rR arg2 f2 (k0_off1 k) (k0_off1_inb i k k0_h1)) (xgR arg2 f2 (k0_off42 k) (k0_off42_inb i k k0_h1)) (gR arg3 f3 40)
/-- The scales' table after group 41. -/
def scl42 : FVec F S32x56 .f32 := sclT 41#32 (scl41 i arg2 arg3 k0_h1 f2 f3 k) (rR arg2 f2 (k0_off1 k) (k0_off1_inb i k k0_h1)) (xgR arg2 f2 (k0_off43 k) (k0_off43_inb i k k0_h1)) (gR arg3 f3 41)
/-- The scales' table after group 42. -/
def scl43 : FVec F S32x56 .f32 := sclT 42#32 (scl42 i arg2 arg3 k0_h1 f2 f3 k) (rR arg2 f2 (k0_off1 k) (k0_off1_inb i k k0_h1)) (xgR arg2 f2 (k0_off44 k) (k0_off44_inb i k k0_h1)) (gR arg3 f3 42)
/-- The scales' table after group 43. -/
def scl44 : FVec F S32x56 .f32 := sclT 43#32 (scl43 i arg2 arg3 k0_h1 f2 f3 k) (rR arg2 f2 (k0_off1 k) (k0_off1_inb i k k0_h1)) (xgR arg2 f2 (k0_off45 k) (k0_off45_inb i k k0_h1)) (gR arg3 f3 43)
/-- The scales' table after group 44. -/
def scl45 : FVec F S32x56 .f32 := sclT 44#32 (scl44 i arg2 arg3 k0_h1 f2 f3 k) (rR arg2 f2 (k0_off1 k) (k0_off1_inb i k k0_h1)) (xgR arg2 f2 (k0_off46 k) (k0_off46_inb i k k0_h1)) (gR arg3 f3 44)
/-- The scales' table after group 45. -/
def scl46 : FVec F S32x56 .f32 := sclT 45#32 (scl45 i arg2 arg3 k0_h1 f2 f3 k) (rR arg2 f2 (k0_off1 k) (k0_off1_inb i k k0_h1)) (xgR arg2 f2 (k0_off47 k) (k0_off47_inb i k k0_h1)) (gR arg3 f3 45)
/-- The scales' table after group 46. -/
def scl47 : FVec F S32x56 .f32 := sclT 46#32 (scl46 i arg2 arg3 k0_h1 f2 f3 k) (rR arg2 f2 (k0_off1 k) (k0_off1_inb i k k0_h1)) (xgR arg2 f2 (k0_off48 k) (k0_off48_inb i k k0_h1)) (gR arg3 f3 46)
/-- The scales' table after group 47. -/
def scl48 : FVec F S32x56 .f32 := sclT 47#32 (scl47 i arg2 arg3 k0_h1 f2 f3 k) (rR arg2 f2 (k0_off1 k) (k0_off1_inb i k k0_h1)) (xgR arg2 f2 (k0_off49 k) (k0_off49_inb i k k0_h1)) (gR arg3 f3 47)
/-- The scales' table after group 48. -/
def scl49 : FVec F S32x56 .f32 := sclT 48#32 (scl48 i arg2 arg3 k0_h1 f2 f3 k) (rR arg2 f2 (k0_off1 k) (k0_off1_inb i k k0_h1)) (xgR arg2 f2 (k0_off50 k) (k0_off50_inb i k k0_h1)) (gR arg3 f3 48)
/-- The scales' table after group 49. -/
def scl50 : FVec F S32x56 .f32 := sclT 49#32 (scl49 i arg2 arg3 k0_h1 f2 f3 k) (rR arg2 f2 (k0_off1 k) (k0_off1_inb i k k0_h1)) (xgR arg2 f2 (k0_off51 k) (k0_off51_inb i k k0_h1)) (gR arg3 f3 49)
/-- The scales' table after group 50. -/
def scl51 : FVec F S32x56 .f32 := sclT 50#32 (scl50 i arg2 arg3 k0_h1 f2 f3 k) (rR arg2 f2 (k0_off1 k) (k0_off1_inb i k k0_h1)) (xgR arg2 f2 (k0_off52 k) (k0_off52_inb i k k0_h1)) (gR arg3 f3 50)
/-- The scales' table after group 51. -/
def scl52 : FVec F S32x56 .f32 := sclT 51#32 (scl51 i arg2 arg3 k0_h1 f2 f3 k) (rR arg2 f2 (k0_off1 k) (k0_off1_inb i k k0_h1)) (xgR arg2 f2 (k0_off53 k) (k0_off53_inb i k k0_h1)) (gR arg3 f3 51)
/-- The scales' table after group 52. -/
def scl53 : FVec F S32x56 .f32 := sclT 52#32 (scl52 i arg2 arg3 k0_h1 f2 f3 k) (rR arg2 f2 (k0_off1 k) (k0_off1_inb i k k0_h1)) (xgR arg2 f2 (k0_off54 k) (k0_off54_inb i k k0_h1)) (gR arg3 f3 52)
/-- The scales' table after group 53. -/
def scl54 : FVec F S32x56 .f32 := sclT 53#32 (scl53 i arg2 arg3 k0_h1 f2 f3 k) (rR arg2 f2 (k0_off1 k) (k0_off1_inb i k k0_h1)) (xgR arg2 f2 (k0_off55 k) (k0_off55_inb i k k0_h1)) (gR arg3 f3 53)
/-- The scales' table after group 54. -/
def scl55 : FVec F S32x56 .f32 := sclT 54#32 (scl54 i arg2 arg3 k0_h1 f2 f3 k) (rR arg2 f2 (k0_off1 k) (k0_off1_inb i k k0_h1)) (xgR arg2 f2 (k0_off56 k) (k0_off56_inb i k k0_h1)) (gR arg3 f3 54)
/-- The scales' table after group 55. -/
def scl56 : FVec F S32x56 .f32 := sclT 55#32 (scl55 i arg2 arg3 k0_h1 f2 f3 k) (rR arg2 f2 (k0_off1 k) (k0_off1_inb i k k0_h1)) (xgR arg2 f2 (k0_off57 k) (k0_off57_inb i k k0_h1)) (gR arg3 f3 55)

/-- The codes a trip stores, last group first. -/
def codL : List (View.Piece (Elt F) S256x7168 .fp8e4m3) := [⟨Rect.unit (s := S256x7168) (k0_off57 k) S32x128.size (k0_off57_inb i k k0_h1), codT (rR arg2 f2 (k0_off1 k) (k0_off1_inb i k k0_h1)) (xgR arg2 f2 (k0_off57 k) (k0_off57_inb i k k0_h1)) (gR arg3 f3 55)⟩, ⟨Rect.unit (s := S256x7168) (k0_off56 k) S32x128.size (k0_off56_inb i k k0_h1), codT (rR arg2 f2 (k0_off1 k) (k0_off1_inb i k k0_h1)) (xgR arg2 f2 (k0_off56 k) (k0_off56_inb i k k0_h1)) (gR arg3 f3 54)⟩, ⟨Rect.unit (s := S256x7168) (k0_off55 k) S32x128.size (k0_off55_inb i k k0_h1), codT (rR arg2 f2 (k0_off1 k) (k0_off1_inb i k k0_h1)) (xgR arg2 f2 (k0_off55 k) (k0_off55_inb i k k0_h1)) (gR arg3 f3 53)⟩, ⟨Rect.unit (s := S256x7168) (k0_off54 k) S32x128.size (k0_off54_inb i k k0_h1), codT (rR arg2 f2 (k0_off1 k) (k0_off1_inb i k k0_h1)) (xgR arg2 f2 (k0_off54 k) (k0_off54_inb i k k0_h1)) (gR arg3 f3 52)⟩, ⟨Rect.unit (s := S256x7168) (k0_off53 k) S32x128.size (k0_off53_inb i k k0_h1), codT (rR arg2 f2 (k0_off1 k) (k0_off1_inb i k k0_h1)) (xgR arg2 f2 (k0_off53 k) (k0_off53_inb i k k0_h1)) (gR arg3 f3 51)⟩, ⟨Rect.unit (s := S256x7168) (k0_off52 k) S32x128.size (k0_off52_inb i k k0_h1), codT (rR arg2 f2 (k0_off1 k) (k0_off1_inb i k k0_h1)) (xgR arg2 f2 (k0_off52 k) (k0_off52_inb i k k0_h1)) (gR arg3 f3 50)⟩, ⟨Rect.unit (s := S256x7168) (k0_off51 k) S32x128.size (k0_off51_inb i k k0_h1), codT (rR arg2 f2 (k0_off1 k) (k0_off1_inb i k k0_h1)) (xgR arg2 f2 (k0_off51 k) (k0_off51_inb i k k0_h1)) (gR arg3 f3 49)⟩, ⟨Rect.unit (s := S256x7168) (k0_off50 k) S32x128.size (k0_off50_inb i k k0_h1), codT (rR arg2 f2 (k0_off1 k) (k0_off1_inb i k k0_h1)) (xgR arg2 f2 (k0_off50 k) (k0_off50_inb i k k0_h1)) (gR arg3 f3 48)⟩, ⟨Rect.unit (s := S256x7168) (k0_off49 k) S32x128.size (k0_off49_inb i k k0_h1), codT (rR arg2 f2 (k0_off1 k) (k0_off1_inb i k k0_h1)) (xgR arg2 f2 (k0_off49 k) (k0_off49_inb i k k0_h1)) (gR arg3 f3 47)⟩, ⟨Rect.unit (s := S256x7168) (k0_off48 k) S32x128.size (k0_off48_inb i k k0_h1), codT (rR arg2 f2 (k0_off1 k) (k0_off1_inb i k k0_h1)) (xgR arg2 f2 (k0_off48 k) (k0_off48_inb i k k0_h1)) (gR arg3 f3 46)⟩, ⟨Rect.unit (s := S256x7168) (k0_off47 k) S32x128.size (k0_off47_inb i k k0_h1), codT (rR arg2 f2 (k0_off1 k) (k0_off1_inb i k k0_h1)) (xgR arg2 f2 (k0_off47 k) (k0_off47_inb i k k0_h1)) (gR arg3 f3 45)⟩, ⟨Rect.unit (s := S256x7168) (k0_off46 k) S32x128.size (k0_off46_inb i k k0_h1), codT (rR arg2 f2 (k0_off1 k) (k0_off1_inb i k k0_h1)) (xgR arg2 f2 (k0_off46 k) (k0_off46_inb i k k0_h1)) (gR arg3 f3 44)⟩, ⟨Rect.unit (s := S256x7168) (k0_off45 k) S32x128.size (k0_off45_inb i k k0_h1), codT (rR arg2 f2 (k0_off1 k) (k0_off1_inb i k k0_h1)) (xgR arg2 f2 (k0_off45 k) (k0_off45_inb i k k0_h1)) (gR arg3 f3 43)⟩, ⟨Rect.unit (s := S256x7168) (k0_off44 k) S32x128.size (k0_off44_inb i k k0_h1), codT (rR arg2 f2 (k0_off1 k) (k0_off1_inb i k k0_h1)) (xgR arg2 f2 (k0_off44 k) (k0_off44_inb i k k0_h1)) (gR arg3 f3 42)⟩, ⟨Rect.unit (s := S256x7168) (k0_off43 k) S32x128.size (k0_off43_inb i k k0_h1), codT (rR arg2 f2 (k0_off1 k) (k0_off1_inb i k k0_h1)) (xgR arg2 f2 (k0_off43 k) (k0_off43_inb i k k0_h1)) (gR arg3 f3 41)⟩, ⟨Rect.unit (s := S256x7168) (k0_off42 k) S32x128.size (k0_off42_inb i k k0_h1), codT (rR arg2 f2 (k0_off1 k) (k0_off1_inb i k k0_h1)) (xgR arg2 f2 (k0_off42 k) (k0_off42_inb i k k0_h1)) (gR arg3 f3 40)⟩, ⟨Rect.unit (s := S256x7168) (k0_off41 k) S32x128.size (k0_off41_inb i k k0_h1), codT (rR arg2 f2 (k0_off1 k) (k0_off1_inb i k k0_h1)) (xgR arg2 f2 (k0_off41 k) (k0_off41_inb i k k0_h1)) (gR arg3 f3 39)⟩, ⟨Rect.unit (s := S256x7168) (k0_off40 k) S32x128.size (k0_off40_inb i k k0_h1), codT (rR arg2 f2 (k0_off1 k) (k0_off1_inb i k k0_h1)) (xgR arg2 f2 (k0_off40 k) (k0_off40_inb i k k0_h1)) (gR arg3 f3 38)⟩, ⟨Rect.unit (s := S256x7168) (k0_off39 k) S32x128.size (k0_off39_inb i k k0_h1), codT (rR arg2 f2 (k0_off1 k) (k0_off1_inb i k k0_h1)) (xgR arg2 f2 (k0_off39 k) (k0_off39_inb i k k0_h1)) (gR arg3 f3 37)⟩, ⟨Rect.unit (s := S256x7168) (k0_off38 k) S32x128.size (k0_off38_inb i k k0_h1), codT (rR arg2 f2 (k0_off1 k) (k0_off1_inb i k k0_h1)) (xgR arg2 f2 (k0_off38 k) (k0_off38_inb i k k0_h1)) (gR arg3 f3 36)⟩, ⟨Rect.unit (s := S256x7168) (k0_off37 k) S32x128.size (k0_off37_inb i k k0_h1), codT (rR arg2 f2 (k0_off1 k) (k0_off1_inb i k k0_h1)) (xgR arg2 f2 (k0_off37 k) (k0_off37_inb i k k0_h1)) (gR arg3 f3 35)⟩, ⟨Rect.unit (s := S256x7168) (k0_off36 k) S32x128.size (k0_off36_inb i k k0_h1), codT (rR arg2 f2 (k0_off1 k) (k0_off1_inb i k k0_h1)) (xgR arg2 f2 (k0_off36 k) (k0_off36_inb i k k0_h1)) (gR arg3 f3 34)⟩, ⟨Rect.unit (s := S256x7168) (k0_off35 k) S32x128.size (k0_off35_inb i k k0_h1), codT (rR arg2 f2 (k0_off1 k) (k0_off1_inb i k k0_h1)) (xgR arg2 f2 (k0_off35 k) (k0_off35_inb i k k0_h1)) (gR arg3 f3 33)⟩, ⟨Rect.unit (s := S256x7168) (k0_off34 k) S32x128.size (k0_off34_inb i k k0_h1), codT (rR arg2 f2 (k0_off1 k) (k0_off1_inb i k k0_h1)) (xgR arg2 f2 (k0_off34 k) (k0_off34_inb i k k0_h1)) (gR arg3 f3 32)⟩, ⟨Rect.unit (s := S256x7168) (k0_off33 k) S32x128.size (k0_off33_inb i k k0_h1), codT (rR arg2 f2 (k0_off1 k) (k0_off1_inb i k k0_h1)) (xgR arg2 f2 (k0_off33 k) (k0_off33_inb i k k0_h1)) (gR arg3 f3 31)⟩, ⟨Rect.unit (s := S256x7168) (k0_off32 k) S32x128.size (k0_off32_inb i k k0_h1), codT (rR arg2 f2 (k0_off1 k) (k0_off1_inb i k k0_h1)) (xgR arg2 f2 (k0_off32 k) (k0_off32_inb i k k0_h1)) (gR arg3 f3 30)⟩, ⟨Rect.unit (s := S256x7168) (k0_off31 k) S32x128.size (k0_off31_inb i k k0_h1), codT (rR arg2 f2 (k0_off1 k) (k0_off1_inb i k k0_h1)) (xgR arg2 f2 (k0_off31 k) (k0_off31_inb i k k0_h1)) (gR arg3 f3 29)⟩, ⟨Rect.unit (s := S256x7168) (k0_off30 k) S32x128.size (k0_off30_inb i k k0_h1), codT (rR arg2 f2 (k0_off1 k) (k0_off1_inb i k k0_h1)) (xgR arg2 f2 (k0_off30 k) (k0_off30_inb i k k0_h1)) (gR arg3 f3 28)⟩, ⟨Rect.unit (s := S256x7168) (k0_off29 k) S32x128.size (k0_off29_inb i k k0_h1), codT (rR arg2 f2 (k0_off1 k) (k0_off1_inb i k k0_h1)) (xgR arg2 f2 (k0_off29 k) (k0_off29_inb i k k0_h1)) (gR arg3 f3 27)⟩, ⟨Rect.unit (s := S256x7168) (k0_off28 k) S32x128.size (k0_off28_inb i k k0_h1), codT (rR arg2 f2 (k0_off1 k) (k0_off1_inb i k k0_h1)) (xgR arg2 f2 (k0_off28 k) (k0_off28_inb i k k0_h1)) (gR arg3 f3 26)⟩, ⟨Rect.unit (s := S256x7168) (k0_off27 k) S32x128.size (k0_off27_inb i k k0_h1), codT (rR arg2 f2 (k0_off1 k) (k0_off1_inb i k k0_h1)) (xgR arg2 f2 (k0_off27 k) (k0_off27_inb i k k0_h1)) (gR arg3 f3 25)⟩, ⟨Rect.unit (s := S256x7168) (k0_off26 k) S32x128.size (k0_off26_inb i k k0_h1), codT (rR arg2 f2 (k0_off1 k) (k0_off1_inb i k k0_h1)) (xgR arg2 f2 (k0_off26 k) (k0_off26_inb i k k0_h1)) (gR arg3 f3 24)⟩, ⟨Rect.unit (s := S256x7168) (k0_off25 k) S32x128.size (k0_off25_inb i k k0_h1), codT (rR arg2 f2 (k0_off1 k) (k0_off1_inb i k k0_h1)) (xgR arg2 f2 (k0_off25 k) (k0_off25_inb i k k0_h1)) (gR arg3 f3 23)⟩, ⟨Rect.unit (s := S256x7168) (k0_off24 k) S32x128.size (k0_off24_inb i k k0_h1), codT (rR arg2 f2 (k0_off1 k) (k0_off1_inb i k k0_h1)) (xgR arg2 f2 (k0_off24 k) (k0_off24_inb i k k0_h1)) (gR arg3 f3 22)⟩, ⟨Rect.unit (s := S256x7168) (k0_off23 k) S32x128.size (k0_off23_inb i k k0_h1), codT (rR arg2 f2 (k0_off1 k) (k0_off1_inb i k k0_h1)) (xgR arg2 f2 (k0_off23 k) (k0_off23_inb i k k0_h1)) (gR arg3 f3 21)⟩, ⟨Rect.unit (s := S256x7168) (k0_off22 k) S32x128.size (k0_off22_inb i k k0_h1), codT (rR arg2 f2 (k0_off1 k) (k0_off1_inb i k k0_h1)) (xgR arg2 f2 (k0_off22 k) (k0_off22_inb i k k0_h1)) (gR arg3 f3 20)⟩, ⟨Rect.unit (s := S256x7168) (k0_off21 k) S32x128.size (k0_off21_inb i k k0_h1), codT (rR arg2 f2 (k0_off1 k) (k0_off1_inb i k k0_h1)) (xgR arg2 f2 (k0_off21 k) (k0_off21_inb i k k0_h1)) (gR arg3 f3 19)⟩, ⟨Rect.unit (s := S256x7168) (k0_off20 k) S32x128.size (k0_off20_inb i k k0_h1), codT (rR arg2 f2 (k0_off1 k) (k0_off1_inb i k k0_h1)) (xgR arg2 f2 (k0_off20 k) (k0_off20_inb i k k0_h1)) (gR arg3 f3 18)⟩, ⟨Rect.unit (s := S256x7168) (k0_off19 k) S32x128.size (k0_off19_inb i k k0_h1), codT (rR arg2 f2 (k0_off1 k) (k0_off1_inb i k k0_h1)) (xgR arg2 f2 (k0_off19 k) (k0_off19_inb i k k0_h1)) (gR arg3 f3 17)⟩, ⟨Rect.unit (s := S256x7168) (k0_off18 k) S32x128.size (k0_off18_inb i k k0_h1), codT (rR arg2 f2 (k0_off1 k) (k0_off1_inb i k k0_h1)) (xgR arg2 f2 (k0_off18 k) (k0_off18_inb i k k0_h1)) (gR arg3 f3 16)⟩, ⟨Rect.unit (s := S256x7168) (k0_off17 k) S32x128.size (k0_off17_inb i k k0_h1), codT (rR arg2 f2 (k0_off1 k) (k0_off1_inb i k k0_h1)) (xgR arg2 f2 (k0_off17 k) (k0_off17_inb i k k0_h1)) (gR arg3 f3 15)⟩, ⟨Rect.unit (s := S256x7168) (k0_off16 k) S32x128.size (k0_off16_inb i k k0_h1), codT (rR arg2 f2 (k0_off1 k) (k0_off1_inb i k k0_h1)) (xgR arg2 f2 (k0_off16 k) (k0_off16_inb i k k0_h1)) (gR arg3 f3 14)⟩, ⟨Rect.unit (s := S256x7168) (k0_off15 k) S32x128.size (k0_off15_inb i k k0_h1), codT (rR arg2 f2 (k0_off1 k) (k0_off1_inb i k k0_h1)) (xgR arg2 f2 (k0_off15 k) (k0_off15_inb i k k0_h1)) (gR arg3 f3 13)⟩, ⟨Rect.unit (s := S256x7168) (k0_off14 k) S32x128.size (k0_off14_inb i k k0_h1), codT (rR arg2 f2 (k0_off1 k) (k0_off1_inb i k k0_h1)) (xgR arg2 f2 (k0_off14 k) (k0_off14_inb i k k0_h1)) (gR arg3 f3 12)⟩, ⟨Rect.unit (s := S256x7168) (k0_off13 k) S32x128.size (k0_off13_inb i k k0_h1), codT (rR arg2 f2 (k0_off1 k) (k0_off1_inb i k k0_h1)) (xgR arg2 f2 (k0_off13 k) (k0_off13_inb i k k0_h1)) (gR arg3 f3 11)⟩, ⟨Rect.unit (s := S256x7168) (k0_off12 k) S32x128.size (k0_off12_inb i k k0_h1), codT (rR arg2 f2 (k0_off1 k) (k0_off1_inb i k k0_h1)) (xgR arg2 f2 (k0_off12 k) (k0_off12_inb i k k0_h1)) (gR arg3 f3 10)⟩, ⟨Rect.unit (s := S256x7168) (k0_off11 k) S32x128.size (k0_off11_inb i k k0_h1), codT (rR arg2 f2 (k0_off1 k) (k0_off1_inb i k k0_h1)) (xgR arg2 f2 (k0_off11 k) (k0_off11_inb i k k0_h1)) (gR arg3 f3 9)⟩, ⟨Rect.unit (s := S256x7168) (k0_off10 k) S32x128.size (k0_off10_inb i k k0_h1), codT (rR arg2 f2 (k0_off1 k) (k0_off1_inb i k k0_h1)) (xgR arg2 f2 (k0_off10 k) (k0_off10_inb i k k0_h1)) (gR arg3 f3 8)⟩, ⟨Rect.unit (s := S256x7168) (k0_off9 k) S32x128.size (k0_off9_inb i k k0_h1), codT (rR arg2 f2 (k0_off1 k) (k0_off1_inb i k k0_h1)) (xgR arg2 f2 (k0_off9 k) (k0_off9_inb i k k0_h1)) (gR arg3 f3 7)⟩, ⟨Rect.unit (s := S256x7168) (k0_off8 k) S32x128.size (k0_off8_inb i k k0_h1), codT (rR arg2 f2 (k0_off1 k) (k0_off1_inb i k k0_h1)) (xgR arg2 f2 (k0_off8 k) (k0_off8_inb i k k0_h1)) (gR arg3 f3 6)⟩, ⟨Rect.unit (s := S256x7168) (k0_off7 k) S32x128.size (k0_off7_inb i k k0_h1), codT (rR arg2 f2 (k0_off1 k) (k0_off1_inb i k k0_h1)) (xgR arg2 f2 (k0_off7 k) (k0_off7_inb i k k0_h1)) (gR arg3 f3 5)⟩, ⟨Rect.unit (s := S256x7168) (k0_off6 k) S32x128.size (k0_off6_inb i k k0_h1), codT (rR arg2 f2 (k0_off1 k) (k0_off1_inb i k k0_h1)) (xgR arg2 f2 (k0_off6 k) (k0_off6_inb i k k0_h1)) (gR arg3 f3 4)⟩, ⟨Rect.unit (s := S256x7168) (k0_off5 k) S32x128.size (k0_off5_inb i k k0_h1), codT (rR arg2 f2 (k0_off1 k) (k0_off1_inb i k k0_h1)) (xgR arg2 f2 (k0_off5 k) (k0_off5_inb i k k0_h1)) (gR arg3 f3 3)⟩, ⟨Rect.unit (s := S256x7168) (k0_off4 k) S32x128.size (k0_off4_inb i k k0_h1), codT (rR arg2 f2 (k0_off1 k) (k0_off1_inb i k k0_h1)) (xgR arg2 f2 (k0_off4 k) (k0_off4_inb i k k0_h1)) (gR arg3 f3 2)⟩, ⟨Rect.unit (s := S256x7168) (k0_off3 k) S32x128.size (k0_off3_inb i k k0_h1), codT (rR arg2 f2 (k0_off1 k) (k0_off1_inb i k k0_h1)) (xgR arg2 f2 (k0_off3 k) (k0_off3_inb i k k0_h1)) (gR arg3 f3 1)⟩, ⟨Rect.unit (s := S256x7168) (k0_off2 k) S32x128.size (k0_off2_inb i k k0_h1), codT (rR arg2 f2 (k0_off1 k) (k0_off1_inb i k k0_h1)) (xgR arg2 f2 (k0_off2 k) (k0_off2_inb i k k0_h1)) (gR arg3 f3 0)⟩]

/-- The dequantised input a trip stores, last group first. -/
def xqL : List (View.Piece (Elt F) S256x7168 .bf16) := [⟨Rect.unit (s := S256x7168) (k0_off57 k) S32x128.size (k0_off57_inb i k k0_h1), xqT (rR arg2 f2 (k0_off1 k) (k0_off1_inb i k k0_h1)) (xgR arg2 f2 (k0_off57 k) (k0_off57_inb i k k0_h1)) (gR arg3 f3 55)⟩, ⟨Rect.unit (s := S256x7168) (k0_off56 k) S32x128.size (k0_off56_inb i k k0_h1), xqT (rR arg2 f2 (k0_off1 k) (k0_off1_inb i k k0_h1)) (xgR arg2 f2 (k0_off56 k) (k0_off56_inb i k k0_h1)) (gR arg3 f3 54)⟩, ⟨Rect.unit (s := S256x7168) (k0_off55 k) S32x128.size (k0_off55_inb i k k0_h1), xqT (rR arg2 f2 (k0_off1 k) (k0_off1_inb i k k0_h1)) (xgR arg2 f2 (k0_off55 k) (k0_off55_inb i k k0_h1)) (gR arg3 f3 53)⟩, ⟨Rect.unit (s := S256x7168) (k0_off54 k) S32x128.size (k0_off54_inb i k k0_h1), xqT (rR arg2 f2 (k0_off1 k) (k0_off1_inb i k k0_h1)) (xgR arg2 f2 (k0_off54 k) (k0_off54_inb i k k0_h1)) (gR arg3 f3 52)⟩, ⟨Rect.unit (s := S256x7168) (k0_off53 k) S32x128.size (k0_off53_inb i k k0_h1), xqT (rR arg2 f2 (k0_off1 k) (k0_off1_inb i k k0_h1)) (xgR arg2 f2 (k0_off53 k) (k0_off53_inb i k k0_h1)) (gR arg3 f3 51)⟩, ⟨Rect.unit (s := S256x7168) (k0_off52 k) S32x128.size (k0_off52_inb i k k0_h1), xqT (rR arg2 f2 (k0_off1 k) (k0_off1_inb i k k0_h1)) (xgR arg2 f2 (k0_off52 k) (k0_off52_inb i k k0_h1)) (gR arg3 f3 50)⟩, ⟨Rect.unit (s := S256x7168) (k0_off51 k) S32x128.size (k0_off51_inb i k k0_h1), xqT (rR arg2 f2 (k0_off1 k) (k0_off1_inb i k k0_h1)) (xgR arg2 f2 (k0_off51 k) (k0_off51_inb i k k0_h1)) (gR arg3 f3 49)⟩, ⟨Rect.unit (s := S256x7168) (k0_off50 k) S32x128.size (k0_off50_inb i k k0_h1), xqT (rR arg2 f2 (k0_off1 k) (k0_off1_inb i k k0_h1)) (xgR arg2 f2 (k0_off50 k) (k0_off50_inb i k k0_h1)) (gR arg3 f3 48)⟩, ⟨Rect.unit (s := S256x7168) (k0_off49 k) S32x128.size (k0_off49_inb i k k0_h1), xqT (rR arg2 f2 (k0_off1 k) (k0_off1_inb i k k0_h1)) (xgR arg2 f2 (k0_off49 k) (k0_off49_inb i k k0_h1)) (gR arg3 f3 47)⟩, ⟨Rect.unit (s := S256x7168) (k0_off48 k) S32x128.size (k0_off48_inb i k k0_h1), xqT (rR arg2 f2 (k0_off1 k) (k0_off1_inb i k k0_h1)) (xgR arg2 f2 (k0_off48 k) (k0_off48_inb i k k0_h1)) (gR arg3 f3 46)⟩, ⟨Rect.unit (s := S256x7168) (k0_off47 k) S32x128.size (k0_off47_inb i k k0_h1), xqT (rR arg2 f2 (k0_off1 k) (k0_off1_inb i k k0_h1)) (xgR arg2 f2 (k0_off47 k) (k0_off47_inb i k k0_h1)) (gR arg3 f3 45)⟩, ⟨Rect.unit (s := S256x7168) (k0_off46 k) S32x128.size (k0_off46_inb i k k0_h1), xqT (rR arg2 f2 (k0_off1 k) (k0_off1_inb i k k0_h1)) (xgR arg2 f2 (k0_off46 k) (k0_off46_inb i k k0_h1)) (gR arg3 f3 44)⟩, ⟨Rect.unit (s := S256x7168) (k0_off45 k) S32x128.size (k0_off45_inb i k k0_h1), xqT (rR arg2 f2 (k0_off1 k) (k0_off1_inb i k k0_h1)) (xgR arg2 f2 (k0_off45 k) (k0_off45_inb i k k0_h1)) (gR arg3 f3 43)⟩, ⟨Rect.unit (s := S256x7168) (k0_off44 k) S32x128.size (k0_off44_inb i k k0_h1), xqT (rR arg2 f2 (k0_off1 k) (k0_off1_inb i k k0_h1)) (xgR arg2 f2 (k0_off44 k) (k0_off44_inb i k k0_h1)) (gR arg3 f3 42)⟩, ⟨Rect.unit (s := S256x7168) (k0_off43 k) S32x128.size (k0_off43_inb i k k0_h1), xqT (rR arg2 f2 (k0_off1 k) (k0_off1_inb i k k0_h1)) (xgR arg2 f2 (k0_off43 k) (k0_off43_inb i k k0_h1)) (gR arg3 f3 41)⟩, ⟨Rect.unit (s := S256x7168) (k0_off42 k) S32x128.size (k0_off42_inb i k k0_h1), xqT (rR arg2 f2 (k0_off1 k) (k0_off1_inb i k k0_h1)) (xgR arg2 f2 (k0_off42 k) (k0_off42_inb i k k0_h1)) (gR arg3 f3 40)⟩, ⟨Rect.unit (s := S256x7168) (k0_off41 k) S32x128.size (k0_off41_inb i k k0_h1), xqT (rR arg2 f2 (k0_off1 k) (k0_off1_inb i k k0_h1)) (xgR arg2 f2 (k0_off41 k) (k0_off41_inb i k k0_h1)) (gR arg3 f3 39)⟩, ⟨Rect.unit (s := S256x7168) (k0_off40 k) S32x128.size (k0_off40_inb i k k0_h1), xqT (rR arg2 f2 (k0_off1 k) (k0_off1_inb i k k0_h1)) (xgR arg2 f2 (k0_off40 k) (k0_off40_inb i k k0_h1)) (gR arg3 f3 38)⟩, ⟨Rect.unit (s := S256x7168) (k0_off39 k) S32x128.size (k0_off39_inb i k k0_h1), xqT (rR arg2 f2 (k0_off1 k) (k0_off1_inb i k k0_h1)) (xgR arg2 f2 (k0_off39 k) (k0_off39_inb i k k0_h1)) (gR arg3 f3 37)⟩, ⟨Rect.unit (s := S256x7168) (k0_off38 k) S32x128.size (k0_off38_inb i k k0_h1), xqT (rR arg2 f2 (k0_off1 k) (k0_off1_inb i k k0_h1)) (xgR arg2 f2 (k0_off38 k) (k0_off38_inb i k k0_h1)) (gR arg3 f3 36)⟩, ⟨Rect.unit (s := S256x7168) (k0_off37 k) S32x128.size (k0_off37_inb i k k0_h1), xqT (rR arg2 f2 (k0_off1 k) (k0_off1_inb i k k0_h1)) (xgR arg2 f2 (k0_off37 k) (k0_off37_inb i k k0_h1)) (gR arg3 f3 35)⟩, ⟨Rect.unit (s := S256x7168) (k0_off36 k) S32x128.size (k0_off36_inb i k k0_h1), xqT (rR arg2 f2 (k0_off1 k) (k0_off1_inb i k k0_h1)) (xgR arg2 f2 (k0_off36 k) (k0_off36_inb i k k0_h1)) (gR arg3 f3 34)⟩, ⟨Rect.unit (s := S256x7168) (k0_off35 k) S32x128.size (k0_off35_inb i k k0_h1), xqT (rR arg2 f2 (k0_off1 k) (k0_off1_inb i k k0_h1)) (xgR arg2 f2 (k0_off35 k) (k0_off35_inb i k k0_h1)) (gR arg3 f3 33)⟩, ⟨Rect.unit (s := S256x7168) (k0_off34 k) S32x128.size (k0_off34_inb i k k0_h1), xqT (rR arg2 f2 (k0_off1 k) (k0_off1_inb i k k0_h1)) (xgR arg2 f2 (k0_off34 k) (k0_off34_inb i k k0_h1)) (gR arg3 f3 32)⟩, ⟨Rect.unit (s := S256x7168) (k0_off33 k) S32x128.size (k0_off33_inb i k k0_h1), xqT (rR arg2 f2 (k0_off1 k) (k0_off1_inb i k k0_h1)) (xgR arg2 f2 (k0_off33 k) (k0_off33_inb i k k0_h1)) (gR arg3 f3 31)⟩, ⟨Rect.unit (s := S256x7168) (k0_off32 k) S32x128.size (k0_off32_inb i k k0_h1), xqT (rR arg2 f2 (k0_off1 k) (k0_off1_inb i k k0_h1)) (xgR arg2 f2 (k0_off32 k) (k0_off32_inb i k k0_h1)) (gR arg3 f3 30)⟩, ⟨Rect.unit (s := S256x7168) (k0_off31 k) S32x128.size (k0_off31_inb i k k0_h1), xqT (rR arg2 f2 (k0_off1 k) (k0_off1_inb i k k0_h1)) (xgR arg2 f2 (k0_off31 k) (k0_off31_inb i k k0_h1)) (gR arg3 f3 29)⟩, ⟨Rect.unit (s := S256x7168) (k0_off30 k) S32x128.size (k0_off30_inb i k k0_h1), xqT (rR arg2 f2 (k0_off1 k) (k0_off1_inb i k k0_h1)) (xgR arg2 f2 (k0_off30 k) (k0_off30_inb i k k0_h1)) (gR arg3 f3 28)⟩, ⟨Rect.unit (s := S256x7168) (k0_off29 k) S32x128.size (k0_off29_inb i k k0_h1), xqT (rR arg2 f2 (k0_off1 k) (k0_off1_inb i k k0_h1)) (xgR arg2 f2 (k0_off29 k) (k0_off29_inb i k k0_h1)) (gR arg3 f3 27)⟩, ⟨Rect.unit (s := S256x7168) (k0_off28 k) S32x128.size (k0_off28_inb i k k0_h1), xqT (rR arg2 f2 (k0_off1 k) (k0_off1_inb i k k0_h1)) (xgR arg2 f2 (k0_off28 k) (k0_off28_inb i k k0_h1)) (gR arg3 f3 26)⟩, ⟨Rect.unit (s := S256x7168) (k0_off27 k) S32x128.size (k0_off27_inb i k k0_h1), xqT (rR arg2 f2 (k0_off1 k) (k0_off1_inb i k k0_h1)) (xgR arg2 f2 (k0_off27 k) (k0_off27_inb i k k0_h1)) (gR arg3 f3 25)⟩, ⟨Rect.unit (s := S256x7168) (k0_off26 k) S32x128.size (k0_off26_inb i k k0_h1), xqT (rR arg2 f2 (k0_off1 k) (k0_off1_inb i k k0_h1)) (xgR arg2 f2 (k0_off26 k) (k0_off26_inb i k k0_h1)) (gR arg3 f3 24)⟩, ⟨Rect.unit (s := S256x7168) (k0_off25 k) S32x128.size (k0_off25_inb i k k0_h1), xqT (rR arg2 f2 (k0_off1 k) (k0_off1_inb i k k0_h1)) (xgR arg2 f2 (k0_off25 k) (k0_off25_inb i k k0_h1)) (gR arg3 f3 23)⟩, ⟨Rect.unit (s := S256x7168) (k0_off24 k) S32x128.size (k0_off24_inb i k k0_h1), xqT (rR arg2 f2 (k0_off1 k) (k0_off1_inb i k k0_h1)) (xgR arg2 f2 (k0_off24 k) (k0_off24_inb i k k0_h1)) (gR arg3 f3 22)⟩, ⟨Rect.unit (s := S256x7168) (k0_off23 k) S32x128.size (k0_off23_inb i k k0_h1), xqT (rR arg2 f2 (k0_off1 k) (k0_off1_inb i k k0_h1)) (xgR arg2 f2 (k0_off23 k) (k0_off23_inb i k k0_h1)) (gR arg3 f3 21)⟩, ⟨Rect.unit (s := S256x7168) (k0_off22 k) S32x128.size (k0_off22_inb i k k0_h1), xqT (rR arg2 f2 (k0_off1 k) (k0_off1_inb i k k0_h1)) (xgR arg2 f2 (k0_off22 k) (k0_off22_inb i k k0_h1)) (gR arg3 f3 20)⟩, ⟨Rect.unit (s := S256x7168) (k0_off21 k) S32x128.size (k0_off21_inb i k k0_h1), xqT (rR arg2 f2 (k0_off1 k) (k0_off1_inb i k k0_h1)) (xgR arg2 f2 (k0_off21 k) (k0_off21_inb i k k0_h1)) (gR arg3 f3 19)⟩, ⟨Rect.unit (s := S256x7168) (k0_off20 k) S32x128.size (k0_off20_inb i k k0_h1), xqT (rR arg2 f2 (k0_off1 k) (k0_off1_inb i k k0_h1)) (xgR arg2 f2 (k0_off20 k) (k0_off20_inb i k k0_h1)) (gR arg3 f3 18)⟩, ⟨Rect.unit (s := S256x7168) (k0_off19 k) S32x128.size (k0_off19_inb i k k0_h1), xqT (rR arg2 f2 (k0_off1 k) (k0_off1_inb i k k0_h1)) (xgR arg2 f2 (k0_off19 k) (k0_off19_inb i k k0_h1)) (gR arg3 f3 17)⟩, ⟨Rect.unit (s := S256x7168) (k0_off18 k) S32x128.size (k0_off18_inb i k k0_h1), xqT (rR arg2 f2 (k0_off1 k) (k0_off1_inb i k k0_h1)) (xgR arg2 f2 (k0_off18 k) (k0_off18_inb i k k0_h1)) (gR arg3 f3 16)⟩, ⟨Rect.unit (s := S256x7168) (k0_off17 k) S32x128.size (k0_off17_inb i k k0_h1), xqT (rR arg2 f2 (k0_off1 k) (k0_off1_inb i k k0_h1)) (xgR arg2 f2 (k0_off17 k) (k0_off17_inb i k k0_h1)) (gR arg3 f3 15)⟩, ⟨Rect.unit (s := S256x7168) (k0_off16 k) S32x128.size (k0_off16_inb i k k0_h1), xqT (rR arg2 f2 (k0_off1 k) (k0_off1_inb i k k0_h1)) (xgR arg2 f2 (k0_off16 k) (k0_off16_inb i k k0_h1)) (gR arg3 f3 14)⟩, ⟨Rect.unit (s := S256x7168) (k0_off15 k) S32x128.size (k0_off15_inb i k k0_h1), xqT (rR arg2 f2 (k0_off1 k) (k0_off1_inb i k k0_h1)) (xgR arg2 f2 (k0_off15 k) (k0_off15_inb i k k0_h1)) (gR arg3 f3 13)⟩, ⟨Rect.unit (s := S256x7168) (k0_off14 k) S32x128.size (k0_off14_inb i k k0_h1), xqT (rR arg2 f2 (k0_off1 k) (k0_off1_inb i k k0_h1)) (xgR arg2 f2 (k0_off14 k) (k0_off14_inb i k k0_h1)) (gR arg3 f3 12)⟩, ⟨Rect.unit (s := S256x7168) (k0_off13 k) S32x128.size (k0_off13_inb i k k0_h1), xqT (rR arg2 f2 (k0_off1 k) (k0_off1_inb i k k0_h1)) (xgR arg2 f2 (k0_off13 k) (k0_off13_inb i k k0_h1)) (gR arg3 f3 11)⟩, ⟨Rect.unit (s := S256x7168) (k0_off12 k) S32x128.size (k0_off12_inb i k k0_h1), xqT (rR arg2 f2 (k0_off1 k) (k0_off1_inb i k k0_h1)) (xgR arg2 f2 (k0_off12 k) (k0_off12_inb i k k0_h1)) (gR arg3 f3 10)⟩, ⟨Rect.unit (s := S256x7168) (k0_off11 k) S32x128.size (k0_off11_inb i k k0_h1), xqT (rR arg2 f2 (k0_off1 k) (k0_off1_inb i k k0_h1)) (xgR arg2 f2 (k0_off11 k) (k0_off11_inb i k k0_h1)) (gR arg3 f3 9)⟩, ⟨Rect.unit (s := S256x7168) (k0_off10 k) S32x128.size (k0_off10_inb i k k0_h1), xqT (rR arg2 f2 (k0_off1 k) (k0_off1_inb i k k0_h1)) (xgR arg2 f2 (k0_off10 k) (k0_off10_inb i k k0_h1)) (gR arg3 f3 8)⟩, ⟨Rect.unit (s := S256x7168) (k0_off9 k) S32x128.size (k0_off9_inb i k k0_h1), xqT (rR arg2 f2 (k0_off1 k) (k0_off1_inb i k k0_h1)) (xgR arg2 f2 (k0_off9 k) (k0_off9_inb i k k0_h1)) (gR arg3 f3 7)⟩, ⟨Rect.unit (s := S256x7168) (k0_off8 k) S32x128.size (k0_off8_inb i k k0_h1), xqT (rR arg2 f2 (k0_off1 k) (k0_off1_inb i k k0_h1)) (xgR arg2 f2 (k0_off8 k) (k0_off8_inb i k k0_h1)) (gR arg3 f3 6)⟩, ⟨Rect.unit (s := S256x7168) (k0_off7 k) S32x128.size (k0_off7_inb i k k0_h1), xqT (rR arg2 f2 (k0_off1 k) (k0_off1_inb i k k0_h1)) (xgR arg2 f2 (k0_off7 k) (k0_off7_inb i k k0_h1)) (gR arg3 f3 5)⟩, ⟨Rect.unit (s := S256x7168) (k0_off6 k) S32x128.size (k0_off6_inb i k k0_h1), xqT (rR arg2 f2 (k0_off1 k) (k0_off1_inb i k k0_h1)) (xgR arg2 f2 (k0_off6 k) (k0_off6_inb i k k0_h1)) (gR arg3 f3 4)⟩, ⟨Rect.unit (s := S256x7168) (k0_off5 k) S32x128.size (k0_off5_inb i k k0_h1), xqT (rR arg2 f2 (k0_off1 k) (k0_off1_inb i k k0_h1)) (xgR arg2 f2 (k0_off5 k) (k0_off5_inb i k k0_h1)) (gR arg3 f3 3)⟩, ⟨Rect.unit (s := S256x7168) (k0_off4 k) S32x128.size (k0_off4_inb i k k0_h1), xqT (rR arg2 f2 (k0_off1 k) (k0_off1_inb i k k0_h1)) (xgR arg2 f2 (k0_off4 k) (k0_off4_inb i k k0_h1)) (gR arg3 f3 2)⟩, ⟨Rect.unit (s := S256x7168) (k0_off3 k) S32x128.size (k0_off3_inb i k k0_h1), xqT (rR arg2 f2 (k0_off1 k) (k0_off1_inb i k k0_h1)) (xgR arg2 f2 (k0_off3 k) (k0_off3_inb i k k0_h1)) (gR arg3 f3 1)⟩, ⟨Rect.unit (s := S256x7168) (k0_off2 k) S32x128.size (k0_off2_inb i k k0_h1), xqT (rR arg2 f2 (k0_off1 k) (k0_off1_inb i k k0_h1)) (xgR arg2 f2 (k0_off2 k) (k0_off2_inb i k k0_h1)) (gR arg3 f3 0)⟩]

/-- The scales a trip stores. -/
def sclL : List (View.Piece (Elt F) S256x56 .f32) := [⟨Rect.unit (s := S256x56) (k0_off58 k) S32x56.size (k0_off58_inb i k k0_h1), scl56 i arg2 arg3 k0_h1 f2 f3 k⟩]

end

end Cert.KernelIdeal.Hand
-- ==== Proof.TripEq.lean ====
/- A trip of the quantising loop stores the lists of `TripTerms`. -/
module

public import proofs.«01_k».proof.Proof.TripTerms

@[expose] public section

set_option maxRecDepth 65536
set_option maxHeartbeats 4000000

noncomputable section

namespace Cert.KernelIdeal.Hand

open Cert.KernelIdeal Cert.KernelIdeal.Gen Idealize.ShloMosaic Idealize.ShloMosaic.TcCoe

variable {F : FTy → Type} [FloatOps F]

/-- The codes a trip stores. -/
theorem trip_cod (𝒱 : Variants) (c : Dev nD) (bd : Option 𝒱.V) (i : grid0.Coords) (arg1 : Memref sig .tc .smem S192x56 .f32) (harg1 : arg1.IsWhole) (arg2 : Memref sig .tc .vmem S256x7168 .bf16) (harg2 : arg2.IsWhole) (arg3 : Memref sig .tc .vmem S1x7168 .f32) (harg3 : arg3.IsWhole) (arg4 : Memref sig .tc .vmem S1024x7168 .fp8e4m3) (harg4 : arg4.IsWhole) (arg5 : Memref sig .tc .vmem S256x1024 .bf16) (harg5 : arg5.IsWhole) (arg6 : Memref sig .tc .vmem S256x7168 .fp8e4m3) (harg6 : arg6.IsWhole) (arg7 : Memref sig .tc .vmem S256x56 .f32) (harg7 : arg7.IsWhole) (arg8 : Memref sig .tc .vmem S256x7168 .bf16) (harg8 : arg8.IsWhole) (k0_h1 : k0_cond1 i = 1#1) (X_arg2 : BufTy.Contents (Elt F) arg2.view.ty) (X_arg3 : BufTy.Contents (Elt F) arg3.view.ty) (k : Fin k0_t1_loop.trips) :
    (trip_k0_t1 (F := F) 𝒱 c bd i arg1 harg1 arg2 harg2 arg3 harg3 arg4 harg4 arg5 harg5 arg6 harg6 arg7 harg7 arg8 harg8 k0_h1 X_arg2 X_arg3 k).1 = codL i arg2 arg3 k0_h1 X_arg2 X_arg3 k := by
  unfold trip_k0_t1
  dsimp only
  rfl

/-- The scales a trip stores. -/
theorem trip_scl (𝒱 : Variants) (c : Dev nD) (bd : Option 𝒱.V) (i : grid0.Coords) (arg1 : Memref sig .tc .smem S192x56 .f32) (harg1 : arg1.IsWhole) (arg2 : Memref sig .tc .vmem S256x7168 .bf16) (harg2 : arg2.IsWhole) (arg3 : Memref sig .tc .vmem S1x7168 .f32) (harg3 : arg3.IsWhole) (arg4 : Memref sig .tc .vmem S1024x7168 .fp8e4m3) (harg4 : arg4.IsWhole) (arg5 : Memref sig .tc .vmem S256x1024 .bf16) (harg5 : arg5.IsWhole) (arg6 : Memref sig .tc .vmem S256x7168 .fp8e4m3) (harg6 : arg6.IsWhole) (arg7 : Memref sig .tc .vmem S256x56 .f32) (harg7 : arg7.IsWhole) (arg8 : Memref sig .tc .vmem S256x7168 .bf16) (harg8 : arg8.IsWhole) (k0_h1 : k0_cond1 i = 1#1) (X_arg2 : BufTy.Contents (Elt F) arg2.view.ty) (X_arg3 : BufTy.Contents (Elt F) arg3.view.ty) (k : Fin k0_t1_loop.trips) :
    (trip_k0_t1 (F := F) 𝒱 c bd i arg1 harg1 arg2 harg2 arg3 harg3 arg4 harg4 arg5 harg5 arg6 harg6 arg7 harg7 arg8 harg8 k0_h1 X_arg2 X_arg3 k).2.1 = sclL i arg2 arg3 k0_h1 X_arg2 X_arg3 k := by
  unfold trip_k0_t1
  dsimp only
  rfl

/-- The dequantised input a trip stores. -/
theorem trip_xq (𝒱 : Variants) (c : Dev nD) (bd : Option 𝒱.V) (i : grid0.Coords) (arg1 : Memref sig .tc .smem S192x56 .f32) (harg1 : arg1.IsWhole) (arg2 : Memref sig .tc .vmem S256x7168 .bf16) (harg2 : arg2.IsWhole) (arg3 : Memref sig .tc .vmem S1x7168 .f32) (harg3 : arg3.IsWhole) (arg4 : Memref sig .tc .vmem S1024x7168 .fp8e4m3) (harg4 : arg4.IsWhole) (arg5 : Memref sig .tc .vmem S256x1024 .bf16) (harg5 : arg5.IsWhole) (arg6 : Memref sig .tc .vmem S256x7168 .fp8e4m3) (harg6 : arg6.IsWhole) (arg7 : Memref sig .tc .vmem S256x56 .f32) (harg7 : arg7.IsWhole) (arg8 : Memref sig .tc .vmem S256x7168 .bf16) (harg8 : arg8.IsWhole) (k0_h1 : k0_cond1 i = 1#1) (X_arg2 : BufTy.Contents (Elt F) arg2.view.ty) (X_arg3 : BufTy.Contents (Elt F) arg3.view.ty) (k : Fin k0_t1_loop.trips) :
    (trip_k0_t1 (F := F) 𝒱 c bd i arg1 harg1 arg2 harg2 arg3 harg3 arg4 harg4 arg5 harg5 arg6 harg6 arg7 harg7 arg8 harg8 k0_h1 X_arg2 X_arg3 k).2.2.1 = xqL i arg2 arg3 k0_h1 X_arg2 X_arg3 k := by
  unfold trip_k0_t1
  dsimp only
  rfl

end Cert.KernelIdeal.Hand
-- ==== Proof.Scale.lean ====
/-
  The scale of a group, at the ideal instance: the kernel picks the greatest exponent pattern whose float is not above
  `v` (a maximum over 256 lanes of integer patterns), adds one to the exponent, and reads the pattern as a float; the
  reference takes `2 ^ (⌊log₂ v⌋ + 1)`. For `0 ≤ v < 2 ^ 126` the two agree, and so do the inverses
  (`scale_inv`).
-/
module

public import Idealize.ShloMosaic.PureOps.Ideal
public import Idealize.ShloMosaic.PureOps.Ideal.Laws
public import Idealize.ShloMosaic.Lib.Pipeline.Value
public import Idealize.ShloMosaic.Lib.ValueIdx

@[expose] public section

set_option maxRecDepth 16384

noncomputable section

namespace Cert.Scale

open Idealize.ShloMosaic

/-- The pattern with exponent field `k` and nothing else. -/
def lane (k : Fin 256) : BitVec 32 := IntOp.shli .vector (BitVec.ofNat 32 k.val) 23#32

theorem lane_toNat : ∀ k : Fin 256, (lane k).toNat = k.val * 8388608 := by decide +kernel

/-- A word with exponent field `i` (neither all zeros nor all ones), no sign and no significand is `2 ^ (i - 127)`. -/
theorem ofBits_pow (b : BitVec 32) (i : ℕ) (hb : b.toNat = i * 8388608) (h1 : 1 ≤ i) (h2 : i ≤ 254) :
    Ideal.ofBits .f32 b = (((2 : ℝ) ^ ((i : ℤ) - 127) : ℝ) : EReal) := by
  have e1 : (b.extractLsb' 23 8).toNat = i := by
    rw [BitVec.extractLsb'_toNat, hb, Nat.shiftRight_eq_div_pow]; omega
  have e0 : (b.extractLsb' 0 23).toNat = 0 := by
    rw [BitVec.extractLsb'_toNat, hb, Nat.shiftRight_eq_div_pow]; omega
  have e2 : (b.extractLsb' 31 1 == 1#1) = false := by
    have : (b.extractLsb' 31 1).toNat = 0 := by
      rw [BitVec.extractLsb'_toNat, hb, Nat.shiftRight_eq_div_pow]; omega
    rw [beq_eq_false_iff_ne]; intro h; rw [h] at this; exact absurd this (by decide)
  show Ideal.ieee 8 23 b = _
  unfold Ideal.ieee
  simp only [Nat.reduceAdd, e0, e1, e2]
  rw [if_neg (by omega), if_neg (by omega)]
  congr 1
  have : ((i : ℤ) - (2 ^ (8 - 1) - 1) - (23 : ℕ)) = ((i : ℤ) - 127) - 23 := by norm_num
  rw [this, zpow_sub₀ (by norm_num : (2 : ℝ) ≠ 0) ((i : ℤ) - 127) 23]
  norm_num
  field_simp

theorem ofBits_zero : Ideal.ofBits .f32 0x00000000#32 = 0 := by simp [Ideal.ofBits, Ideal.ieee]
theorem ofBits_top (b : BitVec 32) (hb : b.toNat = 255 * 8388608) : Ideal.ofBits .f32 b = ⊤ := by
  have : b = 0x7F800000#32 := by apply BitVec.eq_of_toNat_eq; rw [hb]; rfl
  subst this; simp [Ideal.ofBits, Ideal.ieee]

/-- A maximum of signed words over a finite set that attains its greatest value at `k0`. -/
theorem fold_maxsi {ι : Type} [Fintype ι] (f : ι → BitVec 32) (b : BitVec 32) (k0 : ι)
    (h : ∀ k, (f k).toInt ≤ (f k0).toInt) (hb : b.toInt ≤ (f k0).toInt) :
    Finset.univ.fold IntOp.maxsi b f = f k0 := by
  classical
  have key : ∀ s : Finset ι, (k0 ∈ s → s.fold IntOp.maxsi b f = f k0)
      ∧ (s.fold IntOp.maxsi b f).toInt ≤ (f k0).toInt := by
    intro s
    induction s using Finset.induction_on with
    | empty => exact ⟨by simp, by simpa using hb⟩
    | insert a s ha ih =>
      rw [Finset.fold_insert ha]
      have hm : IntOp.maxsi (f a) (s.fold IntOp.maxsi b f)
          = if (s.fold IntOp.maxsi b f).toInt < (f a).toInt then f a else s.fold IntOp.maxsi b f := by
        unfold IntOp.maxsi; simp only [BitVec.slt, decide_eq_true_eq]
      rw [hm]
      constructor
      · intro hmem
        rcases Finset.mem_insert.mp hmem with rfl | hs
        · split
          · rfl
          · rename_i hn
            exact BitVec.eq_of_toInt_eq (le_antisymm ih.2 (not_lt.mp hn))
        · rw [ih.1 hs, if_neg (not_lt.mpr (h a))]
      · split
        · exact h a
        · exact ih.2
  exact (key Finset.univ).1 (Finset.mem_univ _)

/-- The kernel's exponent pattern of `v`: the greatest lane whose float is not above `v`. -/
def kbits (v : EReal) : BitVec 32 :=
  Finset.univ.fold IntOp.maxsi 2147483648#32
    (fun k : Fin 256 => Scalar.select (Ideal.cmp .olt v (Ideal.ofBits .f32 (lane k))) 0#32 (lane k))

/-- The kernel's scale pattern. -/
def sbits (v : EReal) : BitVec 32 :=
  Scalar.select (IntOp.cmpi .eq (kbits v) 0#32) 1065353216#32 (IntOp.addi (kbits v) 8388608#32)

/-- The reference's exponent. -/
def eref (v : EReal) : EReal :=
  Scalar.select (Ideal.cmp .olt v (Ideal.ofBits .f32 0x00800000#32)) (Ideal.ofBits .f32 0x00000000#32)
    (Ideal.liftRound Int.floor (Ideal.div (Ideal.log v) (Ideal.log (Ideal.ofBits .f32 0x40000000#32)))
      + Ideal.ofBits .f32 0x3F800000#32)

theorem select_olt {α : Type} (x y : EReal) (a b : α) :
    Scalar.select (Ideal.cmp .olt x y) a b = if x < y then a else b := by
  unfold Scalar.select Ideal.cmp
  by_cases h : x < y <;> simp [h]

/-- With exponent field 0 below `2 ^ -126`, the pattern is zero. -/
theorem kbits_small (v : EReal) (h0 : 0 ≤ v) (h : v < (((2 : ℝ) ^ (-126 : ℤ) : ℝ) : EReal)) : kbits v = 0#32 := by
  unfold kbits
  have e : (fun k : Fin 256 => Scalar.select (Ideal.cmp .olt v (Ideal.ofBits .f32 (lane k))) 0#32 (lane k))
      = fun _ => 0#32 := by
    funext k
    rw [select_olt]
    by_cases hk : k.val = 0
    · have : lane k = 0#32 := by apply BitVec.eq_of_toNat_eq; rw [lane_toNat, hk]; rfl
      rw [this]; simp
    · rw [if_pos]
      by_cases h255 : k.val = 255
      · rw [ofBits_top _ (by rw [lane_toNat, h255])]
        exact lt_of_lt_of_le h le_top
      · rw [ofBits_pow _ k.val (lane_toNat k) (by omega) (by omega)]
        refine lt_of_lt_of_le h ?_
        rw [EReal.coe_le_coe_iff]
        exact zpow_le_zpow_right₀ (by norm_num) (by omega)
  rw [e]
  exact fold_maxsi (fun _ : Fin 256 => 0#32) _ 0 (fun _ => le_refl _) (by decide)

/-- In the binade `[2 ^ (i - 127), 2 ^ (i - 126))` the pattern has exponent field `i`. -/
theorem kbits_normal (v : EReal) (i : ℕ) (h1 : 1 ≤ i) (h2 : i ≤ 252)
    (hl : (((2 : ℝ) ^ ((i : ℤ) - 127) : ℝ) : EReal) ≤ v) (hu : v < (((2 : ℝ) ^ ((i : ℤ) - 126) : ℝ) : EReal)) :
    (kbits v).toNat = i * 8388608 := by
  unfold kbits
  set f : Fin 256 → BitVec 32 :=
    fun k => Scalar.select (Ideal.cmp .olt v (Ideal.ofBits .f32 (lane k))) 0#32 (lane k) with hf
  have hk0 : f ⟨i, by omega⟩ = lane ⟨i, by omega⟩ := by
    simp only [hf]
    rw [select_olt, if_neg]
    rw [ofBits_pow (lane ⟨i, by omega⟩) i (lane_toNat ⟨i, by omega⟩) h1 (by omega)]
    exact not_lt.mpr hl
  have hti : ∀ k : Fin 256, k.val ≤ 252 → (lane k).toInt = k.val * 8388608 := by
    intro k hk
    rw [BitVec.toInt_eq_toNat_of_lt (by rw [lane_toNat]; omega), lane_toNat]; push_cast; ring
  rw [fold_maxsi f _ ⟨i, by omega⟩, hk0, lane_toNat]
  · intro k
    rw [hk0, hti ⟨i, by omega⟩ h2]
    simp only [hf]
    rw [select_olt]
    split
    · show (0 : ℤ) ≤ _; positivity
    · rename_i hn
      by_cases hk : k.val ≤ i
      · rw [hti k (by omega)]
        have : ((k.val : ℤ)) ≤ i := by exact_mod_cast hk
        exact mul_le_mul_of_nonneg_right this (by norm_num)
      · exfalso; apply hn
        by_cases h255 : k.val = 255
        · rw [ofBits_top _ (by rw [lane_toNat, h255])]
          exact lt_of_lt_of_le hu le_top
        · rw [ofBits_pow _ k.val (lane_toNat k) (by omega) (by omega)]
          refine lt_of_lt_of_le hu ?_
          rw [EReal.coe_le_coe_iff]
          exact zpow_le_zpow_right₀ (by norm_num) (by omega)
  · rw [hk0, hti ⟨i, by omega⟩ h2]
    have : (2147483648#32 : BitVec 32).toInt = -2147483648 := by decide
    rw [this]; have : (0 : ℤ) ≤ (i : ℤ) * 8388608 := by positivity
    show (-2147483648 : ℤ) ≤ (i : ℤ) * 8388608
    omega

theorem exp2_int (e : ℤ) : Ideal.exp2 (((e : ℝ) : ℝ) : EReal) = (((2 : ℝ) ^ e : ℝ) : EReal) := by
  show ((Real.rpow 2 (e : ℝ) : ℝ) : EReal) = _
  congr 1
  exact Real.rpow_intCast 2 e

theorem ofBits_one : Ideal.ofBits .f32 0x3F800000#32 = ((1 : ℝ) : EReal) := by
  rw [ofBits_pow _ 127 (by decide) (by omega) (by omega)]; norm_num
theorem ofBits_two : Ideal.ofBits .f32 0x40000000#32 = ((2 : ℝ) : EReal) := by
  rw [ofBits_pow _ 128 (by decide) (by omega) (by omega)]; norm_num
theorem ofBits_tiny : Ideal.ofBits .f32 0x00800000#32 = (((2 : ℝ) ^ (-126 : ℤ) : ℝ) : EReal) := by
  rw [ofBits_pow _ 1 (by decide) (by omega) (by omega)]; norm_num

/-- The reference's exponent in the binade `[2 ^ k, 2 ^ (k + 1))`. -/
theorem eref_normal (r : ℝ) (k : ℤ) (hk : -126 ≤ k) (hl : (2 : ℝ) ^ k ≤ r) (hu : r < (2 : ℝ) ^ (k + 1)) :
    eref (r : EReal) = (((k + 1 : ℤ) : ℝ) : EReal) := by
  have hr : 0 < r := lt_of_lt_of_le (zpow_pos (by norm_num) k) hl
  unfold eref
  rw [select_olt, ofBits_tiny, if_neg, ofBits_two, ofBits_one]
  · have e1 : Ideal.log (r : EReal) = ((Real.log r : ℝ) : EReal) := by
      show (if r ≤ 0 then (⊥ : EReal) else (Real.log r : EReal)) = _
      rw [if_neg (not_le.mpr hr)]
    have e2 : Ideal.log ((2 : ℝ) : EReal) = ((Real.log 2 : ℝ) : EReal) := by
      show (if (2 : ℝ) ≤ 0 then (⊥ : EReal) else (Real.log 2 : EReal)) = _
      rw [if_neg (by norm_num)]
    have hlog2 : 0 < Real.log 2 := Real.log_pos (by norm_num)
    rw [e1, e2]
    unfold Ideal.div
    rw [if_neg (by exact_mod_cast hlog2.ne'), ← EReal.coe_inv, ← EReal.coe_mul]
    show (((⌊Real.log r * (Real.log 2)⁻¹⌋ : ℤ) : ℝ) : EReal) + ((1 : ℝ) : EReal) = _
    have hfl : ⌊Real.log r * (Real.log 2)⁻¹⌋ = k := by
      rw [Int.floor_eq_iff, ← div_eq_mul_inv]
      constructor
      · rw [le_div_iff₀ hlog2, ← Real.log_zpow]
        exact Real.log_le_log (zpow_pos (by norm_num) k) hl
      · rw [div_lt_iff₀ hlog2]
        have := Real.log_lt_log hr hu
        rw [Real.log_zpow] at this
        push_cast at this ⊢
        exact this
    rw [hfl, ← EReal.coe_add]
    congr 1; push_cast; rfl
  · rw [not_lt, EReal.coe_le_coe_iff]
    exact le_trans (zpow_le_zpow_right₀ (by norm_num) hk) hl

theorem eref_small (v : EReal) (h : v < (((2 : ℝ) ^ (-126 : ℤ) : ℝ) : EReal)) : eref v = 0 := by
  unfold eref; rw [select_olt, ofBits_tiny, if_pos h, ofBits_zero]

/-- THE SCALE AND ITS INVERSE AGREE: for `0 ≤ v < 2 ^ 126` the kernel's scale pattern read as a float is the
    reference's power of two, and so is the pattern of the inverse. -/
theorem scale_inv (v : EReal) (h0 : 0 ≤ v) (hv : v < (((2 : ℝ) ^ (126 : ℤ) : ℝ) : EReal)) :
    Ideal.ofBits .f32 (sbits v) = Ideal.exp2 (eref v)
      ∧ Ideal.ofBits .f32 (IntOp.subi 2130706432#32 (sbits v))
        = Ideal.exp2 (Ideal.ofBits .f32 0x00000000#32 - eref v) := by
  by_cases hs : v < (((2 : ℝ) ^ (-126 : ℤ) : ℝ) : EReal)
  · have hsb : sbits v = 1065353216#32 := by unfold sbits; rw [kbits_small v h0 hs]; decide
    rw [hsb, eref_small v hs, ofBits_zero]
    have e0 : Ideal.exp2 0 = ((1 : ℝ) : EReal) := by
      have := exp2_int 0; simpa using this
    have e1 : (0 : EReal) - 0 = 0 := by simp
    rw [e1, e0]
    exact ⟨ofBits_one, ofBits_one⟩
  · obtain ⟨r, rfl⟩ : ∃ r : ℝ, v = (r : EReal) := by
      induction v using EReal.rec with
      | bot => simp at h0
      | coe r => exact ⟨r, rfl⟩
      | top => simp at hv
    rw [not_lt, EReal.coe_le_coe_iff] at hs
    rw [EReal.coe_lt_coe_iff] at hv
    have hr : 0 < r := lt_of_lt_of_le (zpow_pos (by norm_num) _) hs
    obtain ⟨k, hl, hu⟩ := exists_mem_Ico_zpow hr (by norm_num : (1 : ℝ) < 2)
    have hk1 : -126 ≤ k := by
      by_contra hc
      have := lt_of_le_of_lt hs hu
      have h3 := zpow_le_zpow_right₀ (by norm_num : (1 : ℝ) ≤ 2) (show k + 1 ≤ -126 by omega)
      exact absurd (lt_of_lt_of_le this h3) (lt_irrefl _)
    have hk2 : k ≤ 125 := by
      by_contra hc
      have := lt_of_le_of_lt hl hv
      have h3 := zpow_le_zpow_right₀ (by norm_num : (1 : ℝ) ≤ 2) (show 126 ≤ k by omega)
      exact absurd (lt_of_lt_of_le this h3) (lt_irrefl _)
    obtain ⟨i, hi⟩ : ∃ i : ℕ, (i : ℤ) = k + 127 := ⟨(k + 127).toNat, by omega⟩
    have hb := kbits_normal (r : EReal) i (by omega) (by omega)
      (by rw [EReal.coe_le_coe_iff, show (i : ℤ) - 127 = k by omega]; exact hl)
      (by rw [EReal.coe_lt_coe_iff, show (i : ℤ) - 126 = k + 1 by omega]; exact hu)
    have hsb : (sbits (r : EReal)).toNat = (i + 1) * 8388608 := by
      have hne : IntOp.cmpi .eq (kbits (r : EReal)) 0#32 = 0#1 := by
        have : kbits (r : EReal) ≠ 0#32 := by
          intro h; rw [h] at hb; simp at hb; omega
        show BitVec.ofBool (kbits (r : EReal) == 0#32) = 0#1
        rw [show (kbits (r : EReal) == 0#32) = false from beq_eq_false_iff_ne.mpr this]; rfl
      unfold sbits
      rw [hne]
      show (IntOp.addi (kbits (r : EReal)) 8388608#32).toNat = _
      show (kbits (r : EReal) + 8388608#32).toNat = _
      rw [BitVec.toNat_add, hb]; simp; omega
    rw [eref_normal r k hk1 hl hu, ofBits_zero]
    constructor
    · rw [ofBits_pow _ (i + 1) hsb (by omega) (by omega), exp2_int]
      rw [show (((i + 1 : ℕ) : ℤ) - 127) = k + 1 by push_cast; omega]
    · have hib : (IntOp.subi 2130706432#32 (sbits (r : EReal))).toNat = (253 - i) * 8388608 := by
        show (2130706432#32 - sbits (r : EReal)).toNat = _
        rw [BitVec.toNat_sub, hsb]; simp; omega
      rw [ofBits_pow _ (253 - i) hib (by omega) (by omega)]
      have : (0 : EReal) - (((k + 1 : ℤ) : ℝ) : EReal) = (((-(k + 1) : ℤ) : ℝ) : EReal) := by
        rw [zero_sub, ← EReal.coe_neg]; push_cast; rfl
      rw [this, exp2_int]
      rw [show (((253 - i : ℕ) : ℤ) - 127) = -(k + 1) by omega]

end Cert.Scale

end
-- ==== Proof.Bound.lean ====
/-
  How large a group's scale can be, over the extended reals: a row divided by its root mean square has entries of size
  at most 85 (`√7168 < 85`), so with gains of size at most the greatest finite `f32` the greatest entry of a group,
  times the `f32` constant nearest 1 / 448, is at least 0 and below `2 ^ 126` (`amax_bound`).
-/
module

public import proofs.«01_k».proof.Proof.Scale

@[expose] public section

set_option maxRecDepth 16384

noncomputable section

namespace Cert.Scale

open Idealize.ShloMosaic
open scoped BigOperators

/-- The reciprocal root of the mean of a row's squares plus the constant. -/
def rs (x : Fin 7168 → EReal) : EReal :=
  Ideal.rsqrt (Ideal.div (∑ k, x k * x k) (Ideal.ofBits .f32 0x45E00000#32) + Ideal.ofBits .f32 0x358637BD#32)

theorem ofBits_7168 : Ideal.ofBits .f32 0x45E00000#32 = ((7168 : ℝ) : EReal) := by
  simp [Ideal.ofBits, Ideal.ieee, -EReal.coe_mul]; norm_num
theorem ofBits_eps : ∃ e : ℝ, 0 < e ∧ Ideal.ofBits .f32 0x358637BD#32 = (e : EReal) := by
  refine ⟨(2 ^ 23 + 407485 : ℝ) * 2 ^ (-43 : ℤ), by positivity, ?_⟩
  simp [Ideal.ofBits, Ideal.ieee, -EReal.coe_mul]; norm_num
theorem ofBits_c : Ideal.ofBits .f32 0x3B124925#32 = ((9586981 / 2 ^ 32 : ℝ) : EReal) := by
  simp [Ideal.ofBits, Ideal.ieee, -EReal.coe_mul]; norm_num
theorem ofBits_max : Ideal.ofBits .f32 0x7F7FFFFF#32 = ((340282346638528859811704183484516925440 : ℝ) : EReal) := by
  simp [Ideal.ofBits, Ideal.ieee, -EReal.coe_mul]; norm_num
theorem ofBits_bot : Ideal.ofBits .f32 0xFF800000#32 = ⊥ := by simp [Ideal.ofBits, Ideal.ieee]

theorem mul_self_nonneg' (x : EReal) : 0 ≤ x * x := by
  induction x using EReal.rec with
  | bot => simp
  | coe r => rw [← EReal.coe_mul]; exact_mod_cast mul_self_nonneg r
  | top => simp

/-- A finite sum of reals read as extended reals is the sum of the extended reals. -/
theorem coe_sum' {ι : Type} (s : Finset ι) (f : ι → ℝ) : ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

/-- An entry of a row over the row's root mean square is a real of size at most 85. -/
theorem entry_bound (x : Fin 7168 → EReal) (j : Fin 7168) : ∃ r : ℝ, x j * rs x = (r : EReal) ∧ |r| ≤ 85 := by
  obtain ⟨e, he, hee⟩ := ofBits_eps
  unfold rs
  rw [ofBits_7168, hee]
  by_cases hfin : ∀ k, ∃ r : ℝ, x k = (r : EReal)
  · choose y hy using hfin
    have hs : (∑ k, x k * x k) = ((∑ k, y k * y k : ℝ) : EReal) := by
      rw [coe_sum']; exact Finset.sum_congr rfl fun k _ => by rw [hy k, EReal.coe_mul]
    set s : ℝ := ∑ k, y k * y k with hsdef
    have hs0 : y j * y j ≤ s := Finset.single_le_sum (f := fun k => y k * y k)
      (fun k _ => mul_self_nonneg (y k)) (Finset.mem_univ j)
    have hs1 : 0 ≤ s := le_trans (mul_self_nonneg _) hs0
    have hpos : 0 < s * (7168 : ℝ)⁻¹ + e := by positivity
    rw [hs]; unfold Ideal.div
    rw [if_neg (by norm_num), ← EReal.coe_inv, ← EReal.coe_mul, ← EReal.coe_add]
    have hr : Ideal.rsqrt ((s * (7168 : ℝ)⁻¹ + e : ℝ) : EReal) = (((Real.sqrt (s * (7168 : ℝ)⁻¹ + e))⁻¹ : ℝ) : EReal) := by
      show (if s * (7168 : ℝ)⁻¹ + e < 0 then (⊥ : EReal) else if s * (7168 : ℝ)⁻¹ + e = 0 then ⊤
        else (((Real.sqrt (s * (7168 : ℝ)⁻¹ + e))⁻¹ : ℝ) : EReal)) = _
      rw [if_neg (not_lt.mpr hpos.le), if_neg hpos.ne']
    rw [hr, hy j, ← EReal.coe_mul]
    refine ⟨_, rfl, ?_⟩
    have hq : 0 < Real.sqrt (s * (7168 : ℝ)⁻¹ + e) := Real.sqrt_pos.mpr hpos
    rw [abs_mul, abs_inv, abs_of_pos hq, ← div_eq_mul_inv, div_le_iff₀ hq]
    refine abs_le_of_sq_le_sq ?_ (mul_nonneg (by norm_num) hq.le)
    rw [mul_pow, Real.sq_sqrt hpos.le]
    nlinarith
  · push Not at hfin
    obtain ⟨k, hk⟩ := hfin
    have hkk : x k * x k = ⊤ := by
      have h := hk
      generalize x k = z at h ⊢
      induction z using EReal.rec with
      | bot => simp
      | coe r => exact absurd rfl (h r)
      | top => simp
    have hs : (∑ k, x k * x k) = ⊤ := by
      refine top_le_iff.mp ?_
      rw [← hkk]
      exact Finset.single_le_sum (f := fun k => x k * x k) (fun k _ => mul_self_nonneg' (x k)) (Finset.mem_univ k)
    rw [hs]; unfold Ideal.div
    rw [if_neg (by norm_num), ← EReal.coe_inv, EReal.top_mul_coe_of_pos (by norm_num), EReal.top_add_coe]
    refine ⟨0, ?_, by norm_num⟩
    show x j * 0 = _
    simp

/-- THE BOUND: a group's greatest size, times the constant nearest 1 / 448, is in `[0, 2 ^ 126)` when each gain's size is
    at most the greatest finite `f32`. -/
theorem amax_bound {ι : Type} [Fintype ι] [Nonempty ι] (y g : ι → EReal)
    (hy : ∀ k, ∃ r : ℝ, y k = (r : EReal) ∧ |r| ≤ 85)
    (hg : ∀ k, max (g k) (-(g k)) ≤ Ideal.ofBits .f32 0x7F7FFFFF#32) :
    0 ≤ Finset.univ.fold max (Ideal.ofBits .f32 0xFF800000#32) (fun k => max (y k * g k) (-(y k * g k)))
        * Ideal.ofBits .f32 0x3B124925#32
    ∧ Finset.univ.fold max (Ideal.ofBits .f32 0xFF800000#32) (fun k => max (y k * g k) (-(y k * g k)))
        * Ideal.ofBits .f32 0x3B124925#32 < (((2 : ℝ) ^ (126 : ℤ) : ℝ) : EReal) := by
  rw [ofBits_bot, ofBits_c]
  have hb : ∀ k, max (y k * g k) (-(y k * g k)) ≤ ((85 * 2 ^ 128 : ℝ) : EReal) := by
    intro k
    obtain ⟨r, hr, hr85⟩ := hy k
    have h := hg k
    rw [ofBits_max] at h
    rw [hr]
    generalize g k = z at h ⊢
    induction z using EReal.rec with
    | bot => exact absurd (le_trans (le_max_right _ _) h) (by rw [EReal.neg_bot, not_le]; exact EReal.coe_lt_top _)
    | coe q =>
      rw [max_le_iff, ← EReal.coe_neg, EReal.coe_le_coe_iff, EReal.coe_le_coe_iff] at h
      have hq : |q| ≤ 2 ^ 128 := by rw [abs_le]; constructor <;> linarith [h.1, h.2]
      have hm : |r * q| ≤ 85 * 2 ^ 128 := by
        rw [abs_mul]; exact mul_le_mul hr85 hq (abs_nonneg _) (by norm_num)
      rw [← EReal.coe_mul, ← EReal.coe_neg, max_le_iff, EReal.coe_le_coe_iff, EReal.coe_le_coe_iff]
      exact ⟨le_trans (le_abs_self _) hm, le_trans (neg_le_abs _) hm⟩
    | top => exact absurd (le_trans (le_max_left _ _) h) (by rw [not_le]; exact EReal.coe_lt_top _)
  have hpos : (0 : EReal) ≤ ((9586981 / 2 ^ 32 : ℝ) : EReal) := by exact_mod_cast (by positivity : (0 : ℝ) ≤ 9586981 / 2 ^ 32)
  have hnn : ∀ z : EReal, 0 ≤ max z (-z) := by
    intro z
    rcases le_total 0 z with h | h
    · exact le_max_of_le_left h
    · exact le_max_of_le_right (EReal.neg_nonneg.mpr h)
  constructor
  · refine mul_nonneg ?_ hpos
    rw [Finset.le_fold_max]
    exact Or.inr ⟨Classical.arbitrary ι, Finset.mem_univ _, hnn _⟩
  · have hle : Finset.univ.fold max ⊥ (fun k => max (y k * g k) (-(y k * g k))) ≤ ((85 * 2 ^ 128 : ℝ) : EReal) := by
      rw [Finset.fold_max_le]
      exact ⟨bot_le, fun k _ => hb k⟩
    refine lt_of_le_of_lt (mul_le_mul_of_nonneg_right hle hpos) ?_
    rw [← EReal.coe_mul, EReal.coe_lt_coe_iff]
    norm_num

end Cert.Scale

end
-- ==== Proof.TripValue.lean ====
/- What the quantising loop leaves, entry by entry over the extended reals: codes, scales and the dequantised input, as
functions of the input and the gain. -/
module

public import proofs.«01_k».proof.Proof.TripEq
public import proofs.«01_k».proof.Proof.Scale
public import proofs.«01_k».proof.Proof.Bound
public import Idealize.ShloMosaic.Lib.Pointwise
public import Idealize.ShloMosaic.Lib.Writes
public import Idealize.ShloMosaic.Lib.Pipeline.ValueKit.Tiles

@[expose] public section

set_option maxRecDepth 16384

noncomputable section

namespace Cert.KernelIdeal.Hand

open Cert.KernelIdeal Cert.KernelIdeal.Gen Idealize.ShloMosaic Idealize.ShloMosaic.TcCoe

section
variable (X : Vec Ideal S256x7168 .bf16) (G : Vec Ideal S1x7168 .f32)

/-- The normalised input. -/
def nv (j : Fin 256) (d : Fin 7168) : EReal := X (ix2 j d) * Cert.Scale.rs (fun k => X (ix2 j k)) * G (ix2 0 d)

/-- The greatest magnitude of a group. -/
def am (j : Fin 256) (g : Fin 56) : EReal :=
  Finset.univ.fold max (Ideal.ofBits .f32 0xFF800000#32) (fun c : Fin 128 => max (nv X G j ⟨128 * g.val + c.val, by omega⟩) (-(nv X G j ⟨128 * g.val + c.val, by omega⟩)))

/-- The bits of a group's scale. -/
def sb (j : Fin 256) (g : Fin 56) : BitVec 32 := Cert.Scale.sbits (am X G j g * Ideal.ofBits .f32 0x3B124925#32)

/-- A code: the normalised entry over the scale, clipped. -/
def codv (j : Fin 256) (g : Fin 56) (d : Fin 7168) : EReal :=
  min (Ideal.ofBits .f32 0x43E00000#32) (max (Ideal.ofBits .f32 0xC3E00000#32) (nv X G j d * Ideal.ofBits .f32 (IntOp.subi 2130706432#32 (sb X G j g))))

/-- All the codes. -/
def COD : Vec Ideal S256x7168 .fp8e4m3 := fun y => codv X G (y 0) ⟨(y 1).val / 128, by have h : (y 1).val < 7168 := (y 1).isLt; omega⟩ (y 1)

/-- All the scales. -/
def SCL : Vec Ideal S256x56 .f32 := fun y => Ideal.ofBits .f32 (sb X G (y 0) (y 1))

/-- All of the dequantised input. -/
def XQ : Vec Ideal S256x7168 .bf16 := fun y => codv X G (y 0) ⟨(y 1).val / 128, by have h : (y 1).val < 7168 := (y 1).isLt; omega⟩ (y 1)
  * Ideal.ofBits .f32 (sb X G (y 0) ⟨(y 1).val / 128, by have h : (y 1).val < 7168 := (y 1).isLt; omega⟩)

end

section
variable (x1 : Vec Ideal S32x7168 .bf16) (R : FVec Ideal S32x1 .f32) (x : Vec Ideal S32x128 .bf16) (g : Vec Ideal S1x128 .f32) (r : Fin 32)

theorem pay2_at (z : Fin 1) : k0_pay2 (F := Ideal) x1 (ix2 r z) = Cert.Scale.rs (fun k => x1 (ix2 r k)) := by
  pointwise [k0_pay2]
  rfl

theorem pay12_at (c : Fin 128) : k0_pay12 (F := Ideal) R x g (ix2 r c) = x (ix2 r c) * R (ix2 r 0) * g (ix2 0 c) := by
  pointwise [k0_pay12]

theorem pay13_at (z : Fin 1) : k0_pay13 (F := Ideal) R x g (ix2 r z)
    = Finset.univ.fold max (Ideal.ofBits .f32 0xFF800000#32) (fun c : Fin 128 => max (k0_pay12 (F := Ideal) R x g (ix2 r c)) (-(k0_pay12 (F := Ideal) R x g (ix2 r c)))) := by
  pointwise [k0_pay13]
  rfl

theorem kb_eq (v : EReal) : Finset.fold IntOp.maxsi (2147483648#32)
          (fun k : Fin 256 =>
            if v < Ideal.ofBits FTy.f32 (IntOp.shli ArithUnit.vector (BitVec.ofNat 32 k.val) 23#32) then 0#32
            else IntOp.shli ArithUnit.vector (BitVec.ofNat 32 k.val) 23#32)
          Finset.univ = Cert.Scale.kbits v := by
  unfold Cert.Scale.kbits
  congr 1
  funext k
  rw [Cert.Scale.select_olt]
  rfl

theorem bitsT_at (z : Fin 1) : bitsT (F := Ideal) R x g (ix2 r z) = Cert.Scale.sbits (k0_pay13 (F := Ideal) R x g (ix2 r 0) * Ideal.ofBits .f32 0x3B124925#32) := by
  pointwise [bitsT, k0_pay15, k0_pay14]
  rw [kb_eq]
  rfl

theorem codT_at (c : Fin 128) : codT (F := Ideal) R x g (ix2 r c) = min (Ideal.ofBits .f32 0x43E00000#32) (max (Ideal.ofBits .f32 0xC3E00000#32)
    (k0_pay12 (F := Ideal) R x g (ix2 r c) * Ideal.ofBits .f32 (IntOp.subi 2130706432#32 (bitsT (F := Ideal) R x g (ix2 r 0))))) := by
  pointwise [codT, k0_pay17]
  rfl

theorem xqT_at (c : Fin 128) : xqT (F := Ideal) R x g (ix2 r c) = codT (F := Ideal) R x g (ix2 r c) * Ideal.ofBits .f32 (bitsT (F := Ideal) R x g (ix2 r 0)) := by
  pointwise [xqT, k0_pay18, k0_pay16]
  rfl

theorem sclT_at (w : BitVec 32) (p : FVec Ideal S32x56 .f32) (c : Fin 56) : sclT (F := Ideal) w p R x g (ix2 r c)
    = Scalar.select (IntOp.cmpi .eq (BitVec.ofNat 32 c.val) w) (Ideal.ofBits .f32 (bitsT (F := Ideal) R x g (ix2 r 0))) (p (ix2 r c)) := by
  pointwise [sclT]

end

section
variable (i : grid0.Coords) (arg2 : Memref sig .tc .vmem S256x7168 .bf16) (arg3 : Memref sig .tc .vmem S1x7168 .f32) (k0_h1 : k0_cond1 i = 1#1) (f2 : BufTy.Contents (Elt Ideal) arg2.view.ty) (f3 : BufTy.Contents (Elt Ideal) arg3.view.ty) (k : Fin k0_t1_loop.trips)

/-- A read through a unit-stride rectangle, at an index: the contents at the index placed. -/
theorem rd2 {κ : Kind} {sp : Space} {S : Shape} {e : EltTy} (v : View sig κ sp S e) (off size : Fin S.rank → ℕ) (inb) (f : v.ty.Contents (Elt Ideal))
    (x : (Rect.unit off size inb).shape.Idx) (i : S.Idx) (hi : ∀ a, (i a : ℕ) = off a + x a) :
    View.readAt (Elt Ideal) v (Rect.unit off size inb).toLoadRect f x = v.read (Elt Ideal) f i :=
  View.ld_unit_apply_of (v.read (Elt Ideal) f) off size inb x i hi

theorem gR_at (g : Fin 56) (c : Fin 128) : gR (F := Ideal) arg3 f3 g (ix2 0 c) = arg3.view.read (Elt Ideal) f3 (ix2 0 ⟨128 * g.val + c.val, by omega⟩) := by
  refine rd2 arg3.view _ _ _ f3 _ _ fun a => ?_
  match a with
  | ⟨0, _⟩ => rfl
  | ⟨1, _⟩ => rfl

variable (off1 off : Fin 2 → ℕ) (h1 : ∀ a, off1 a + S32x7168.size a ≤ S256x7168.size a) (h : ∀ a, off a + S32x128.size a ≤ S256x7168.size a)
  (g : Fin 56) (t : ℕ) (e1 : off1 = ![32 * t, 0]) (e : off = ![32 * t, 128 * g.val]) (r : Fin 32) (j : Fin 256) (hj : j.val = 32 * t + r.val)

include e1 hj in
theorem rR_at (z : Fin 1) : rR (F := Ideal) arg2 f2 off1 h1 (ix2 r z) = Cert.Scale.rs (fun k => arg2.view.read (Elt Ideal) f2 (ix2 j k)) := by
  subst e1
  rw [rR, pay2_at]
  congr 1
  funext d
  refine rd2 arg2.view _ _ _ f2 _ (ix2 j d) fun a => ?_
  match a with
  | ⟨0, _⟩ => exact hj
  | ⟨1, _⟩ => exact (Nat.zero_add _).symm

include e hj in
theorem xgR_at (c : Fin 128) : xgR (F := Ideal) arg2 f2 off h (ix2 r c) = arg2.view.read (Elt Ideal) f2 (ix2 j ⟨128 * g.val + c.val, by omega⟩) := by
  subst e
  refine rd2 arg2.view _ _ _ f2 _ _ fun a => ?_
  match a with
  | ⟨0, _⟩ => exact hj
  | ⟨1, _⟩ => rfl

include e1 e hj in
theorem n_at (c : Fin 128) : k0_pay12 (F := Ideal) (rR arg2 f2 off1 h1) (xgR arg2 f2 off h) (gR arg3 f3 g) (ix2 r c)
    = nv (arg2.view.read (Elt Ideal) f2) (arg3.view.read (Elt Ideal) f3) j ⟨128 * g.val + c.val, by omega⟩ := by
  rw [pay12_at, rR_at arg2 f2 off1 h1 t e1 r j hj, xgR_at arg2 f2 off h g t e r j hj, gR_at]
  rfl

include e1 e hj in
theorem bits_at (z : Fin 1) : bitsT (F := Ideal) (rR arg2 f2 off1 h1) (xgR arg2 f2 off h) (gR arg3 f3 g) (ix2 r z) = sb (arg2.view.read (Elt Ideal) f2) (arg3.view.read (Elt Ideal) f3) j g := by
  rw [bitsT_at, pay13_at, sb, am]
  congr 3
  funext c
  rw [n_at arg2 arg3 f2 f3 off1 off h1 h g t e1 e r j hj]

include e1 e hj in
theorem cod_at (c : Fin 128) : codT (F := Ideal) (rR arg2 f2 off1 h1) (xgR arg2 f2 off h) (gR arg3 f3 g) (ix2 r c)
    = codv (arg2.view.read (Elt Ideal) f2) (arg3.view.read (Elt Ideal) f3) j g ⟨128 * g.val + c.val, by omega⟩ := by
  rw [codT_at, n_at arg2 arg3 f2 f3 off1 off h1 h g t e1 e r j hj, bits_at arg2 arg3 f2 f3 off1 off h1 h g t e1 e r j hj]
  rfl

include e1 e hj in
theorem xq_at (c : Fin 128) : xqT (F := Ideal) (rR arg2 f2 off1 h1) (xgR arg2 f2 off h) (gR arg3 f3 g) (ix2 r c)
    = codv (arg2.view.read (Elt Ideal) f2) (arg3.view.read (Elt Ideal) f3) j g ⟨128 * g.val + c.val, by omega⟩ * Ideal.ofBits .f32 (sb (arg2.view.read (Elt Ideal) f2) (arg3.view.read (Elt Ideal) f3) j g) := by
  rw [xqT_at, cod_at arg2 arg3 f2 f3 off1 off h1 h g t e1 e r j hj, bits_at arg2 arg3 f2 f3 off1 off h1 h g t e1 e r j hj]

include e1 e hj in
theorem scl_at (w : BitVec 32) (hw : w = BitVec.ofNat 32 g.val) (p : FVec Ideal S32x56 .f32) (c : Fin 56)
    (hp : c.val < g.val → p (ix2 r c) = Ideal.ofBits .f32 (sb (arg2.view.read (Elt Ideal) f2) (arg3.view.read (Elt Ideal) f3) j c)) (hc : c.val < g.val + 1) :
    sclT (F := Ideal) w p (rR arg2 f2 off1 h1) (xgR arg2 f2 off h) (gR arg3 f3 g) (ix2 r c) = Ideal.ofBits .f32 (sb (arg2.view.read (Elt Ideal) f2) (arg3.view.read (Elt Ideal) f3) j c) := by
  subst hw
  rw [sclT_at, bits_at arg2 arg3 f2 f3 off1 off h1 h g t e1 e r j hj]
  by_cases hcg : c = g
  · subst hcg
    simp [Scalar.select, IntOp.cmpi]
  · have hlt : c.val < g.val := by
      have : c.val ≠ g.val := fun hh => hcg (Fin.ext hh)
      omega
    have hne : BitVec.ofNat 32 c.val ≠ BitVec.ofNat 32 g.val := by
      intro hh
      have h2 := congrArg BitVec.toNat hh
      have := c.isLt
      have := g.isLt
      rw [BitVec.toNat_ofNat, BitVec.toNat_ofNat] at h2
      omega
    rw [hp hlt]
    have hb : (BitVec.ofNat 32 c.val == BitVec.ofNat 32 g.val) = false := beq_false_of_ne hne
    simp only [Scalar.select, IntOp.cmpi, hb]
    rfl

variable (ht : t < 8)

include e1 e ht in
/-- A stored block of codes is that block of all the codes. -/
theorem cod_piece (y : (Rect.unit (s := S256x7168) off S32x128.size h).shape.Idx) :
    codT (F := Ideal) (rR arg2 f2 off1 h1) (xgR arg2 f2 off h) (gR arg3 f3 g) y = COD (arg2.view.read (Elt Ideal) f2) (arg3.view.read (Elt Ideal) f3) ((Rect.unit (s := S256x7168) off S32x128.size h).emb y) := by
  obtain ⟨r, c, rfl⟩ : ∃ (r : Fin 32) (c : Fin 128), y = ix2 r c := ⟨y 0, y 1, eq_ix2 y⟩
  have hr := r.isLt
  have hc := c.isLt
  have hg := g.isLt
  rw [cod_at arg2 arg3 f2 f3 off1 off h1 h g t e1 e r ⟨32 * t + r.val, by omega⟩ rfl]
  subst e
  have e0 : (Rect.unit (s := S256x7168) ![32 * t, 128 * g.val] S32x128.size h).emb (ix2 r c) 0 = (⟨32 * t + r.val, by omega⟩ : Fin 256) := Fin.ext (Rect.idx_unit_val _ _ _ _ 0)
  have e1 : (Rect.unit (s := S256x7168) ![32 * t, 128 * g.val] S32x128.size h).emb (ix2 r c) 1 = (⟨128 * g.val + c.val, by omega⟩ : Fin 7168) := Fin.ext (Rect.idx_unit_val _ _ _ _ 1)
  have e2 : g = ⟨(128 * g.val + c.val) / 128, by omega⟩ := Fin.ext (by show g.val = (128 * g.val + c.val) / 128; omega)
  show _ = codv _ _ ((Rect.unit (s := S256x7168) ![32 * t, 128 * g.val] S32x128.size h).emb (ix2 r c) 0) ⟨((Rect.unit (s := S256x7168) ![32 * t, 128 * g.val] S32x128.size h).emb (ix2 r c) 1).val / 128, _⟩ ((Rect.unit (s := S256x7168) ![32 * t, 128 * g.val] S32x128.size h).emb (ix2 r c) 1)
  simp only [e0, e1]
  exact congrArg (fun z => codv _ _ _ z _) e2

include e1 e ht in
/-- A stored block of the dequantised input is that block of all of it. -/
theorem xq_piece (y : (Rect.unit (s := S256x7168) off S32x128.size h).shape.Idx) :
    xqT (F := Ideal) (rR arg2 f2 off1 h1) (xgR arg2 f2 off h) (gR arg3 f3 g) y = XQ (arg2.view.read (Elt Ideal) f2) (arg3.view.read (Elt Ideal) f3) ((Rect.unit (s := S256x7168) off S32x128.size h).emb y) := by
  obtain ⟨r, c, rfl⟩ : ∃ (r : Fin 32) (c : Fin 128), y = ix2 r c := ⟨y 0, y 1, eq_ix2 y⟩
  have hr := r.isLt
  have hc := c.isLt
  have hg := g.isLt
  rw [xq_at arg2 arg3 f2 f3 off1 off h1 h g t e1 e r ⟨32 * t + r.val, by omega⟩ rfl]
  subst e
  have e0 : (Rect.unit (s := S256x7168) ![32 * t, 128 * g.val] S32x128.size h).emb (ix2 r c) 0 = (⟨32 * t + r.val, by omega⟩ : Fin 256) := Fin.ext (Rect.idx_unit_val _ _ _ _ 0)
  have e1 : (Rect.unit (s := S256x7168) ![32 * t, 128 * g.val] S32x128.size h).emb (ix2 r c) 1 = (⟨128 * g.val + c.val, by omega⟩ : Fin 7168) := Fin.ext (Rect.idx_unit_val _ _ _ _ 1)
  have e2 : g = ⟨(128 * g.val + c.val) / 128, by omega⟩ := Fin.ext (by show g.val = (128 * g.val + c.val) / 128; omega)
  show _ = codv _ _ ((Rect.unit (s := S256x7168) ![32 * t, 128 * g.val] S32x128.size h).emb (ix2 r c) 0) ⟨((Rect.unit (s := S256x7168) ![32 * t, 128 * g.val] S32x128.size h).emb (ix2 r c) 1).val / 128, _⟩ ((Rect.unit (s := S256x7168) ![32 * t, 128 * g.val] S32x128.size h).emb (ix2 r c) 1) * Ideal.ofBits .f32 (sb _ _ ((Rect.unit (s := S256x7168) ![32 * t, 128 * g.val] S32x128.size h).emb (ix2 r c) 0) ⟨((Rect.unit (s := S256x7168) ![32 * t, 128 * g.val] S32x128.size h).emb (ix2 r c) 1).val / 128, _⟩)
  simp only [e0, e1]
  exact congrArg (fun z => codv _ _ _ z _ * Ideal.ofBits .f32 (sb _ _ _ z)) e2

/-- A block of rows and columns holds the indices between its bounds. -/
theorem mem_blk (e : off = ![32 * t, 128 * g.val]) (y : S256x7168.Idx) (h0 : 32 * t ≤ (y 0).val) (h0' : (y 0).val < 32 * t + 32)
    (h2 : 128 * g.val ≤ (y 1).val) (h2' : (y 1).val < 128 * (g.val + 1)) :
    y ∈ (Rect.unit (s := S256x7168) off S32x128.size h).set := by
  subst e
  refine Rect.mem_set_unit.mpr fun a => ?_
  match a with
  | ⟨0, _⟩ => exact ⟨h0, h0'⟩
  | ⟨1, _⟩ => exact ⟨h2, by show (y 1).val < 128 * g.val + 128; omega⟩

/-- The search of a covering block, one block at a time. -/
theorem cov_cons {e : EltTy} (y : S256x7168.Idx) (p : View.Piece (Elt Ideal) S256x7168 e) (L : List (View.Piece (Elt Ideal) S256x7168 e)) (n : ℕ)
    (hm : n ≤ (y 1).val → y ∈ p.1.set) (hr : (y 1).val < n → ∃ p ∈ L, y ∈ p.1.set) : ∃ p' ∈ p :: L, y ∈ p'.1.set := by
  by_cases hn : n ≤ (y 1).val
  · exact ⟨p, List.mem_cons_self, hm hn⟩
  · obtain ⟨q, hq, hy⟩ := hr (by omega)
    exact ⟨q, List.mem_cons_of_mem _ hq, hy⟩
end

section
variable (i : grid0.Coords) (arg2 : Memref sig .tc .vmem S256x7168 .bf16) (arg3 : Memref sig .tc .vmem S1x7168 .f32) (k0_h1 : k0_cond1 i = 1#1) (f2 : BufTy.Contents (Elt Ideal) arg2.view.ty) (f3 : BufTy.Contents (Elt Ideal) arg3.view.ty) (k : Fin k0_t1_loop.trips)

theorem trips_lt : k.val < 8 := k.isLt

/-- Every block a trip stores is a block of `COD`. -/
theorem codL_pieces : ∀ p ∈ codL (F := Ideal) i arg2 arg3 k0_h1 f2 f3 k, ∀ x : p.1.shape.Idx, p.2 x = COD (arg2.view.read (Elt Ideal) f2) (arg3.view.read (Elt Ideal) f3) (p.1.emb x) := by
  unfold codL
  refine List.forall_mem_cons.2 ⟨cod_piece arg2 arg3 f2 f3 (k0_off1 k) (k0_off57 k) (k0_off1_inb i k k0_h1) (k0_off57_inb i k k0_h1) 55 k.val (k0_off1_eq k) (k0_off57_eq k) (trips_lt k), ?_⟩
  refine List.forall_mem_cons.2 ⟨cod_piece arg2 arg3 f2 f3 (k0_off1 k) (k0_off56 k) (k0_off1_inb i k k0_h1) (k0_off56_inb i k k0_h1) 54 k.val (k0_off1_eq k) (k0_off56_eq k) (trips_lt k), ?_⟩
  refine List.forall_mem_cons.2 ⟨cod_piece arg2 arg3 f2 f3 (k0_off1 k) (k0_off55 k) (k0_off1_inb i k k0_h1) (k0_off55_inb i k k0_h1) 53 k.val (k0_off1_eq k) (k0_off55_eq k) (trips_lt k), ?_⟩
  refine List.forall_mem_cons.2 ⟨cod_piece arg2 arg3 f2 f3 (k0_off1 k) (k0_off54 k) (k0_off1_inb i k k0_h1) (k0_off54_inb i k k0_h1) 52 k.val (k0_off1_eq k) (k0_off54_eq k) (trips_lt k), ?_⟩
  refine List.forall_mem_cons.2 ⟨cod_piece arg2 arg3 f2 f3 (k0_off1 k) (k0_off53 k) (k0_off1_inb i k k0_h1) (k0_off53_inb i k k0_h1) 51 k.val (k0_off1_eq k) (k0_off53_eq k) (trips_lt k), ?_⟩
  refine List.forall_mem_cons.2 ⟨cod_piece arg2 arg3 f2 f3 (k0_off1 k) (k0_off52 k) (k0_off1_inb i k k0_h1) (k0_off52_inb i k k0_h1) 50 k.val (k0_off1_eq k) (k0_off52_eq k) (trips_lt k), ?_⟩
  refine List.forall_mem_cons.2 ⟨cod_piece arg2 arg3 f2 f3 (k0_off1 k) (k0_off51 k) (k0_off1_inb i k k0_h1) (k0_off51_inb i k k0_h1) 49 k.val (k0_off1_eq k) (k0_off51_eq k) (trips_lt k), ?_⟩
  refine List.forall_mem_cons.2 ⟨cod_piece arg2 arg3 f2 f3 (k0_off1 k) (k0_off50 k) (k0_off1_inb i k k0_h1) (k0_off50_inb i k k0_h1) 48 k.val (k0_off1_eq k) (k0_off50_eq k) (trips_lt k), ?_⟩
  refine List.forall_mem_cons.2 ⟨cod_piece arg2 arg3 f2 f3 (k0_off1 k) (k0_off49 k) (k0_off1_inb i k k0_h1) (k0_off49_inb i k k0_h1) 47 k.val (k0_off1_eq k) (k0_off49_eq k) (trips_lt k), ?_⟩
  refine List.forall_mem_cons.2 ⟨cod_piece arg2 arg3 f2 f3 (k0_off1 k) (k0_off48 k) (k0_off1_inb i k k0_h1) (k0_off48_inb i k k0_h1) 46 k.val (k0_off1_eq k) (k0_off48_eq k) (trips_lt k), ?_⟩
  refine List.forall_mem_cons.2 ⟨cod_piece arg2 arg3 f2 f3 (k0_off1 k) (k0_off47 k) (k0_off1_inb i k k0_h1) (k0_off47_inb i k k0_h1) 45 k.val (k0_off1_eq k) (k0_off47_eq k) (trips_lt k), ?_⟩
  refine List.forall_mem_cons.2 ⟨cod_piece arg2 arg3 f2 f3 (k0_off1 k) (k0_off46 k) (k0_off1_inb i k k0_h1) (k0_off46_inb i k k0_h1) 44 k.val (k0_off1_eq k) (k0_off46_eq k) (trips_lt k), ?_⟩
  refine List.forall_mem_cons.2 ⟨cod_piece arg2 arg3 f2 f3 (k0_off1 k) (k0_off45 k) (k0_off1_inb i k k0_h1) (k0_off45_inb i k k0_h1) 43 k.val (k0_off1_eq k) (k0_off45_eq k) (trips_lt k), ?_⟩
  refine List.forall_mem_cons.2 ⟨cod_piece arg2 arg3 f2 f3 (k0_off1 k) (k0_off44 k) (k0_off1_inb i k k0_h1) (k0_off44_inb i k k0_h1) 42 k.val (k0_off1_eq k) (k0_off44_eq k) (trips_lt k), ?_⟩
  refine List.forall_mem_cons.2 ⟨cod_piece arg2 arg3 f2 f3 (k0_off1 k) (k0_off43 k) (k0_off1_inb i k k0_h1) (k0_off43_inb i k k0_h1) 41 k.val (k0_off1_eq k) (k0_off43_eq k) (trips_lt k), ?_⟩
  refine List.forall_mem_cons.2 ⟨cod_piece arg2 arg3 f2 f3 (k0_off1 k) (k0_off42 k) (k0_off1_inb i k k0_h1) (k0_off42_inb i k k0_h1) 40 k.val (k0_off1_eq k) (k0_off42_eq k) (trips_lt k), ?_⟩
  refine List.forall_mem_cons.2 ⟨cod_piece arg2 arg3 f2 f3 (k0_off1 k) (k0_off41 k) (k0_off1_inb i k k0_h1) (k0_off41_inb i k k0_h1) 39 k.val (k0_off1_eq k) (k0_off41_eq k) (trips_lt k), ?_⟩
  refine List.forall_mem_cons.2 ⟨cod_piece arg2 arg3 f2 f3 (k0_off1 k) (k0_off40 k) (k0_off1_inb i k k0_h1) (k0_off40_inb i k k0_h1) 38 k.val (k0_off1_eq k) (k0_off40_eq k) (trips_lt k), ?_⟩
  refine List.forall_mem_cons.2 ⟨cod_piece arg2 arg3 f2 f3 (k0_off1 k) (k0_off39 k) (k0_off1_inb i k k0_h1) (k0_off39_inb i k k0_h1) 37 k.val (k0_off1_eq k) (k0_off39_eq k) (trips_lt k), ?_⟩
  refine List.forall_mem_cons.2 ⟨cod_piece arg2 arg3 f2 f3 (k0_off1 k) (k0_off38 k) (k0_off1_inb i k k0_h1) (k0_off38_inb i k k0_h1) 36 k.val (k0_off1_eq k) (k0_off38_eq k) (trips_lt k), ?_⟩
  refine List.forall_mem_cons.2 ⟨cod_piece arg2 arg3 f2 f3 (k0_off1 k) (k0_off37 k) (k0_off1_inb i k k0_h1) (k0_off37_inb i k k0_h1) 35 k.val (k0_off1_eq k) (k0_off37_eq k) (trips_lt k), ?_⟩
  refine List.forall_mem_cons.2 ⟨cod_piece arg2 arg3 f2 f3 (k0_off1 k) (k0_off36 k) (k0_off1_inb i k k0_h1) (k0_off36_inb i k k0_h1) 34 k.val (k0_off1_eq k) (k0_off36_eq k) (trips_lt k), ?_⟩
  refine List.forall_mem_cons.2 ⟨cod_piece arg2 arg3 f2 f3 (k0_off1 k) (k0_off35 k) (k0_off1_inb i k k0_h1) (k0_off35_inb i k k0_h1) 33 k.val (k0_off1_eq k) (k0_off35_eq k) (trips_lt k), ?_⟩
  refine List.forall_mem_cons.2 ⟨cod_piece arg2 arg3 f2 f3 (k0_off1 k) (k0_off34 k) (k0_off1_inb i k k0_h1) (k0_off34_inb i k k0_h1) 32 k.val (k0_off1_eq k) (k0_off34_eq k) (trips_lt k), ?_⟩
  refine List.forall_mem_cons.2 ⟨cod_piece arg2 arg3 f2 f3 (k0_off1 k) (k0_off33 k) (k0_off1_inb i k k0_h1) (k0_off33_inb i k k0_h1) 31 k.val (k0_off1_eq k) (k0_off33_eq k) (trips_lt k), ?_⟩
  refine List.forall_mem_cons.2 ⟨cod_piece arg2 arg3 f2 f3 (k0_off1 k) (k0_off32 k) (k0_off1_inb i k k0_h1) (k0_off32_inb i k k0_h1) 30 k.val (k0_off1_eq k) (k0_off32_eq k) (trips_lt k), ?_⟩
  refine List.forall_mem_cons.2 ⟨cod_piece arg2 arg3 f2 f3 (k0_off1 k) (k0_off31 k) (k0_off1_inb i k k0_h1) (k0_off31_inb i k k0_h1) 29 k.val (k0_off1_eq k) (k0_off31_eq k) (trips_lt k), ?_⟩
  refine List.forall_mem_cons.2 ⟨cod_piece arg2 arg3 f2 f3 (k0_off1 k) (k0_off30 k) (k0_off1_inb i k k0_h1) (k0_off30_inb i k k0_h1) 28 k.val (k0_off1_eq k) (k0_off30_eq k) (trips_lt k), ?_⟩
  refine List.forall_mem_cons.2 ⟨cod_piece arg2 arg3 f2 f3 (k0_off1 k) (k0_off29 k) (k0_off1_inb i k k0_h1) (k0_off29_inb i k k0_h1) 27 k.val (k0_off1_eq k) (k0_off29_eq k) (trips_lt k), ?_⟩
  refine List.forall_mem_cons.2 ⟨cod_piece arg2 arg3 f2 f3 (k0_off1 k) (k0_off28 k) (k0_off1_inb i k k0_h1) (k0_off28_inb i k k0_h1) 26 k.val (k0_off1_eq k) (k0_off28_eq k) (trips_lt k), ?_⟩
  refine List.forall_mem_cons.2 ⟨cod_piece arg2 arg3 f2 f3 (k0_off1 k) (k0_off27 k) (k0_off1_inb i k k0_h1) (k0_off27_inb i k k0_h1) 25 k.val (k0_off1_eq k) (k0_off27_eq k) (trips_lt k), ?_⟩
  refine List.forall_mem_cons.2 ⟨cod_piece arg2 arg3 f2 f3 (k0_off1 k) (k0_off26 k) (k0_off1_inb i k k0_h1) (k0_off26_inb i k k0_h1) 24 k.val (k0_off1_eq k) (k0_off26_eq k) (trips_lt k), ?_⟩
  refine List.forall_mem_cons.2 ⟨cod_piece arg2 arg3 f2 f3 (k0_off1 k) (k0_off25 k) (k0_off1_inb i k k0_h1) (k0_off25_inb i k k0_h1) 23 k.val (k0_off1_eq k) (k0_off25_eq k) (trips_lt k), ?_⟩
  refine List.forall_mem_cons.2 ⟨cod_piece arg2 arg3 f2 f3 (k0_off1 k) (k0_off24 k) (k0_off1_inb i k k0_h1) (k0_off24_inb i k k0_h1) 22 k.val (k0_off1_eq k) (k0_off24_eq k) (trips_lt k), ?_⟩
  refine List.forall_mem_cons.2 ⟨cod_piece arg2 arg3 f2 f3 (k0_off1 k) (k0_off23 k) (k0_off1_inb i k k0_h1) (k0_off23_inb i k k0_h1) 21 k.val (k0_off1_eq k) (k0_off23_eq k) (trips_lt k), ?_⟩
  refine List.forall_mem_cons.2 ⟨cod_piece arg2 arg3 f2 f3 (k0_off1 k) (k0_off22 k) (k0_off1_inb i k k0_h1) (k0_off22_inb i k k0_h1) 20 k.val (k0_off1_eq k) (k0_off22_eq k) (trips_lt k), ?_⟩
  refine List.forall_mem_cons.2 ⟨cod_piece arg2 arg3 f2 f3 (k0_off1 k) (k0_off21 k) (k0_off1_inb i k k0_h1) (k0_off21_inb i k k0_h1) 19 k.val (k0_off1_eq k) (k0_off21_eq k) (trips_lt k), ?_⟩
  refine List.forall_mem_cons.2 ⟨cod_piece arg2 arg3 f2 f3 (k0_off1 k) (k0_off20 k) (k0_off1_inb i k k0_h1) (k0_off20_inb i k k0_h1) 18 k.val (k0_off1_eq k) (k0_off20_eq k) (trips_lt k), ?_⟩
  refine List.forall_mem_cons.2 ⟨cod_piece arg2 arg3 f2 f3 (k0_off1 k) (k0_off19 k) (k0_off1_inb i k k0_h1) (k0_off19_inb i k k0_h1) 17 k.val (k0_off1_eq k) (k0_off19_eq k) (trips_lt k), ?_⟩
  refine List.forall_mem_cons.2 ⟨cod_piece arg2 arg3 f2 f3 (k0_off1 k) (k0_off18 k) (k0_off1_inb i k k0_h1) (k0_off18_inb i k k0_h1) 16 k.val (k0_off1_eq k) (k0_off18_eq k) (trips_lt k), ?_⟩
  refine List.forall_mem_cons.2 ⟨cod_piece arg2 arg3 f2 f3 (k0_off1 k) (k0_off17 k) (k0_off1_inb i k k0_h1) (k0_off17_inb i k k0_h1) 15 k.val (k0_off1_eq k) (k0_off17_eq k) (trips_lt k), ?_⟩
  refine List.forall_mem_cons.2 ⟨cod_piece arg2 arg3 f2 f3 (k0_off1 k) (k0_off16 k) (k0_off1_inb i k k0_h1) (k0_off16_inb i k k0_h1) 14 k.val (k0_off1_eq k) (k0_off16_eq k) (trips_lt k), ?_⟩
  refine List.forall_mem_cons.2 ⟨cod_piece arg2 arg3 f2 f3 (k0_off1 k) (k0_off15 k) (k0_off1_inb i k k0_h1) (k0_off15_inb i k k0_h1) 13 k.val (k0_off1_eq k) (k0_off15_eq k) (trips_lt k), ?_⟩
  refine List.forall_mem_cons.2 ⟨cod_piece arg2 arg3 f2 f3 (k0_off1 k) (k0_off14 k) (k0_off1_inb i k k0_h1) (k0_off14_inb i k k0_h1) 12 k.val (k0_off1_eq k) (k0_off14_eq k) (trips_lt k), ?_⟩
  refine List.forall_mem_cons.2 ⟨cod_piece arg2 arg3 f2 f3 (k0_off1 k) (k0_off13 k) (k0_off1_inb i k k0_h1) (k0_off13_inb i k k0_h1) 11 k.val (k0_off1_eq k) (k0_off13_eq k) (trips_lt k), ?_⟩
  refine List.forall_mem_cons.2 ⟨cod_piece arg2 arg3 f2 f3 (k0_off1 k) (k0_off12 k) (k0_off1_inb i k k0_h1) (k0_off12_inb i k k0_h1) 10 k.val (k0_off1_eq k) (k0_off12_eq k) (trips_lt k), ?_⟩
  refine List.forall_mem_cons.2 ⟨cod_piece arg2 arg3 f2 f3 (k0_off1 k) (k0_off11 k) (k0_off1_inb i k k0_h1) (k0_off11_inb i k k0_h1) 9 k.val (k0_off1_eq k) (k0_off11_eq k) (trips_lt k), ?_⟩
  refine List.forall_mem_cons.2 ⟨cod_piece arg2 arg3 f2 f3 (k0_off1 k) (k0_off10 k) (k0_off1_inb i k k0_h1) (k0_off10_inb i k k0_h1) 8 k.val (k0_off1_eq k) (k0_off10_eq k) (trips_lt k), ?_⟩
  refine List.forall_mem_cons.2 ⟨cod_piece arg2 arg3 f2 f3 (k0_off1 k) (k0_off9 k) (k0_off1_inb i k k0_h1) (k0_off9_inb i k k0_h1) 7 k.val (k0_off1_eq k) (k0_off9_eq k) (trips_lt k), ?_⟩
  refine List.forall_mem_cons.2 ⟨cod_piece arg2 arg3 f2 f3 (k0_off1 k) (k0_off8 k) (k0_off1_inb i k k0_h1) (k0_off8_inb i k k0_h1) 6 k.val (k0_off1_eq k) (k0_off8_eq k) (trips_lt k), ?_⟩
  refine List.forall_mem_cons.2 ⟨cod_piece arg2 arg3 f2 f3 (k0_off1 k) (k0_off7 k) (k0_off1_inb i k k0_h1) (k0_off7_inb i k k0_h1) 5 k.val (k0_off1_eq k) (k0_off7_eq k) (trips_lt k), ?_⟩
  refine List.forall_mem_cons.2 ⟨cod_piece arg2 arg3 f2 f3 (k0_off1 k) (k0_off6 k) (k0_off1_inb i k k0_h1) (k0_off6_inb i k k0_h1) 4 k.val (k0_off1_eq k) (k0_off6_eq k) (trips_lt k), ?_⟩
  refine List.forall_mem_cons.2 ⟨cod_piece arg2 arg3 f2 f3 (k0_off1 k) (k0_off5 k) (k0_off1_inb i k k0_h1) (k0_off5_inb i k k0_h1) 3 k.val (k0_off1_eq k) (k0_off5_eq k) (trips_lt k), ?_⟩
  refine List.forall_mem_cons.2 ⟨cod_piece arg2 arg3 f2 f3 (k0_off1 k) (k0_off4 k) (k0_off1_inb i k k0_h1) (k0_off4_inb i k k0_h1) 2 k.val (k0_off1_eq k) (k0_off4_eq k) (trips_lt k), ?_⟩
  refine List.forall_mem_cons.2 ⟨cod_piece arg2 arg3 f2 f3 (k0_off1 k) (k0_off3 k) (k0_off1_inb i k k0_h1) (k0_off3_inb i k k0_h1) 1 k.val (k0_off1_eq k) (k0_off3_eq k) (trips_lt k), ?_⟩
  refine List.forall_mem_cons.2 ⟨cod_piece arg2 arg3 f2 f3 (k0_off1 k) (k0_off2 k) (k0_off1_inb i k k0_h1) (k0_off2_inb i k k0_h1) 0 k.val (k0_off1_eq k) (k0_off2_eq k) (trips_lt k), ?_⟩
  intro p hp
  exact absurd hp List.not_mem_nil

/-- A trip's blocks cover its 32 rows. -/
theorem codL_cover (y : S256x7168.Idx) (h0 : 32 * k.val ≤ (y 0).val) (h0' : (y 0).val < 32 * k.val + 32) : ∃ p ∈ codL (F := Ideal) i arg2 arg3 k0_h1 f2 f3 k, y ∈ p.1.set := by
  unfold codL
  have l56 : (y 1).val < 7168 := (y 1).isLt
  refine cov_cons y _ _ 7040 (fun h => mem_blk (k0_off57 k) (k0_off57_inb i k k0_h1) 55 k.val (k0_off57_eq k) y h0 h0' h l56) fun l55 => ?_
  refine cov_cons y _ _ 6912 (fun h => mem_blk (k0_off56 k) (k0_off56_inb i k k0_h1) 54 k.val (k0_off56_eq k) y h0 h0' h l55) fun l54 => ?_
  refine cov_cons y _ _ 6784 (fun h => mem_blk (k0_off55 k) (k0_off55_inb i k k0_h1) 53 k.val (k0_off55_eq k) y h0 h0' h l54) fun l53 => ?_
  refine cov_cons y _ _ 6656 (fun h => mem_blk (k0_off54 k) (k0_off54_inb i k k0_h1) 52 k.val (k0_off54_eq k) y h0 h0' h l53) fun l52 => ?_
  refine cov_cons y _ _ 6528 (fun h => mem_blk (k0_off53 k) (k0_off53_inb i k k0_h1) 51 k.val (k0_off53_eq k) y h0 h0' h l52) fun l51 => ?_
  refine cov_cons y _ _ 6400 (fun h => mem_blk (k0_off52 k) (k0_off52_inb i k k0_h1) 50 k.val (k0_off52_eq k) y h0 h0' h l51) fun l50 => ?_
  refine cov_cons y _ _ 6272 (fun h => mem_blk (k0_off51 k) (k0_off51_inb i k k0_h1) 49 k.val (k0_off51_eq k) y h0 h0' h l50) fun l49 => ?_
  refine cov_cons y _ _ 6144 (fun h => mem_blk (k0_off50 k) (k0_off50_inb i k k0_h1) 48 k.val (k0_off50_eq k) y h0 h0' h l49) fun l48 => ?_
  refine cov_cons y _ _ 6016 (fun h => mem_blk (k0_off49 k) (k0_off49_inb i k k0_h1) 47 k.val (k0_off49_eq k) y h0 h0' h l48) fun l47 => ?_
  refine cov_cons y _ _ 5888 (fun h => mem_blk (k0_off48 k) (k0_off48_inb i k k0_h1) 46 k.val (k0_off48_eq k) y h0 h0' h l47) fun l46 => ?_
  refine cov_cons y _ _ 5760 (fun h => mem_blk (k0_off47 k) (k0_off47_inb i k k0_h1) 45 k.val (k0_off47_eq k) y h0 h0' h l46) fun l45 => ?_
  refine cov_cons y _ _ 5632 (fun h => mem_blk (k0_off46 k) (k0_off46_inb i k k0_h1) 44 k.val (k0_off46_eq k) y h0 h0' h l45) fun l44 => ?_
  refine cov_cons y _ _ 5504 (fun h => mem_blk (k0_off45 k) (k0_off45_inb i k k0_h1) 43 k.val (k0_off45_eq k) y h0 h0' h l44) fun l43 => ?_
  refine cov_cons y _ _ 5376 (fun h => mem_blk (k0_off44 k) (k0_off44_inb i k k0_h1) 42 k.val (k0_off44_eq k) y h0 h0' h l43) fun l42 => ?_
  refine cov_cons y _ _ 5248 (fun h => mem_blk (k0_off43 k) (k0_off43_inb i k k0_h1) 41 k.val (k0_off43_eq k) y h0 h0' h l42) fun l41 => ?_
  refine cov_cons y _ _ 5120 (fun h => mem_blk (k0_off42 k) (k0_off42_inb i k k0_h1) 40 k.val (k0_off42_eq k) y h0 h0' h l41) fun l40 => ?_
  refine cov_cons y _ _ 4992 (fun h => mem_blk (k0_off41 k) (k0_off41_inb i k k0_h1) 39 k.val (k0_off41_eq k) y h0 h0' h l40) fun l39 => ?_
  refine cov_cons y _ _ 4864 (fun h => mem_blk (k0_off40 k) (k0_off40_inb i k k0_h1) 38 k.val (k0_off40_eq k) y h0 h0' h l39) fun l38 => ?_
  refine cov_cons y _ _ 4736 (fun h => mem_blk (k0_off39 k) (k0_off39_inb i k k0_h1) 37 k.val (k0_off39_eq k) y h0 h0' h l38) fun l37 => ?_
  refine cov_cons y _ _ 4608 (fun h => mem_blk (k0_off38 k) (k0_off38_inb i k k0_h1) 36 k.val (k0_off38_eq k) y h0 h0' h l37) fun l36 => ?_
  refine cov_cons y _ _ 4480 (fun h => mem_blk (k0_off37 k) (k0_off37_inb i k k0_h1) 35 k.val (k0_off37_eq k) y h0 h0' h l36) fun l35 => ?_
  refine cov_cons y _ _ 4352 (fun h => mem_blk (k0_off36 k) (k0_off36_inb i k k0_h1) 34 k.val (k0_off36_eq k) y h0 h0' h l35) fun l34 => ?_
  refine cov_cons y _ _ 4224 (fun h => mem_blk (k0_off35 k) (k0_off35_inb i k k0_h1) 33 k.val (k0_off35_eq k) y h0 h0' h l34) fun l33 => ?_
  refine cov_cons y _ _ 4096 (fun h => mem_blk (k0_off34 k) (k0_off34_inb i k k0_h1) 32 k.val (k0_off34_eq k) y h0 h0' h l33) fun l32 => ?_
  refine cov_cons y _ _ 3968 (fun h => mem_blk (k0_off33 k) (k0_off33_inb i k k0_h1) 31 k.val (k0_off33_eq k) y h0 h0' h l32) fun l31 => ?_
  refine cov_cons y _ _ 3840 (fun h => mem_blk (k0_off32 k) (k0_off32_inb i k k0_h1) 30 k.val (k0_off32_eq k) y h0 h0' h l31) fun l30 => ?_
  refine cov_cons y _ _ 3712 (fun h => mem_blk (k0_off31 k) (k0_off31_inb i k k0_h1) 29 k.val (k0_off31_eq k) y h0 h0' h l30) fun l29 => ?_
  refine cov_cons y _ _ 3584 (fun h => mem_blk (k0_off30 k) (k0_off30_inb i k k0_h1) 28 k.val (k0_off30_eq k) y h0 h0' h l29) fun l28 => ?_
  refine cov_cons y _ _ 3456 (fun h => mem_blk (k0_off29 k) (k0_off29_inb i k k0_h1) 27 k.val (k0_off29_eq k) y h0 h0' h l28) fun l27 => ?_
  refine cov_cons y _ _ 3328 (fun h => mem_blk (k0_off28 k) (k0_off28_inb i k k0_h1) 26 k.val (k0_off28_eq k) y h0 h0' h l27) fun l26 => ?_
  refine cov_cons y _ _ 3200 (fun h => mem_blk (k0_off27 k) (k0_off27_inb i k k0_h1) 25 k.val (k0_off27_eq k) y h0 h0' h l26) fun l25 => ?_
  refine cov_cons y _ _ 3072 (fun h => mem_blk (k0_off26 k) (k0_off26_inb i k k0_h1) 24 k.val (k0_off26_eq k) y h0 h0' h l25) fun l24 => ?_
  refine cov_cons y _ _ 2944 (fun h => mem_blk (k0_off25 k) (k0_off25_inb i k k0_h1) 23 k.val (k0_off25_eq k) y h0 h0' h l24) fun l23 => ?_
  refine cov_cons y _ _ 2816 (fun h => mem_blk (k0_off24 k) (k0_off24_inb i k k0_h1) 22 k.val (k0_off24_eq k) y h0 h0' h l23) fun l22 => ?_
  refine cov_cons y _ _ 2688 (fun h => mem_blk (k0_off23 k) (k0_off23_inb i k k0_h1) 21 k.val (k0_off23_eq k) y h0 h0' h l22) fun l21 => ?_
  refine cov_cons y _ _ 2560 (fun h => mem_blk (k0_off22 k) (k0_off22_inb i k k0_h1) 20 k.val (k0_off22_eq k) y h0 h0' h l21) fun l20 => ?_
  refine cov_cons y _ _ 2432 (fun h => mem_blk (k0_off21 k) (k0_off21_inb i k k0_h1) 19 k.val (k0_off21_eq k) y h0 h0' h l20) fun l19 => ?_
  refine cov_cons y _ _ 2304 (fun h => mem_blk (k0_off20 k) (k0_off20_inb i k k0_h1) 18 k.val (k0_off20_eq k) y h0 h0' h l19) fun l18 => ?_
  refine cov_cons y _ _ 2176 (fun h => mem_blk (k0_off19 k) (k0_off19_inb i k k0_h1) 17 k.val (k0_off19_eq k) y h0 h0' h l18) fun l17 => ?_
  refine cov_cons y _ _ 2048 (fun h => mem_blk (k0_off18 k) (k0_off18_inb i k k0_h1) 16 k.val (k0_off18_eq k) y h0 h0' h l17) fun l16 => ?_
  refine cov_cons y _ _ 1920 (fun h => mem_blk (k0_off17 k) (k0_off17_inb i k k0_h1) 15 k.val (k0_off17_eq k) y h0 h0' h l16) fun l15 => ?_
  refine cov_cons y _ _ 1792 (fun h => mem_blk (k0_off16 k) (k0_off16_inb i k k0_h1) 14 k.val (k0_off16_eq k) y h0 h0' h l15) fun l14 => ?_
  refine cov_cons y _ _ 1664 (fun h => mem_blk (k0_off15 k) (k0_off15_inb i k k0_h1) 13 k.val (k0_off15_eq k) y h0 h0' h l14) fun l13 => ?_
  refine cov_cons y _ _ 1536 (fun h => mem_blk (k0_off14 k) (k0_off14_inb i k k0_h1) 12 k.val (k0_off14_eq k) y h0 h0' h l13) fun l12 => ?_
  refine cov_cons y _ _ 1408 (fun h => mem_blk (k0_off13 k) (k0_off13_inb i k k0_h1) 11 k.val (k0_off13_eq k) y h0 h0' h l12) fun l11 => ?_
  refine cov_cons y _ _ 1280 (fun h => mem_blk (k0_off12 k) (k0_off12_inb i k k0_h1) 10 k.val (k0_off12_eq k) y h0 h0' h l11) fun l10 => ?_
  refine cov_cons y _ _ 1152 (fun h => mem_blk (k0_off11 k) (k0_off11_inb i k k0_h1) 9 k.val (k0_off11_eq k) y h0 h0' h l10) fun l9 => ?_
  refine cov_cons y _ _ 1024 (fun h => mem_blk (k0_off10 k) (k0_off10_inb i k k0_h1) 8 k.val (k0_off10_eq k) y h0 h0' h l9) fun l8 => ?_
  refine cov_cons y _ _ 896 (fun h => mem_blk (k0_off9 k) (k0_off9_inb i k k0_h1) 7 k.val (k0_off9_eq k) y h0 h0' h l8) fun l7 => ?_
  refine cov_cons y _ _ 768 (fun h => mem_blk (k0_off8 k) (k0_off8_inb i k k0_h1) 6 k.val (k0_off8_eq k) y h0 h0' h l7) fun l6 => ?_
  refine cov_cons y _ _ 640 (fun h => mem_blk (k0_off7 k) (k0_off7_inb i k k0_h1) 5 k.val (k0_off7_eq k) y h0 h0' h l6) fun l5 => ?_
  refine cov_cons y _ _ 512 (fun h => mem_blk (k0_off6 k) (k0_off6_inb i k k0_h1) 4 k.val (k0_off6_eq k) y h0 h0' h l5) fun l4 => ?_
  refine cov_cons y _ _ 384 (fun h => mem_blk (k0_off5 k) (k0_off5_inb i k k0_h1) 3 k.val (k0_off5_eq k) y h0 h0' h l4) fun l3 => ?_
  refine cov_cons y _ _ 256 (fun h => mem_blk (k0_off4 k) (k0_off4_inb i k k0_h1) 2 k.val (k0_off4_eq k) y h0 h0' h l3) fun l2 => ?_
  refine cov_cons y _ _ 128 (fun h => mem_blk (k0_off3 k) (k0_off3_inb i k k0_h1) 1 k.val (k0_off3_eq k) y h0 h0' h l2) fun l1 => ?_
  refine cov_cons y _ _ 0 (fun h => mem_blk (k0_off2 k) (k0_off2_inb i k k0_h1) 0 k.val (k0_off2_eq k) y h0 h0' h l1) fun l0 => ?_
  exact absurd l0 (Nat.not_lt_zero _)

/-- Every block a trip stores is a block of `XQ`. -/
theorem xqL_pieces : ∀ p ∈ xqL (F := Ideal) i arg2 arg3 k0_h1 f2 f3 k, ∀ x : p.1.shape.Idx, p.2 x = XQ (arg2.view.read (Elt Ideal) f2) (arg3.view.read (Elt Ideal) f3) (p.1.emb x) := by
  unfold xqL
  refine List.forall_mem_cons.2 ⟨xq_piece arg2 arg3 f2 f3 (k0_off1 k) (k0_off57 k) (k0_off1_inb i k k0_h1) (k0_off57_inb i k k0_h1) 55 k.val (k0_off1_eq k) (k0_off57_eq k) (trips_lt k), ?_⟩
  refine List.forall_mem_cons.2 ⟨xq_piece arg2 arg3 f2 f3 (k0_off1 k) (k0_off56 k) (k0_off1_inb i k k0_h1) (k0_off56_inb i k k0_h1) 54 k.val (k0_off1_eq k) (k0_off56_eq k) (trips_lt k), ?_⟩
  refine List.forall_mem_cons.2 ⟨xq_piece arg2 arg3 f2 f3 (k0_off1 k) (k0_off55 k) (k0_off1_inb i k k0_h1) (k0_off55_inb i k k0_h1) 53 k.val (k0_off1_eq k) (k0_off55_eq k) (trips_lt k), ?_⟩
  refine List.forall_mem_cons.2 ⟨xq_piece arg2 arg3 f2 f3 (k0_off1 k) (k0_off54 k) (k0_off1_inb i k k0_h1) (k0_off54_inb i k k0_h1) 52 k.val (k0_off1_eq k) (k0_off54_eq k) (trips_lt k), ?_⟩
  refine List.forall_mem_cons.2 ⟨xq_piece arg2 arg3 f2 f3 (k0_off1 k) (k0_off53 k) (k0_off1_inb i k k0_h1) (k0_off53_inb i k k0_h1) 51 k.val (k0_off1_eq k) (k0_off53_eq k) (trips_lt k), ?_⟩
  refine List.forall_mem_cons.2 ⟨xq_piece arg2 arg3 f2 f3 (k0_off1 k) (k0_off52 k) (k0_off1_inb i k k0_h1) (k0_off52_inb i k k0_h1) 50 k.val (k0_off1_eq k) (k0_off52_eq k) (trips_lt k), ?_⟩
  refine List.forall_mem_cons.2 ⟨xq_piece arg2 arg3 f2 f3 (k0_off1 k) (k0_off51 k) (k0_off1_inb i k k0_h1) (k0_off51_inb i k k0_h1) 49 k.val (k0_off1_eq k) (k0_off51_eq k) (trips_lt k), ?_⟩
  refine List.forall_mem_cons.2 ⟨xq_piece arg2 arg3 f2 f3 (k0_off1 k) (k0_off50 k) (k0_off1_inb i k k0_h1) (k0_off50_inb i k k0_h1) 48 k.val (k0_off1_eq k) (k0_off50_eq k) (trips_lt k), ?_⟩
  refine List.forall_mem_cons.2 ⟨xq_piece arg2 arg3 f2 f3 (k0_off1 k) (k0_off49 k) (k0_off1_inb i k k0_h1) (k0_off49_inb i k k0_h1) 47 k.val (k0_off1_eq k) (k0_off49_eq k) (trips_lt k), ?_⟩
  refine List.forall_mem_cons.2 ⟨xq_piece arg2 arg3 f2 f3 (k0_off1 k) (k0_off48 k) (k0_off1_inb i k k0_h1) (k0_off48_inb i k k0_h1) 46 k.val (k0_off1_eq k) (k0_off48_eq k) (trips_lt k), ?_⟩
  refine List.forall_mem_cons.2 ⟨xq_piece arg2 arg3 f2 f3 (k0_off1 k) (k0_off47 k) (k0_off1_inb i k k0_h1) (k0_off47_inb i k k0_h1) 45 k.val (k0_off1_eq k) (k0_off47_eq k) (trips_lt k), ?_⟩
  refine List.forall_mem_cons.2 ⟨xq_piece arg2 arg3 f2 f3 (k0_off1 k) (k0_off46 k) (k0_off1_inb i k k0_h1) (k0_off46_inb i k k0_h1) 44 k.val (k0_off1_eq k) (k0_off46_eq k) (trips_lt k), ?_⟩
  refine List.forall_mem_cons.2 ⟨xq_piece arg2 arg3 f2 f3 (k0_off1 k) (k0_off45 k) (k0_off1_inb i k k0_h1) (k0_off45_inb i k k0_h1) 43 k.val (k0_off1_eq k) (k0_off45_eq k) (trips_lt k), ?_⟩
  refine List.forall_mem_cons.2 ⟨xq_piece arg2 arg3 f2 f3 (k0_off1 k) (k0_off44 k) (k0_off1_inb i k k0_h1) (k0_off44_inb i k k0_h1) 42 k.val (k0_off1_eq k) (k0_off44_eq k) (trips_lt k), ?_⟩
  refine List.forall_mem_cons.2 ⟨xq_piece arg2 arg3 f2 f3 (k0_off1 k) (k0_off43 k) (k0_off1_inb i k k0_h1) (k0_off43_inb i k k0_h1) 41 k.val (k0_off1_eq k) (k0_off43_eq k) (trips_lt k), ?_⟩
  refine List.forall_mem_cons.2 ⟨xq_piece arg2 arg3 f2 f3 (k0_off1 k) (k0_off42 k) (k0_off1_inb i k k0_h1) (k0_off42_inb i k k0_h1) 40 k.val (k0_off1_eq k) (k0_off42_eq k) (trips_lt k), ?_⟩
  refine List.forall_mem_cons.2 ⟨xq_piece arg2 arg3 f2 f3 (k0_off1 k) (k0_off41 k) (k0_off1_inb i k k0_h1) (k0_off41_inb i k k0_h1) 39 k.val (k0_off1_eq k) (k0_off41_eq k) (trips_lt k), ?_⟩
  refine List.forall_mem_cons.2 ⟨xq_piece arg2 arg3 f2 f3 (k0_off1 k) (k0_off40 k) (k0_off1_inb i k k0_h1) (k0_off40_inb i k k0_h1) 38 k.val (k0_off1_eq k) (k0_off40_eq k) (trips_lt k), ?_⟩
  refine List.forall_mem_cons.2 ⟨xq_piece arg2 arg3 f2 f3 (k0_off1 k) (k0_off39 k) (k0_off1_inb i k k0_h1) (k0_off39_inb i k k0_h1) 37 k.val (k0_off1_eq k) (k0_off39_eq k) (trips_lt k), ?_⟩
  refine List.forall_mem_cons.2 ⟨xq_piece arg2 arg3 f2 f3 (k0_off1 k) (k0_off38 k) (k0_off1_inb i k k0_h1) (k0_off38_inb i k k0_h1) 36 k.val (k0_off1_eq k) (k0_off38_eq k) (trips_lt k), ?_⟩
  refine List.forall_mem_cons.2 ⟨xq_piece arg2 arg3 f2 f3 (k0_off1 k) (k0_off37 k) (k0_off1_inb i k k0_h1) (k0_off37_inb i k k0_h1) 35 k.val (k0_off1_eq k) (k0_off37_eq k) (trips_lt k), ?_⟩
  refine List.forall_mem_cons.2 ⟨xq_piece arg2 arg3 f2 f3 (k0_off1 k) (k0_off36 k) (k0_off1_inb i k k0_h1) (k0_off36_inb i k k0_h1) 34 k.val (k0_off1_eq k) (k0_off36_eq k) (trips_lt k), ?_⟩
  refine List.forall_mem_cons.2 ⟨xq_piece arg2 arg3 f2 f3 (k0_off1 k) (k0_off35 k) (k0_off1_inb i k k0_h1) (k0_off35_inb i k k0_h1) 33 k.val (k0_off1_eq k) (k0_off35_eq k) (trips_lt k), ?_⟩
  refine List.forall_mem_cons.2 ⟨xq_piece arg2 arg3 f2 f3 (k0_off1 k) (k0_off34 k) (k0_off1_inb i k k0_h1) (k0_off34_inb i k k0_h1) 32 k.val (k0_off1_eq k) (k0_off34_eq k) (trips_lt k), ?_⟩
  refine List.forall_mem_cons.2 ⟨xq_piece arg2 arg3 f2 f3 (k0_off1 k) (k0_off33 k) (k0_off1_inb i k k0_h1) (k0_off33_inb i k k0_h1) 31 k.val (k0_off1_eq k) (k0_off33_eq k) (trips_lt k), ?_⟩
  refine List.forall_mem_cons.2 ⟨xq_piece arg2 arg3 f2 f3 (k0_off1 k) (k0_off32 k) (k0_off1_inb i k k0_h1) (k0_off32_inb i k k0_h1) 30 k.val (k0_off1_eq k) (k0_off32_eq k) (trips_lt k), ?_⟩
  refine List.forall_mem_cons.2 ⟨xq_piece arg2 arg3 f2 f3 (k0_off1 k) (k0_off31 k) (k0_off1_inb i k k0_h1) (k0_off31_inb i k k0_h1) 29 k.val (k0_off1_eq k) (k0_off31_eq k) (trips_lt k), ?_⟩
  refine List.forall_mem_cons.2 ⟨xq_piece arg2 arg3 f2 f3 (k0_off1 k) (k0_off30 k) (k0_off1_inb i k k0_h1) (k0_off30_inb i k k0_h1) 28 k.val (k0_off1_eq k) (k0_off30_eq k) (trips_lt k), ?_⟩
  refine List.forall_mem_cons.2 ⟨xq_piece arg2 arg3 f2 f3 (k0_off1 k) (k0_off29 k) (k0_off1_inb i k k0_h1) (k0_off29_inb i k k0_h1) 27 k.val (k0_off1_eq k) (k0_off29_eq k) (trips_lt k), ?_⟩
  refine List.forall_mem_cons.2 ⟨xq_piece arg2 arg3 f2 f3 (k0_off1 k) (k0_off28 k) (k0_off1_inb i k k0_h1) (k0_off28_inb i k k0_h1) 26 k.val (k0_off1_eq k) (k0_off28_eq k) (trips_lt k), ?_⟩
  refine List.forall_mem_cons.2 ⟨xq_piece arg2 arg3 f2 f3 (k0_off1 k) (k0_off27 k) (k0_off1_inb i k k0_h1) (k0_off27_inb i k k0_h1) 25 k.val (k0_off1_eq k) (k0_off27_eq k) (trips_lt k), ?_⟩
  refine List.forall_mem_cons.2 ⟨xq_piece arg2 arg3 f2 f3 (k0_off1 k) (k0_off26 k) (k0_off1_inb i k k0_h1) (k0_off26_inb i k k0_h1) 24 k.val (k0_off1_eq k) (k0_off26_eq k) (trips_lt k), ?_⟩
  refine List.forall_mem_cons.2 ⟨xq_piece arg2 arg3 f2 f3 (k0_off1 k) (k0_off25 k) (k0_off1_inb i k k0_h1) (k0_off25_inb i k k0_h1) 23 k.val (k0_off1_eq k) (k0_off25_eq k) (trips_lt k), ?_⟩
  refine List.forall_mem_cons.2 ⟨xq_piece arg2 arg3 f2 f3 (k0_off1 k) (k0_off24 k) (k0_off1_inb i k k0_h1) (k0_off24_inb i k k0_h1) 22 k.val (k0_off1_eq k) (k0_off24_eq k) (trips_lt k), ?_⟩
  refine List.forall_mem_cons.2 ⟨xq_piece arg2 arg3 f2 f3 (k0_off1 k) (k0_off23 k) (k0_off1_inb i k k0_h1) (k0_off23_inb i k k0_h1) 21 k.val (k0_off1_eq k) (k0_off23_eq k) (trips_lt k), ?_⟩
  refine List.forall_mem_cons.2 ⟨xq_piece arg2 arg3 f2 f3 (k0_off1 k) (k0_off22 k) (k0_off1_inb i k k0_h1) (k0_off22_inb i k k0_h1) 20 k.val (k0_off1_eq k) (k0_off22_eq k) (trips_lt k), ?_⟩
  refine List.forall_mem_cons.2 ⟨xq_piece arg2 arg3 f2 f3 (k0_off1 k) (k0_off21 k) (k0_off1_inb i k k0_h1) (k0_off21_inb i k k0_h1) 19 k.val (k0_off1_eq k) (k0_off21_eq k) (trips_lt k), ?_⟩
  refine List.forall_mem_cons.2 ⟨xq_piece arg2 arg3 f2 f3 (k0_off1 k) (k0_off20 k) (k0_off1_inb i k k0_h1) (k0_off20_inb i k k0_h1) 18 k.val (k0_off1_eq k) (k0_off20_eq k) (trips_lt k), ?_⟩
  refine List.forall_mem_cons.2 ⟨xq_piece arg2 arg3 f2 f3 (k0_off1 k) (k0_off19 k) (k0_off1_inb i k k0_h1) (k0_off19_inb i k k0_h1) 17 k.val (k0_off1_eq k) (k0_off19_eq k) (trips_lt k), ?_⟩
  refine List.forall_mem_cons.2 ⟨xq_piece arg2 arg3 f2 f3 (k0_off1 k) (k0_off18 k) (k0_off1_inb i k k0_h1) (k0_off18_inb i k k0_h1) 16 k.val (k0_off1_eq k) (k0_off18_eq k) (trips_lt k), ?_⟩
  refine List.forall_mem_cons.2 ⟨xq_piece arg2 arg3 f2 f3 (k0_off1 k) (k0_off17 k) (k0_off1_inb i k k0_h1) (k0_off17_inb i k k0_h1) 15 k.val (k0_off1_eq k) (k0_off17_eq k) (trips_lt k), ?_⟩
  refine List.forall_mem_cons.2 ⟨xq_piece arg2 arg3 f2 f3 (k0_off1 k) (k0_off16 k) (k0_off1_inb i k k0_h1) (k0_off16_inb i k k0_h1) 14 k.val (k0_off1_eq k) (k0_off16_eq k) (trips_lt k), ?_⟩
  refine List.forall_mem_cons.2 ⟨xq_piece arg2 arg3 f2 f3 (k0_off1 k) (k0_off15 k) (k0_off1_inb i k k0_h1) (k0_off15_inb i k k0_h1) 13 k.val (k0_off1_eq k) (k0_off15_eq k) (trips_lt k), ?_⟩
  refine List.forall_mem_cons.2 ⟨xq_piece arg2 arg3 f2 f3 (k0_off1 k) (k0_off14 k) (k0_off1_inb i k k0_h1) (k0_off14_inb i k k0_h1) 12 k.val (k0_off1_eq k) (k0_off14_eq k) (trips_lt k), ?_⟩
  refine List.forall_mem_cons.2 ⟨xq_piece arg2 arg3 f2 f3 (k0_off1 k) (k0_off13 k) (k0_off1_inb i k k0_h1) (k0_off13_inb i k k0_h1) 11 k.val (k0_off1_eq k) (k0_off13_eq k) (trips_lt k), ?_⟩
  refine List.forall_mem_cons.2 ⟨xq_piece arg2 arg3 f2 f3 (k0_off1 k) (k0_off12 k) (k0_off1_inb i k k0_h1) (k0_off12_inb i k k0_h1) 10 k.val (k0_off1_eq k) (k0_off12_eq k) (trips_lt k), ?_⟩
  refine List.forall_mem_cons.2 ⟨xq_piece arg2 arg3 f2 f3 (k0_off1 k) (k0_off11 k) (k0_off1_inb i k k0_h1) (k0_off11_inb i k k0_h1) 9 k.val (k0_off1_eq k) (k0_off11_eq k) (trips_lt k), ?_⟩
  refine List.forall_mem_cons.2 ⟨xq_piece arg2 arg3 f2 f3 (k0_off1 k) (k0_off10 k) (k0_off1_inb i k k0_h1) (k0_off10_inb i k k0_h1) 8 k.val (k0_off1_eq k) (k0_off10_eq k) (trips_lt k), ?_⟩
  refine List.forall_mem_cons.2 ⟨xq_piece arg2 arg3 f2 f3 (k0_off1 k) (k0_off9 k) (k0_off1_inb i k k0_h1) (k0_off9_inb i k k0_h1) 7 k.val (k0_off1_eq k) (k0_off9_eq k) (trips_lt k), ?_⟩
  refine List.forall_mem_cons.2 ⟨xq_piece arg2 arg3 f2 f3 (k0_off1 k) (k0_off8 k) (k0_off1_inb i k k0_h1) (k0_off8_inb i k k0_h1) 6 k.val (k0_off1_eq k) (k0_off8_eq k) (trips_lt k), ?_⟩
  refine List.forall_mem_cons.2 ⟨xq_piece arg2 arg3 f2 f3 (k0_off1 k) (k0_off7 k) (k0_off1_inb i k k0_h1) (k0_off7_inb i k k0_h1) 5 k.val (k0_off1_eq k) (k0_off7_eq k) (trips_lt k), ?_⟩
  refine List.forall_mem_cons.2 ⟨xq_piece arg2 arg3 f2 f3 (k0_off1 k) (k0_off6 k) (k0_off1_inb i k k0_h1) (k0_off6_inb i k k0_h1) 4 k.val (k0_off1_eq k) (k0_off6_eq k) (trips_lt k), ?_⟩
  refine List.forall_mem_cons.2 ⟨xq_piece arg2 arg3 f2 f3 (k0_off1 k) (k0_off5 k) (k0_off1_inb i k k0_h1) (k0_off5_inb i k k0_h1) 3 k.val (k0_off1_eq k) (k0_off5_eq k) (trips_lt k), ?_⟩
  refine List.forall_mem_cons.2 ⟨xq_piece arg2 arg3 f2 f3 (k0_off1 k) (k0_off4 k) (k0_off1_inb i k k0_h1) (k0_off4_inb i k k0_h1) 2 k.val (k0_off1_eq k) (k0_off4_eq k) (trips_lt k), ?_⟩
  refine List.forall_mem_cons.2 ⟨xq_piece arg2 arg3 f2 f3 (k0_off1 k) (k0_off3 k) (k0_off1_inb i k k0_h1) (k0_off3_inb i k k0_h1) 1 k.val (k0_off1_eq k) (k0_off3_eq k) (trips_lt k), ?_⟩
  refine List.forall_mem_cons.2 ⟨xq_piece arg2 arg3 f2 f3 (k0_off1 k) (k0_off2 k) (k0_off1_inb i k k0_h1) (k0_off2_inb i k k0_h1) 0 k.val (k0_off1_eq k) (k0_off2_eq k) (trips_lt k), ?_⟩
  intro p hp
  exact absurd hp List.not_mem_nil

/-- A trip's blocks cover its 32 rows. -/
theorem xqL_cover (y : S256x7168.Idx) (h0 : 32 * k.val ≤ (y 0).val) (h0' : (y 0).val < 32 * k.val + 32) : ∃ p ∈ xqL (F := Ideal) i arg2 arg3 k0_h1 f2 f3 k, y ∈ p.1.set := by
  unfold xqL
  have l56 : (y 1).val < 7168 := (y 1).isLt
  refine cov_cons y _ _ 7040 (fun h => mem_blk (k0_off57 k) (k0_off57_inb i k k0_h1) 55 k.val (k0_off57_eq k) y h0 h0' h l56) fun l55 => ?_
  refine cov_cons y _ _ 6912 (fun h => mem_blk (k0_off56 k) (k0_off56_inb i k k0_h1) 54 k.val (k0_off56_eq k) y h0 h0' h l55) fun l54 => ?_
  refine cov_cons y _ _ 6784 (fun h => mem_blk (k0_off55 k) (k0_off55_inb i k k0_h1) 53 k.val (k0_off55_eq k) y h0 h0' h l54) fun l53 => ?_
  refine cov_cons y _ _ 6656 (fun h => mem_blk (k0_off54 k) (k0_off54_inb i k k0_h1) 52 k.val (k0_off54_eq k) y h0 h0' h l53) fun l52 => ?_
  refine cov_cons y _ _ 6528 (fun h => mem_blk (k0_off53 k) (k0_off53_inb i k k0_h1) 51 k.val (k0_off53_eq k) y h0 h0' h l52) fun l51 => ?_
  refine cov_cons y _ _ 6400 (fun h => mem_blk (k0_off52 k) (k0_off52_inb i k k0_h1) 50 k.val (k0_off52_eq k) y h0 h0' h l51) fun l50 => ?_
  refine cov_cons y _ _ 6272 (fun h => mem_blk (k0_off51 k) (k0_off51_inb i k k0_h1) 49 k.val (k0_off51_eq k) y h0 h0' h l50) fun l49 => ?_
  refine cov_cons y _ _ 6144 (fun h => mem_blk (k0_off50 k) (k0_off50_inb i k k0_h1) 48 k.val (k0_off50_eq k) y h0 h0' h l49) fun l48 => ?_
  refine cov_cons y _ _ 6016 (fun h => mem_blk (k0_off49 k) (k0_off49_inb i k k0_h1) 47 k.val (k0_off49_eq k) y h0 h0' h l48) fun l47 => ?_
  refine cov_cons y _ _ 5888 (fun h => mem_blk (k0_off48 k) (k0_off48_inb i k k0_h1) 46 k.val (k0_off48_eq k) y h0 h0' h l47) fun l46 => ?_
  refine cov_cons y _ _ 5760 (fun h => mem_blk (k0_off47 k) (k0_off47_inb i k k0_h1) 45 k.val (k0_off47_eq k) y h0 h0' h l46) fun l45 => ?_
  refine cov_cons y _ _ 5632 (fun h => mem_blk (k0_off46 k) (k0_off46_inb i k k0_h1) 44 k.val (k0_off46_eq k) y h0 h0' h l45) fun l44 => ?_
  refine cov_cons y _ _ 5504 (fun h => mem_blk (k0_off45 k) (k0_off45_inb i k k0_h1) 43 k.val (k0_off45_eq k) y h0 h0' h l44) fun l43 => ?_
  refine cov_cons y _ _ 5376 (fun h => mem_blk (k0_off44 k) (k0_off44_inb i k k0_h1) 42 k.val (k0_off44_eq k) y h0 h0' h l43) fun l42 => ?_
  refine cov_cons y _ _ 5248 (fun h => mem_blk (k0_off43 k) (k0_off43_inb i k k0_h1) 41 k.val (k0_off43_eq k) y h0 h0' h l42) fun l41 => ?_
  refine cov_cons y _ _ 5120 (fun h => mem_blk (k0_off42 k) (k0_off42_inb i k k0_h1) 40 k.val (k0_off42_eq k) y h0 h0' h l41) fun l40 => ?_
  refine cov_cons y _ _ 4992 (fun h => mem_blk (k0_off41 k) (k0_off41_inb i k k0_h1) 39 k.val (k0_off41_eq k) y h0 h0' h l40) fun l39 => ?_
  refine cov_cons y _ _ 4864 (fun h => mem_blk (k0_off40 k) (k0_off40_inb i k k0_h1) 38 k.val (k0_off40_eq k) y h0 h0' h l39) fun l38 => ?_
  refine cov_cons y _ _ 4736 (fun h => mem_blk (k0_off39 k) (k0_off39_inb i k k0_h1) 37 k.val (k0_off39_eq k) y h0 h0' h l38) fun l37 => ?_
  refine cov_cons y _ _ 4608 (fun h => mem_blk (k0_off38 k) (k0_off38_inb i k k0_h1) 36 k.val (k0_off38_eq k) y h0 h0' h l37) fun l36 => ?_
  refine cov_cons y _ _ 4480 (fun h => mem_blk (k0_off37 k) (k0_off37_inb i k k0_h1) 35 k.val (k0_off37_eq k) y h0 h0' h l36) fun l35 => ?_
  refine cov_cons y _ _ 4352 (fun h => mem_blk (k0_off36 k) (k0_off36_inb i k k0_h1) 34 k.val (k0_off36_eq k) y h0 h0' h l35) fun l34 => ?_
  refine cov_cons y _ _ 4224 (fun h => mem_blk (k0_off35 k) (k0_off35_inb i k k0_h1) 33 k.val (k0_off35_eq k) y h0 h0' h l34) fun l33 => ?_
  refine cov_cons y _ _ 4096 (fun h => mem_blk (k0_off34 k) (k0_off34_inb i k k0_h1) 32 k.val (k0_off34_eq k) y h0 h0' h l33) fun l32 => ?_
  refine cov_cons y _ _ 3968 (fun h => mem_blk (k0_off33 k) (k0_off33_inb i k k0_h1) 31 k.val (k0_off33_eq k) y h0 h0' h l32) fun l31 => ?_
  refine cov_cons y _ _ 3840 (fun h => mem_blk (k0_off32 k) (k0_off32_inb i k k0_h1) 30 k.val (k0_off32_eq k) y h0 h0' h l31) fun l30 => ?_
  refine cov_cons y _ _ 3712 (fun h => mem_blk (k0_off31 k) (k0_off31_inb i k k0_h1) 29 k.val (k0_off31_eq k) y h0 h0' h l30) fun l29 => ?_
  refine cov_cons y _ _ 3584 (fun h => mem_blk (k0_off30 k) (k0_off30_inb i k k0_h1) 28 k.val (k0_off30_eq k) y h0 h0' h l29) fun l28 => ?_
  refine cov_cons y _ _ 3456 (fun h => mem_blk (k0_off29 k) (k0_off29_inb i k k0_h1) 27 k.val (k0_off29_eq k) y h0 h0' h l28) fun l27 => ?_
  refine cov_cons y _ _ 3328 (fun h => mem_blk (k0_off28 k) (k0_off28_inb i k k0_h1) 26 k.val (k0_off28_eq k) y h0 h0' h l27) fun l26 => ?_
  refine cov_cons y _ _ 3200 (fun h => mem_blk (k0_off27 k) (k0_off27_inb i k k0_h1) 25 k.val (k0_off27_eq k) y h0 h0' h l26) fun l25 => ?_
  refine cov_cons y _ _ 3072 (fun h => mem_blk (k0_off26 k) (k0_off26_inb i k k0_h1) 24 k.val (k0_off26_eq k) y h0 h0' h l25) fun l24 => ?_
  refine cov_cons y _ _ 2944 (fun h => mem_blk (k0_off25 k) (k0_off25_inb i k k0_h1) 23 k.val (k0_off25_eq k) y h0 h0' h l24) fun l23 => ?_
  refine cov_cons y _ _ 2816 (fun h => mem_blk (k0_off24 k) (k0_off24_inb i k k0_h1) 22 k.val (k0_off24_eq k) y h0 h0' h l23) fun l22 => ?_
  refine cov_cons y _ _ 2688 (fun h => mem_blk (k0_off23 k) (k0_off23_inb i k k0_h1) 21 k.val (k0_off23_eq k) y h0 h0' h l22) fun l21 => ?_
  refine cov_cons y _ _ 2560 (fun h => mem_blk (k0_off22 k) (k0_off22_inb i k k0_h1) 20 k.val (k0_off22_eq k) y h0 h0' h l21) fun l20 => ?_
  refine cov_cons y _ _ 2432 (fun h => mem_blk (k0_off21 k) (k0_off21_inb i k k0_h1) 19 k.val (k0_off21_eq k) y h0 h0' h l20) fun l19 => ?_
  refine cov_cons y _ _ 2304 (fun h => mem_blk (k0_off20 k) (k0_off20_inb i k k0_h1) 18 k.val (k0_off20_eq k) y h0 h0' h l19) fun l18 => ?_
  refine cov_cons y _ _ 2176 (fun h => mem_blk (k0_off19 k) (k0_off19_inb i k k0_h1) 17 k.val (k0_off19_eq k) y h0 h0' h l18) fun l17 => ?_
  refine cov_cons y _ _ 2048 (fun h => mem_blk (k0_off18 k) (k0_off18_inb i k k0_h1) 16 k.val (k0_off18_eq k) y h0 h0' h l17) fun l16 => ?_
  refine cov_cons y _ _ 1920 (fun h => mem_blk (k0_off17 k) (k0_off17_inb i k k0_h1) 15 k.val (k0_off17_eq k) y h0 h0' h l16) fun l15 => ?_
  refine cov_cons y _ _ 1792 (fun h => mem_blk (k0_off16 k) (k0_off16_inb i k k0_h1) 14 k.val (k0_off16_eq k) y h0 h0' h l15) fun l14 => ?_
  refine cov_cons y _ _ 1664 (fun h => mem_blk (k0_off15 k) (k0_off15_inb i k k0_h1) 13 k.val (k0_off15_eq k) y h0 h0' h l14) fun l13 => ?_
  refine cov_cons y _ _ 1536 (fun h => mem_blk (k0_off14 k) (k0_off14_inb i k k0_h1) 12 k.val (k0_off14_eq k) y h0 h0' h l13) fun l12 => ?_
  refine cov_cons y _ _ 1408 (fun h => mem_blk (k0_off13 k) (k0_off13_inb i k k0_h1) 11 k.val (k0_off13_eq k) y h0 h0' h l12) fun l11 => ?_
  refine cov_cons y _ _ 1280 (fun h => mem_blk (k0_off12 k) (k0_off12_inb i k k0_h1) 10 k.val (k0_off12_eq k) y h0 h0' h l11) fun l10 => ?_
  refine cov_cons y _ _ 1152 (fun h => mem_blk (k0_off11 k) (k0_off11_inb i k k0_h1) 9 k.val (k0_off11_eq k) y h0 h0' h l10) fun l9 => ?_
  refine cov_cons y _ _ 1024 (fun h => mem_blk (k0_off10 k) (k0_off10_inb i k k0_h1) 8 k.val (k0_off10_eq k) y h0 h0' h l9) fun l8 => ?_
  refine cov_cons y _ _ 896 (fun h => mem_blk (k0_off9 k) (k0_off9_inb i k k0_h1) 7 k.val (k0_off9_eq k) y h0 h0' h l8) fun l7 => ?_
  refine cov_cons y _ _ 768 (fun h => mem_blk (k0_off8 k) (k0_off8_inb i k k0_h1) 6 k.val (k0_off8_eq k) y h0 h0' h l7) fun l6 => ?_
  refine cov_cons y _ _ 640 (fun h => mem_blk (k0_off7 k) (k0_off7_inb i k k0_h1) 5 k.val (k0_off7_eq k) y h0 h0' h l6) fun l5 => ?_
  refine cov_cons y _ _ 512 (fun h => mem_blk (k0_off6 k) (k0_off6_inb i k k0_h1) 4 k.val (k0_off6_eq k) y h0 h0' h l5) fun l4 => ?_
  refine cov_cons y _ _ 384 (fun h => mem_blk (k0_off5 k) (k0_off5_inb i k k0_h1) 3 k.val (k0_off5_eq k) y h0 h0' h l4) fun l3 => ?_
  refine cov_cons y _ _ 256 (fun h => mem_blk (k0_off4 k) (k0_off4_inb i k k0_h1) 2 k.val (k0_off4_eq k) y h0 h0' h l3) fun l2 => ?_
  refine cov_cons y _ _ 128 (fun h => mem_blk (k0_off3 k) (k0_off3_inb i k k0_h1) 1 k.val (k0_off3_eq k) y h0 h0' h l2) fun l1 => ?_
  refine cov_cons y _ _ 0 (fun h => mem_blk (k0_off2 k) (k0_off2_inb i k k0_h1) 0 k.val (k0_off2_eq k) y h0 h0' h l1) fun l0 => ?_
  exact absurd l0 (Nat.not_lt_zero _)

theorem scl1_at (r : Fin 32) (j : Fin 256) (hj : j.val = 32 * k.val + r.val) (c : Fin 56) (hc : c.val < 1) : scl1 (F := Ideal) i arg2 arg3 k0_h1 f2 f3 k (ix2 r c) = Ideal.ofBits .f32 (sb (arg2.view.read (Elt Ideal) f2) (arg3.view.read (Elt Ideal) f3) j c) :=
  scl_at arg2 arg3 f2 f3 (k0_off1 k) (k0_off2 k) (k0_off1_inb i k k0_h1) (k0_off2_inb i k k0_h1) 0 k.val (k0_off1_eq k) (k0_off2_eq k) r j hj 0#32 rfl _ c (fun h => absurd h (Nat.not_lt_zero _)) hc
theorem scl2_at (r : Fin 32) (j : Fin 256) (hj : j.val = 32 * k.val + r.val) (c : Fin 56) (hc : c.val < 2) : scl2 (F := Ideal) i arg2 arg3 k0_h1 f2 f3 k (ix2 r c) = Ideal.ofBits .f32 (sb (arg2.view.read (Elt Ideal) f2) (arg3.view.read (Elt Ideal) f3) j c) :=
  scl_at arg2 arg3 f2 f3 (k0_off1 k) (k0_off3 k) (k0_off1_inb i k k0_h1) (k0_off3_inb i k k0_h1) 1 k.val (k0_off1_eq k) (k0_off3_eq k) r j hj 1#32 rfl _ c (scl1_at i arg2 arg3 k0_h1 f2 f3 k r j hj c) hc
theorem scl3_at (r : Fin 32) (j : Fin 256) (hj : j.val = 32 * k.val + r.val) (c : Fin 56) (hc : c.val < 3) : scl3 (F := Ideal) i arg2 arg3 k0_h1 f2 f3 k (ix2 r c) = Ideal.ofBits .f32 (sb (arg2.view.read (Elt Ideal) f2) (arg3.view.read (Elt Ideal) f3) j c) :=
  scl_at arg2 arg3 f2 f3 (k0_off1 k) (k0_off4 k) (k0_off1_inb i k k0_h1) (k0_off4_inb i k k0_h1) 2 k.val (k0_off1_eq k) (k0_off4_eq k) r j hj 2#32 rfl _ c (scl2_at i arg2 arg3 k0_h1 f2 f3 k r j hj c) hc
theorem scl4_at (r : Fin 32) (j : Fin 256) (hj : j.val = 32 * k.val + r.val) (c : Fin 56) (hc : c.val < 4) : scl4 (F := Ideal) i arg2 arg3 k0_h1 f2 f3 k (ix2 r c) = Ideal.ofBits .f32 (sb (arg2.view.read (Elt Ideal) f2) (arg3.view.read (Elt Ideal) f3) j c) :=
  scl_at arg2 arg3 f2 f3 (k0_off1 k) (k0_off5 k) (k0_off1_inb i k k0_h1) (k0_off5_inb i k k0_h1) 3 k.val (k0_off1_eq k) (k0_off5_eq k) r j hj 3#32 rfl _ c (scl3_at i arg2 arg3 k0_h1 f2 f3 k r j hj c) hc
theorem scl5_at (r : Fin 32) (j : Fin 256) (hj : j.val = 32 * k.val + r.val) (c : Fin 56) (hc : c.val < 5) : scl5 (F := Ideal) i arg2 arg3 k0_h1 f2 f3 k (ix2 r c) = Ideal.ofBits .f32 (sb (arg2.view.read (Elt Ideal) f2) (arg3.view.read (Elt Ideal) f3) j c) :=
  scl_at arg2 arg3 f2 f3 (k0_off1 k) (k0_off6 k) (k0_off1_inb i k k0_h1) (k0_off6_inb i k k0_h1) 4 k.val (k0_off1_eq k) (k0_off6_eq k) r j hj 4#32 rfl _ c (scl4_at i arg2 arg3 k0_h1 f2 f3 k r j hj c) hc
theorem scl6_at (r : Fin 32) (j : Fin 256) (hj : j.val = 32 * k.val + r.val) (c : Fin 56) (hc : c.val < 6) : scl6 (F := Ideal) i arg2 arg3 k0_h1 f2 f3 k (ix2 r c) = Ideal.ofBits .f32 (sb (arg2.view.read (Elt Ideal) f2) (arg3.view.read (Elt Ideal) f3) j c) :=
  scl_at arg2 arg3 f2 f3 (k0_off1 k) (k0_off7 k) (k0_off1_inb i k k0_h1) (k0_off7_inb i k k0_h1) 5 k.val (k0_off1_eq k) (k0_off7_eq k) r j hj 5#32 rfl _ c (scl5_at i arg2 arg3 k0_h1 f2 f3 k r j hj c) hc
theorem scl7_at (r : Fin 32) (j : Fin 256) (hj : j.val = 32 * k.val + r.val) (c : Fin 56) (hc : c.val < 7) : scl7 (F := Ideal) i arg2 arg3 k0_h1 f2 f3 k (ix2 r c) = Ideal.ofBits .f32 (sb (arg2.view.read (Elt Ideal) f2) (arg3.view.read (Elt Ideal) f3) j c) :=
  scl_at arg2 arg3 f2 f3 (k0_off1 k) (k0_off8 k) (k0_off1_inb i k k0_h1) (k0_off8_inb i k k0_h1) 6 k.val (k0_off1_eq k) (k0_off8_eq k) r j hj 6#32 rfl _ c (scl6_at i arg2 arg3 k0_h1 f2 f3 k r j hj c) hc
theorem scl8_at (r : Fin 32) (j : Fin 256) (hj : j.val = 32 * k.val + r.val) (c : Fin 56) (hc : c.val < 8) : scl8 (F := Ideal) i arg2 arg3 k0_h1 f2 f3 k (ix2 r c) = Ideal.ofBits .f32 (sb (arg2.view.read (Elt Ideal) f2) (arg3.view.read (Elt Ideal) f3) j c) :=
  scl_at arg2 arg3 f2 f3 (k0_off1 k) (k0_off9 k) (k0_off1_inb i k k0_h1) (k0_off9_inb i k k0_h1) 7 k.val (k0_off1_eq k) (k0_off9_eq k) r j hj 7#32 rfl _ c (scl7_at i arg2 arg3 k0_h1 f2 f3 k r j hj c) hc
theorem scl9_at (r : Fin 32) (j : Fin 256) (hj : j.val = 32 * k.val + r.val) (c : Fin 56) (hc : c.val < 9) : scl9 (F := Ideal) i arg2 arg3 k0_h1 f2 f3 k (ix2 r c) = Ideal.ofBits .f32 (sb (arg2.view.read (Elt Ideal) f2) (arg3.view.read (Elt Ideal) f3) j c) :=
  scl_at arg2 arg3 f2 f3 (k0_off1 k) (k0_off10 k) (k0_off1_inb i k k0_h1) (k0_off10_inb i k k0_h1) 8 k.val (k0_off1_eq k) (k0_off10_eq k) r j hj 8#32 rfl _ c (scl8_at i arg2 arg3 k0_h1 f2 f3 k r j hj c) hc
theorem scl10_at (r : Fin 32) (j : Fin 256) (hj : j.val = 32 * k.val + r.val) (c : Fin 56) (hc : c.val < 10) : scl10 (F := Ideal) i arg2 arg3 k0_h1 f2 f3 k (ix2 r c) = Ideal.ofBits .f32 (sb (arg2.view.read (Elt Ideal) f2) (arg3.view.read (Elt Ideal) f3) j c) :=
  scl_at arg2 arg3 f2 f3 (k0_off1 k) (k0_off11 k) (k0_off1_inb i k k0_h1) (k0_off11_inb i k k0_h1) 9 k.val (k0_off1_eq k) (k0_off11_eq k) r j hj 9#32 rfl _ c (scl9_at i arg2 arg3 k0_h1 f2 f3 k r j hj c) hc
theorem scl11_at (r : Fin 32) (j : Fin 256) (hj : j.val = 32 * k.val + r.val) (c : Fin 56) (hc : c.val < 11) : scl11 (F := Ideal) i arg2 arg3 k0_h1 f2 f3 k (ix2 r c) = Ideal.ofBits .f32 (sb (arg2.view.read (Elt Ideal) f2) (arg3.view.read (Elt Ideal) f3) j c) :=
  scl_at arg2 arg3 f2 f3 (k0_off1 k) (k0_off12 k) (k0_off1_inb i k k0_h1) (k0_off12_inb i k k0_h1) 10 k.val (k0_off1_eq k) (k0_off12_eq k) r j hj 10#32 rfl _ c (scl10_at i arg2 arg3 k0_h1 f2 f3 k r j hj c) hc
theorem scl12_at (r : Fin 32) (j : Fin 256) (hj : j.val = 32 * k.val + r.val) (c : Fin 56) (hc : c.val < 12) : scl12 (F := Ideal) i arg2 arg3 k0_h1 f2 f3 k (ix2 r c) = Ideal.ofBits .f32 (sb (arg2.view.read (Elt Ideal) f2) (arg3.view.read (Elt Ideal) f3) j c) :=
  scl_at arg2 arg3 f2 f3 (k0_off1 k) (k0_off13 k) (k0_off1_inb i k k0_h1) (k0_off13_inb i k k0_h1) 11 k.val (k0_off1_eq k) (k0_off13_eq k) r j hj 11#32 rfl _ c (scl11_at i arg2 arg3 k0_h1 f2 f3 k r j hj c) hc
theorem scl13_at (r : Fin 32) (j : Fin 256) (hj : j.val = 32 * k.val + r.val) (c : Fin 56) (hc : c.val < 13) : scl13 (F := Ideal) i arg2 arg3 k0_h1 f2 f3 k (ix2 r c) = Ideal.ofBits .f32 (sb (arg2.view.read (Elt Ideal) f2) (arg3.view.read (Elt Ideal) f3) j c) :=
  scl_at arg2 arg3 f2 f3 (k0_off1 k) (k0_off14 k) (k0_off1_inb i k k0_h1) (k0_off14_inb i k k0_h1) 12 k.val (k0_off1_eq k) (k0_off14_eq k) r j hj 12#32 rfl _ c (scl12_at i arg2 arg3 k0_h1 f2 f3 k r j hj c) hc
theorem scl14_at (r : Fin 32) (j : Fin 256) (hj : j.val = 32 * k.val + r.val) (c : Fin 56) (hc : c.val < 14) : scl14 (F := Ideal) i arg2 arg3 k0_h1 f2 f3 k (ix2 r c) = Ideal.ofBits .f32 (sb (arg2.view.read (Elt Ideal) f2) (arg3.view.read (Elt Ideal) f3) j c) :=
  scl_at arg2 arg3 f2 f3 (k0_off1 k) (k0_off15 k) (k0_off1_inb i k k0_h1) (k0_off15_inb i k k0_h1) 13 k.val (k0_off1_eq k) (k0_off15_eq k) r j hj 13#32 rfl _ c (scl13_at i arg2 arg3 k0_h1 f2 f3 k r j hj c) hc
theorem scl15_at (r : Fin 32) (j : Fin 256) (hj : j.val = 32 * k.val + r.val) (c : Fin 56) (hc : c.val < 15) : scl15 (F := Ideal) i arg2 arg3 k0_h1 f2 f3 k (ix2 r c) = Ideal.ofBits .f32 (sb (arg2.view.read (Elt Ideal) f2) (arg3.view.read (Elt Ideal) f3) j c) :=
  scl_at arg2 arg3 f2 f3 (k0_off1 k) (k0_off16 k) (k0_off1_inb i k k0_h1) (k0_off16_inb i k k0_h1) 14 k.val (k0_off1_eq k) (k0_off16_eq k) r j hj 14#32 rfl _ c (scl14_at i arg2 arg3 k0_h1 f2 f3 k r j hj c) hc
theorem scl16_at (r : Fin 32) (j : Fin 256) (hj : j.val = 32 * k.val + r.val) (c : Fin 56) (hc : c.val < 16) : scl16 (F := Ideal) i arg2 arg3 k0_h1 f2 f3 k (ix2 r c) = Ideal.ofBits .f32 (sb (arg2.view.read (Elt Ideal) f2) (arg3.view.read (Elt Ideal) f3) j c) :=
  scl_at arg2 arg3 f2 f3 (k0_off1 k) (k0_off17 k) (k0_off1_inb i k k0_h1) (k0_off17_inb i k k0_h1) 15 k.val (k0_off1_eq k) (k0_off17_eq k) r j hj 15#32 rfl _ c (scl15_at i arg2 arg3 k0_h1 f2 f3 k r j hj c) hc
theorem scl17_at (r : Fin 32) (j : Fin 256) (hj : j.val = 32 * k.val + r.val) (c : Fin 56) (hc : c.val < 17) : scl17 (F := Ideal) i arg2 arg3 k0_h1 f2 f3 k (ix2 r c) = Ideal.ofBits .f32 (sb (arg2.view.read (Elt Ideal) f2) (arg3.view.read (Elt Ideal) f3) j c) :=
  scl_at arg2 arg3 f2 f3 (k0_off1 k) (k0_off18 k) (k0_off1_inb i k k0_h1) (k0_off18_inb i k k0_h1) 16 k.val (k0_off1_eq k) (k0_off18_eq k) r j hj 16#32 rfl _ c (scl16_at i arg2 arg3 k0_h1 f2 f3 k r j hj c) hc
theorem scl18_at (r : Fin 32) (j : Fin 256) (hj : j.val = 32 * k.val + r.val) (c : Fin 56) (hc : c.val < 18) : scl18 (F := Ideal) i arg2 arg3 k0_h1 f2 f3 k (ix2 r c) = Ideal.ofBits .f32 (sb (arg2.view.read (Elt Ideal) f2) (arg3.view.read (Elt Ideal) f3) j c) :=
  scl_at arg2 arg3 f2 f3 (k0_off1 k) (k0_off19 k) (k0_off1_inb i k k0_h1) (k0_off19_inb i k k0_h1) 17 k.val (k0_off1_eq k) (k0_off19_eq k) r j hj 17#32 rfl _ c (scl17_at i arg2 arg3 k0_h1 f2 f3 k r j hj c) hc
theorem scl19_at (r : Fin 32) (j : Fin 256) (hj : j.val = 32 * k.val + r.val) (c : Fin 56) (hc : c.val < 19) : scl19 (F := Ideal) i arg2 arg3 k0_h1 f2 f3 k (ix2 r c) = Ideal.ofBits .f32 (sb (arg2.view.read (Elt Ideal) f2) (arg3.view.read (Elt Ideal) f3) j c) :=
  scl_at arg2 arg3 f2 f3 (k0_off1 k) (k0_off20 k) (k0_off1_inb i k k0_h1) (k0_off20_inb i k k0_h1) 18 k.val (k0_off1_eq k) (k0_off20_eq k) r j hj 18#32 rfl _ c (scl18_at i arg2 arg3 k0_h1 f2 f3 k r j hj c) hc
theorem scl20_at (r : Fin 32) (j : Fin 256) (hj : j.val = 32 * k.val + r.val) (c : Fin 56) (hc : c.val < 20) : scl20 (F := Ideal) i arg2 arg3 k0_h1 f2 f3 k (ix2 r c) = Ideal.ofBits .f32 (sb (arg2.view.read (Elt Ideal) f2) (arg3.view.read (Elt Ideal) f3) j c) :=
  scl_at arg2 arg3 f2 f3 (k0_off1 k) (k0_off21 k) (k0_off1_inb i k k0_h1) (k0_off21_inb i k k0_h1) 19 k.val (k0_off1_eq k) (k0_off21_eq k) r j hj 19#32 rfl _ c (scl19_at i arg2 arg3 k0_h1 f2 f3 k r j hj c) hc
theorem scl21_at (r : Fin 32) (j : Fin 256) (hj : j.val = 32 * k.val + r.val) (c : Fin 56) (hc : c.val < 21) : scl21 (F := Ideal) i arg2 arg3 k0_h1 f2 f3 k (ix2 r c) = Ideal.ofBits .f32 (sb (arg2.view.read (Elt Ideal) f2) (arg3.view.read (Elt Ideal) f3) j c) :=
  scl_at arg2 arg3 f2 f3 (k0_off1 k) (k0_off22 k) (k0_off1_inb i k k0_h1) (k0_off22_inb i k k0_h1) 20 k.val (k0_off1_eq k) (k0_off22_eq k) r j hj 20#32 rfl _ c (scl20_at i arg2 arg3 k0_h1 f2 f3 k r j hj c) hc
theorem scl22_at (r : Fin 32) (j : Fin 256) (hj : j.val = 32 * k.val + r.val) (c : Fin 56) (hc : c.val < 22) : scl22 (F := Ideal) i arg2 arg3 k0_h1 f2 f3 k (ix2 r c) = Ideal.ofBits .f32 (sb (arg2.view.read (Elt Ideal) f2) (arg3.view.read (Elt Ideal) f3) j c) :=
  scl_at arg2 arg3 f2 f3 (k0_off1 k) (k0_off23 k) (k0_off1_inb i k k0_h1) (k0_off23_inb i k k0_h1) 21 k.val (k0_off1_eq k) (k0_off23_eq k) r j hj 21#32 rfl _ c (scl21_at i arg2 arg3 k0_h1 f2 f3 k r j hj c) hc
theorem scl23_at (r : Fin 32) (j : Fin 256) (hj : j.val = 32 * k.val + r.val) (c : Fin 56) (hc : c.val < 23) : scl23 (F := Ideal) i arg2 arg3 k0_h1 f2 f3 k (ix2 r c) = Ideal.ofBits .f32 (sb (arg2.view.read (Elt Ideal) f2) (arg3.view.read (Elt Ideal) f3) j c) :=
  scl_at arg2 arg3 f2 f3 (k0_off1 k) (k0_off24 k) (k0_off1_inb i k k0_h1) (k0_off24_inb i k k0_h1) 22 k.val (k0_off1_eq k) (k0_off24_eq k) r j hj 22#32 rfl _ c (scl22_at i arg2 arg3 k0_h1 f2 f3 k r j hj c) hc
theorem scl24_at (r : Fin 32) (j : Fin 256) (hj : j.val = 32 * k.val + r.val) (c : Fin 56) (hc : c.val < 24) : scl24 (F := Ideal) i arg2 arg3 k0_h1 f2 f3 k (ix2 r c) = Ideal.ofBits .f32 (sb (arg2.view.read (Elt Ideal) f2) (arg3.view.read (Elt Ideal) f3) j c) :=
  scl_at arg2 arg3 f2 f3 (k0_off1 k) (k0_off25 k) (k0_off1_inb i k k0_h1) (k0_off25_inb i k k0_h1) 23 k.val (k0_off1_eq k) (k0_off25_eq k) r j hj 23#32 rfl _ c (scl23_at i arg2 arg3 k0_h1 f2 f3 k r j hj c) hc
theorem scl25_at (r : Fin 32) (j : Fin 256) (hj : j.val = 32 * k.val + r.val) (c : Fin 56) (hc : c.val < 25) : scl25 (F := Ideal) i arg2 arg3 k0_h1 f2 f3 k (ix2 r c) = Ideal.ofBits .f32 (sb (arg2.view.read (Elt Ideal) f2) (arg3.view.read (Elt Ideal) f3) j c) :=
  scl_at arg2 arg3 f2 f3 (k0_off1 k) (k0_off26 k) (k0_off1_inb i k k0_h1) (k0_off26_inb i k k0_h1) 24 k.val (k0_off1_eq k) (k0_off26_eq k) r j hj 24#32 rfl _ c (scl24_at i arg2 arg3 k0_h1 f2 f3 k r j hj c) hc
theorem scl26_at (r : Fin 32) (j : Fin 256) (hj : j.val = 32 * k.val + r.val) (c : Fin 56) (hc : c.val < 26) : scl26 (F := Ideal) i arg2 arg3 k0_h1 f2 f3 k (ix2 r c) = Ideal.ofBits .f32 (sb (arg2.view.read (Elt Ideal) f2) (arg3.view.read (Elt Ideal) f3) j c) :=
  scl_at arg2 arg3 f2 f3 (k0_off1 k) (k0_off27 k) (k0_off1_inb i k k0_h1) (k0_off27_inb i k k0_h1) 25 k.val (k0_off1_eq k) (k0_off27_eq k) r j hj 25#32 rfl _ c (scl25_at i arg2 arg3 k0_h1 f2 f3 k r j hj c) hc
theorem scl27_at (r : Fin 32) (j : Fin 256) (hj : j.val = 32 * k.val + r.val) (c : Fin 56) (hc : c.val < 27) : scl27 (F := Ideal) i arg2 arg3 k0_h1 f2 f3 k (ix2 r c) = Ideal.ofBits .f32 (sb (arg2.view.read (Elt Ideal) f2) (arg3.view.read (Elt Ideal) f3) j c) :=
  scl_at arg2 arg3 f2 f3 (k0_off1 k) (k0_off28 k) (k0_off1_inb i k k0_h1) (k0_off28_inb i k k0_h1) 26 k.val (k0_off1_eq k) (k0_off28_eq k) r j hj 26#32 rfl _ c (scl26_at i arg2 arg3 k0_h1 f2 f3 k r j hj c) hc
theorem scl28_at (r : Fin 32) (j : Fin 256) (hj : j.val = 32 * k.val + r.val) (c : Fin 56) (hc : c.val < 28) : scl28 (F := Ideal) i arg2 arg3 k0_h1 f2 f3 k (ix2 r c) = Ideal.ofBits .f32 (sb (arg2.view.read (Elt Ideal) f2) (arg3.view.read (Elt Ideal) f3) j c) :=
  scl_at arg2 arg3 f2 f3 (k0_off1 k) (k0_off29 k) (k0_off1_inb i k k0_h1) (k0_off29_inb i k k0_h1) 27 k.val (k0_off1_eq k) (k0_off29_eq k) r j hj 27#32 rfl _ c (scl27_at i arg2 arg3 k0_h1 f2 f3 k r j hj c) hc
theorem scl29_at (r : Fin 32) (j : Fin 256) (hj : j.val = 32 * k.val + r.val) (c : Fin 56) (hc : c.val < 29) : scl29 (F := Ideal) i arg2 arg3 k0_h1 f2 f3 k (ix2 r c) = Ideal.ofBits .f32 (sb (arg2.view.read (Elt Ideal) f2) (arg3.view.read (Elt Ideal) f3) j c) :=
  scl_at arg2 arg3 f2 f3 (k0_off1 k) (k0_off30 k) (k0_off1_inb i k k0_h1) (k0_off30_inb i k k0_h1) 28 k.val (k0_off1_eq k) (k0_off30_eq k) r j hj 28#32 rfl _ c (scl28_at i arg2 arg3 k0_h1 f2 f3 k r j hj c) hc
theorem scl30_at (r : Fin 32) (j : Fin 256) (hj : j.val = 32 * k.val + r.val) (c : Fin 56) (hc : c.val < 30) : scl30 (F := Ideal) i arg2 arg3 k0_h1 f2 f3 k (ix2 r c) = Ideal.ofBits .f32 (sb (arg2.view.read (Elt Ideal) f2) (arg3.view.read (Elt Ideal) f3) j c) :=
  scl_at arg2 arg3 f2 f3 (k0_off1 k) (k0_off31 k) (k0_off1_inb i k k0_h1) (k0_off31_inb i k k0_h1) 29 k.val (k0_off1_eq k) (k0_off31_eq k) r j hj 29#32 rfl _ c (scl29_at i arg2 arg3 k0_h1 f2 f3 k r j hj c) hc
theorem scl31_at (r : Fin 32) (j : Fin 256) (hj : j.val = 32 * k.val + r.val) (c : Fin 56) (hc : c.val < 31) : scl31 (F := Ideal) i arg2 arg3 k0_h1 f2 f3 k (ix2 r c) = Ideal.ofBits .f32 (sb (arg2.view.read (Elt Ideal) f2) (arg3.view.read (Elt Ideal) f3) j c) :=
  scl_at arg2 arg3 f2 f3 (k0_off1 k) (k0_off32 k) (k0_off1_inb i k k0_h1) (k0_off32_inb i k k0_h1) 30 k.val (k0_off1_eq k) (k0_off32_eq k) r j hj 30#32 rfl _ c (scl30_at i arg2 arg3 k0_h1 f2 f3 k r j hj c) hc
theorem scl32_at (r : Fin 32) (j : Fin 256) (hj : j.val = 32 * k.val + r.val) (c : Fin 56) (hc : c.val < 32) : scl32 (F := Ideal) i arg2 arg3 k0_h1 f2 f3 k (ix2 r c) = Ideal.ofBits .f32 (sb (arg2.view.read (Elt Ideal) f2) (arg3.view.read (Elt Ideal) f3) j c) :=
  scl_at arg2 arg3 f2 f3 (k0_off1 k) (k0_off33 k) (k0_off1_inb i k k0_h1) (k0_off33_inb i k k0_h1) 31 k.val (k0_off1_eq k) (k0_off33_eq k) r j hj 31#32 rfl _ c (scl31_at i arg2 arg3 k0_h1 f2 f3 k r j hj c) hc
theorem scl33_at (r : Fin 32) (j : Fin 256) (hj : j.val = 32 * k.val + r.val) (c : Fin 56) (hc : c.val < 33) : scl33 (F := Ideal) i arg2 arg3 k0_h1 f2 f3 k (ix2 r c) = Ideal.ofBits .f32 (sb (arg2.view.read (Elt Ideal) f2) (arg3.view.read (Elt Ideal) f3) j c) :=
  scl_at arg2 arg3 f2 f3 (k0_off1 k) (k0_off34 k) (k0_off1_inb i k k0_h1) (k0_off34_inb i k k0_h1) 32 k.val (k0_off1_eq k) (k0_off34_eq k) r j hj 32#32 rfl _ c (scl32_at i arg2 arg3 k0_h1 f2 f3 k r j hj c) hc
theorem scl34_at (r : Fin 32) (j : Fin 256) (hj : j.val = 32 * k.val + r.val) (c : Fin 56) (hc : c.val < 34) : scl34 (F := Ideal) i arg2 arg3 k0_h1 f2 f3 k (ix2 r c) = Ideal.ofBits .f32 (sb (arg2.view.read (Elt Ideal) f2) (arg3.view.read (Elt Ideal) f3) j c) :=
  scl_at arg2 arg3 f2 f3 (k0_off1 k) (k0_off35 k) (k0_off1_inb i k k0_h1) (k0_off35_inb i k k0_h1) 33 k.val (k0_off1_eq k) (k0_off35_eq k) r j hj 33#32 rfl _ c (scl33_at i arg2 arg3 k0_h1 f2 f3 k r j hj c) hc
theorem scl35_at (r : Fin 32) (j : Fin 256) (hj : j.val = 32 * k.val + r.val) (c : Fin 56) (hc : c.val < 35) : scl35 (F := Ideal) i arg2 arg3 k0_h1 f2 f3 k (ix2 r c) = Ideal.ofBits .f32 (sb (arg2.view.read (Elt Ideal) f2) (arg3.view.read (Elt Ideal) f3) j c) :=
  scl_at arg2 arg3 f2 f3 (k0_off1 k) (k0_off36 k) (k0_off1_inb i k k0_h1) (k0_off36_inb i k k0_h1) 34 k.val (k0_off1_eq k) (k0_off36_eq k) r j hj 34#32 rfl _ c (scl34_at i arg2 arg3 k0_h1 f2 f3 k r j hj c) hc
theorem scl36_at (r : Fin 32) (j : Fin 256) (hj : j.val = 32 * k.val + r.val) (c : Fin 56) (hc : c.val < 36) : scl36 (F := Ideal) i arg2 arg3 k0_h1 f2 f3 k (ix2 r c) = Ideal.ofBits .f32 (sb (arg2.view.read (Elt Ideal) f2) (arg3.view.read (Elt Ideal) f3) j c) :=
  scl_at arg2 arg3 f2 f3 (k0_off1 k) (k0_off37 k) (k0_off1_inb i k k0_h1) (k0_off37_inb i k k0_h1) 35 k.val (k0_off1_eq k) (k0_off37_eq k) r j hj 35#32 rfl _ c (scl35_at i arg2 arg3 k0_h1 f2 f3 k r j hj c) hc
theorem scl37_at (r : Fin 32) (j : Fin 256) (hj : j.val = 32 * k.val + r.val) (c : Fin 56) (hc : c.val < 37) : scl37 (F := Ideal) i arg2 arg3 k0_h1 f2 f3 k (ix2 r c) = Ideal.ofBits .f32 (sb (arg2.view.read (Elt Ideal) f2) (arg3.view.read (Elt Ideal) f3) j c) :=
  scl_at arg2 arg3 f2 f3 (k0_off1 k) (k0_off38 k) (k0_off1_inb i k k0_h1) (k0_off38_inb i k k0_h1) 36 k.val (k0_off1_eq k) (k0_off38_eq k) r j hj 36#32 rfl _ c (scl36_at i arg2 arg3 k0_h1 f2 f3 k r j hj c) hc
theorem scl38_at (r : Fin 32) (j : Fin 256) (hj : j.val = 32 * k.val + r.val) (c : Fin 56) (hc : c.val < 38) : scl38 (F := Ideal) i arg2 arg3 k0_h1 f2 f3 k (ix2 r c) = Ideal.ofBits .f32 (sb (arg2.view.read (Elt Ideal) f2) (arg3.view.read (Elt Ideal) f3) j c) :=
  scl_at arg2 arg3 f2 f3 (k0_off1 k) (k0_off39 k) (k0_off1_inb i k k0_h1) (k0_off39_inb i k k0_h1) 37 k.val (k0_off1_eq k) (k0_off39_eq k) r j hj 37#32 rfl _ c (scl37_at i arg2 arg3 k0_h1 f2 f3 k r j hj c) hc
theorem scl39_at (r : Fin 32) (j : Fin 256) (hj : j.val = 32 * k.val + r.val) (c : Fin 56) (hc : c.val < 39) : scl39 (F := Ideal) i arg2 arg3 k0_h1 f2 f3 k (ix2 r c) = Ideal.ofBits .f32 (sb (arg2.view.read (Elt Ideal) f2) (arg3.view.read (Elt Ideal) f3) j c) :=
  scl_at arg2 arg3 f2 f3 (k0_off1 k) (k0_off40 k) (k0_off1_inb i k k0_h1) (k0_off40_inb i k k0_h1) 38 k.val (k0_off1_eq k) (k0_off40_eq k) r j hj 38#32 rfl _ c (scl38_at i arg2 arg3 k0_h1 f2 f3 k r j hj c) hc
theorem scl40_at (r : Fin 32) (j : Fin 256) (hj : j.val = 32 * k.val + r.val) (c : Fin 56) (hc : c.val < 40) : scl40 (F := Ideal) i arg2 arg3 k0_h1 f2 f3 k (ix2 r c) = Ideal.ofBits .f32 (sb (arg2.view.read (Elt Ideal) f2) (arg3.view.read (Elt Ideal) f3) j c) :=
  scl_at arg2 arg3 f2 f3 (k0_off1 k) (k0_off41 k) (k0_off1_inb i k k0_h1) (k0_off41_inb i k k0_h1) 39 k.val (k0_off1_eq k) (k0_off41_eq k) r j hj 39#32 rfl _ c (scl39_at i arg2 arg3 k0_h1 f2 f3 k r j hj c) hc
theorem scl41_at (r : Fin 32) (j : Fin 256) (hj : j.val = 32 * k.val + r.val) (c : Fin 56) (hc : c.val < 41) : scl41 (F := Ideal) i arg2 arg3 k0_h1 f2 f3 k (ix2 r c) = Ideal.ofBits .f32 (sb (arg2.view.read (Elt Ideal) f2) (arg3.view.read (Elt Ideal) f3) j c) :=
  scl_at arg2 arg3 f2 f3 (k0_off1 k) (k0_off42 k) (k0_off1_inb i k k0_h1) (k0_off42_inb i k k0_h1) 40 k.val (k0_off1_eq k) (k0_off42_eq k) r j hj 40#32 rfl _ c (scl40_at i arg2 arg3 k0_h1 f2 f3 k r j hj c) hc
theorem scl42_at (r : Fin 32) (j : Fin 256) (hj : j.val = 32 * k.val + r.val) (c : Fin 56) (hc : c.val < 42) : scl42 (F := Ideal) i arg2 arg3 k0_h1 f2 f3 k (ix2 r c) = Ideal.ofBits .f32 (sb (arg2.view.read (Elt Ideal) f2) (arg3.view.read (Elt Ideal) f3) j c) :=
  scl_at arg2 arg3 f2 f3 (k0_off1 k) (k0_off43 k) (k0_off1_inb i k k0_h1) (k0_off43_inb i k k0_h1) 41 k.val (k0_off1_eq k) (k0_off43_eq k) r j hj 41#32 rfl _ c (scl41_at i arg2 arg3 k0_h1 f2 f3 k r j hj c) hc
theorem scl43_at (r : Fin 32) (j : Fin 256) (hj : j.val = 32 * k.val + r.val) (c : Fin 56) (hc : c.val < 43) : scl43 (F := Ideal) i arg2 arg3 k0_h1 f2 f3 k (ix2 r c) = Ideal.ofBits .f32 (sb (arg2.view.read (Elt Ideal) f2) (arg3.view.read (Elt Ideal) f3) j c) :=
  scl_at arg2 arg3 f2 f3 (k0_off1 k) (k0_off44 k) (k0_off1_inb i k k0_h1) (k0_off44_inb i k k0_h1) 42 k.val (k0_off1_eq k) (k0_off44_eq k) r j hj 42#32 rfl _ c (scl42_at i arg2 arg3 k0_h1 f2 f3 k r j hj c) hc
theorem scl44_at (r : Fin 32) (j : Fin 256) (hj : j.val = 32 * k.val + r.val) (c : Fin 56) (hc : c.val < 44) : scl44 (F := Ideal) i arg2 arg3 k0_h1 f2 f3 k (ix2 r c) = Ideal.ofBits .f32 (sb (arg2.view.read (Elt Ideal) f2) (arg3.view.read (Elt Ideal) f3) j c) :=
  scl_at arg2 arg3 f2 f3 (k0_off1 k) (k0_off45 k) (k0_off1_inb i k k0_h1) (k0_off45_inb i k k0_h1) 43 k.val (k0_off1_eq k) (k0_off45_eq k) r j hj 43#32 rfl _ c (scl43_at i arg2 arg3 k0_h1 f2 f3 k r j hj c) hc
theorem scl45_at (r : Fin 32) (j : Fin 256) (hj : j.val = 32 * k.val + r.val) (c : Fin 56) (hc : c.val < 45) : scl45 (F := Ideal) i arg2 arg3 k0_h1 f2 f3 k (ix2 r c) = Ideal.ofBits .f32 (sb (arg2.view.read (Elt Ideal) f2) (arg3.view.read (Elt Ideal) f3) j c) :=
  scl_at arg2 arg3 f2 f3 (k0_off1 k) (k0_off46 k) (k0_off1_inb i k k0_h1) (k0_off46_inb i k k0_h1) 44 k.val (k0_off1_eq k) (k0_off46_eq k) r j hj 44#32 rfl _ c (scl44_at i arg2 arg3 k0_h1 f2 f3 k r j hj c) hc
theorem scl46_at (r : Fin 32) (j : Fin 256) (hj : j.val = 32 * k.val + r.val) (c : Fin 56) (hc : c.val < 46) : scl46 (F := Ideal) i arg2 arg3 k0_h1 f2 f3 k (ix2 r c) = Ideal.ofBits .f32 (sb (arg2.view.read (Elt Ideal) f2) (arg3.view.read (Elt Ideal) f3) j c) :=
  scl_at arg2 arg3 f2 f3 (k0_off1 k) (k0_off47 k) (k0_off1_inb i k k0_h1) (k0_off47_inb i k k0_h1) 45 k.val (k0_off1_eq k) (k0_off47_eq k) r j hj 45#32 rfl _ c (scl45_at i arg2 arg3 k0_h1 f2 f3 k r j hj c) hc
theorem scl47_at (r : Fin 32) (j : Fin 256) (hj : j.val = 32 * k.val + r.val) (c : Fin 56) (hc : c.val < 47) : scl47 (F := Ideal) i arg2 arg3 k0_h1 f2 f3 k (ix2 r c) = Ideal.ofBits .f32 (sb (arg2.view.read (Elt Ideal) f2) (arg3.view.read (Elt Ideal) f3) j c) :=
  scl_at arg2 arg3 f2 f3 (k0_off1 k) (k0_off48 k) (k0_off1_inb i k k0_h1) (k0_off48_inb i k k0_h1) 46 k.val (k0_off1_eq k) (k0_off48_eq k) r j hj 46#32 rfl _ c (scl46_at i arg2 arg3 k0_h1 f2 f3 k r j hj c) hc
theorem scl48_at (r : Fin 32) (j : Fin 256) (hj : j.val = 32 * k.val + r.val) (c : Fin 56) (hc : c.val < 48) : scl48 (F := Ideal) i arg2 arg3 k0_h1 f2 f3 k (ix2 r c) = Ideal.ofBits .f32 (sb (arg2.view.read (Elt Ideal) f2) (arg3.view.read (Elt Ideal) f3) j c) :=
  scl_at arg2 arg3 f2 f3 (k0_off1 k) (k0_off49 k) (k0_off1_inb i k k0_h1) (k0_off49_inb i k k0_h1) 47 k.val (k0_off1_eq k) (k0_off49_eq k) r j hj 47#32 rfl _ c (scl47_at i arg2 arg3 k0_h1 f2 f3 k r j hj c) hc
theorem scl49_at (r : Fin 32) (j : Fin 256) (hj : j.val = 32 * k.val + r.val) (c : Fin 56) (hc : c.val < 49) : scl49 (F := Ideal) i arg2 arg3 k0_h1 f2 f3 k (ix2 r c) = Ideal.ofBits .f32 (sb (arg2.view.read (Elt Ideal) f2) (arg3.view.read (Elt Ideal) f3) j c) :=
  scl_at arg2 arg3 f2 f3 (k0_off1 k) (k0_off50 k) (k0_off1_inb i k k0_h1) (k0_off50_inb i k k0_h1) 48 k.val (k0_off1_eq k) (k0_off50_eq k) r j hj 48#32 rfl _ c (scl48_at i arg2 arg3 k0_h1 f2 f3 k r j hj c) hc
theorem scl50_at (r : Fin 32) (j : Fin 256) (hj : j.val = 32 * k.val + r.val) (c : Fin 56) (hc : c.val < 50) : scl50 (F := Ideal) i arg2 arg3 k0_h1 f2 f3 k (ix2 r c) = Ideal.ofBits .f32 (sb (arg2.view.read (Elt Ideal) f2) (arg3.view.read (Elt Ideal) f3) j c) :=
  scl_at arg2 arg3 f2 f3 (k0_off1 k) (k0_off51 k) (k0_off1_inb i k k0_h1) (k0_off51_inb i k k0_h1) 49 k.val (k0_off1_eq k) (k0_off51_eq k) r j hj 49#32 rfl _ c (scl49_at i arg2 arg3 k0_h1 f2 f3 k r j hj c) hc
theorem scl51_at (r : Fin 32) (j : Fin 256) (hj : j.val = 32 * k.val + r.val) (c : Fin 56) (hc : c.val < 51) : scl51 (F := Ideal) i arg2 arg3 k0_h1 f2 f3 k (ix2 r c) = Ideal.ofBits .f32 (sb (arg2.view.read (Elt Ideal) f2) (arg3.view.read (Elt Ideal) f3) j c) :=
  scl_at arg2 arg3 f2 f3 (k0_off1 k) (k0_off52 k) (k0_off1_inb i k k0_h1) (k0_off52_inb i k k0_h1) 50 k.val (k0_off1_eq k) (k0_off52_eq k) r j hj 50#32 rfl _ c (scl50_at i arg2 arg3 k0_h1 f2 f3 k r j hj c) hc
theorem scl52_at (r : Fin 32) (j : Fin 256) (hj : j.val = 32 * k.val + r.val) (c : Fin 56) (hc : c.val < 52) : scl52 (F := Ideal) i arg2 arg3 k0_h1 f2 f3 k (ix2 r c) = Ideal.ofBits .f32 (sb (arg2.view.read (Elt Ideal) f2) (arg3.view.read (Elt Ideal) f3) j c) :=
  scl_at arg2 arg3 f2 f3 (k0_off1 k) (k0_off53 k) (k0_off1_inb i k k0_h1) (k0_off53_inb i k k0_h1) 51 k.val (k0_off1_eq k) (k0_off53_eq k) r j hj 51#32 rfl _ c (scl51_at i arg2 arg3 k0_h1 f2 f3 k r j hj c) hc
theorem scl53_at (r : Fin 32) (j : Fin 256) (hj : j.val = 32 * k.val + r.val) (c : Fin 56) (hc : c.val < 53) : scl53 (F := Ideal) i arg2 arg3 k0_h1 f2 f3 k (ix2 r c) = Ideal.ofBits .f32 (sb (arg2.view.read (Elt Ideal) f2) (arg3.view.read (Elt Ideal) f3) j c) :=
  scl_at arg2 arg3 f2 f3 (k0_off1 k) (k0_off54 k) (k0_off1_inb i k k0_h1) (k0_off54_inb i k k0_h1) 52 k.val (k0_off1_eq k) (k0_off54_eq k) r j hj 52#32 rfl _ c (scl52_at i arg2 arg3 k0_h1 f2 f3 k r j hj c) hc
theorem scl54_at (r : Fin 32) (j : Fin 256) (hj : j.val = 32 * k.val + r.val) (c : Fin 56) (hc : c.val < 54) : scl54 (F := Ideal) i arg2 arg3 k0_h1 f2 f3 k (ix2 r c) = Ideal.ofBits .f32 (sb (arg2.view.read (Elt Ideal) f2) (arg3.view.read (Elt Ideal) f3) j c) :=
  scl_at arg2 arg3 f2 f3 (k0_off1 k) (k0_off55 k) (k0_off1_inb i k k0_h1) (k0_off55_inb i k k0_h1) 53 k.val (k0_off1_eq k) (k0_off55_eq k) r j hj 53#32 rfl _ c (scl53_at i arg2 arg3 k0_h1 f2 f3 k r j hj c) hc
theorem scl55_at (r : Fin 32) (j : Fin 256) (hj : j.val = 32 * k.val + r.val) (c : Fin 56) (hc : c.val < 55) : scl55 (F := Ideal) i arg2 arg3 k0_h1 f2 f3 k (ix2 r c) = Ideal.ofBits .f32 (sb (arg2.view.read (Elt Ideal) f2) (arg3.view.read (Elt Ideal) f3) j c) :=
  scl_at arg2 arg3 f2 f3 (k0_off1 k) (k0_off56 k) (k0_off1_inb i k k0_h1) (k0_off56_inb i k k0_h1) 54 k.val (k0_off1_eq k) (k0_off56_eq k) r j hj 54#32 rfl _ c (scl54_at i arg2 arg3 k0_h1 f2 f3 k r j hj c) hc
theorem scl56_at (r : Fin 32) (j : Fin 256) (hj : j.val = 32 * k.val + r.val) (c : Fin 56) (hc : c.val < 56) : scl56 (F := Ideal) i arg2 arg3 k0_h1 f2 f3 k (ix2 r c) = Ideal.ofBits .f32 (sb (arg2.view.read (Elt Ideal) f2) (arg3.view.read (Elt Ideal) f3) j c) :=
  scl_at arg2 arg3 f2 f3 (k0_off1 k) (k0_off57 k) (k0_off1_inb i k k0_h1) (k0_off57_inb i k k0_h1) 55 k.val (k0_off1_eq k) (k0_off57_eq k) r j hj 55#32 rfl _ c (scl55_at i arg2 arg3 k0_h1 f2 f3 k r j hj c) hc

/-- The rows of scales a trip stores are those rows of `SCL`. -/
theorem sclL_pieces : ∀ p ∈ sclL (F := Ideal) i arg2 arg3 k0_h1 f2 f3 k, ∀ x : p.1.shape.Idx, p.2 x = SCL (arg2.view.read (Elt Ideal) f2) (arg3.view.read (Elt Ideal) f3) (p.1.emb x) := by
  unfold sclL
  refine List.forall_mem_cons.2 ⟨?_, fun p hp => absurd hp List.not_mem_nil⟩
  intro y
  obtain ⟨r, c, rfl⟩ : ∃ (r : Fin 32) (c : Fin 56), y = ix2 r c := ⟨y 0, y 1, eq_ix2 y⟩
  have hk := trips_lt k
  have hr := r.isLt
  have eo := k0_off58_eq k
  have e0 : (Rect.unit (s := S256x56) (k0_off58 k) S32x56.size (k0_off58_inb i k k0_h1)).emb (ix2 r c) 0 = (⟨32 * k.val + r.val, by omega⟩ : Fin 256) :=
    Fin.ext ((Rect.idx_unit_val _ _ _ _ 0).trans (congrArg (· + r.val) (congrFun eo 0)))
  have e1 : (Rect.unit (s := S256x56) (k0_off58 k) S32x56.size (k0_off58_inb i k k0_h1)).emb (ix2 r c) 1 = c :=
    Fin.ext ((Rect.idx_unit_val _ _ _ _ 1).trans ((congrArg (· + c.val) (congrFun eo 1)).trans (Nat.zero_add _)))
  refine (scl56_at i arg2 arg3 k0_h1 f2 f3 k r ⟨32 * k.val + r.val, by omega⟩ rfl c c.isLt).trans ?_
  show _ = Ideal.ofBits .f32 (sb _ _ ((Rect.unit (s := S256x56) (k0_off58 k) S32x56.size (k0_off58_inb i k k0_h1)).emb (ix2 r c) 0) ((Rect.unit (s := S256x56) (k0_off58 k) S32x56.size (k0_off58_inb i k k0_h1)).emb (ix2 r c) 1))
  rw [e0, e1]

theorem sclL_cover (y : S256x56.Idx) (h0 : 32 * k.val ≤ (y 0).val) (h0' : (y 0).val < 32 * k.val + 32) : ∃ p ∈ sclL (F := Ideal) i arg2 arg3 k0_h1 f2 f3 k, y ∈ p.1.set := by
  unfold sclL
  refine ⟨⟨Rect.unit (s := S256x56) (k0_off58 k) S32x56.size (k0_off58_inb i k k0_h1), scl56 i arg2 arg3 k0_h1 f2 f3 k⟩, List.mem_cons_self, ?_⟩
  refine (Rect.mem_set_unit (inb := k0_off58_inb i k k0_h1)).mpr fun a => ?_
  have eo := k0_off58_eq k
  match a with
  | ⟨0, _⟩ =>
    have e : k0_off58 k 0 = 32 * k.val := congrFun eo 0
    exact ⟨by show k0_off58 k 0 ≤ (y 0).val; omega, by show (y 0).val < k0_off58 k 0 + 32; omega⟩
  | ⟨1, _⟩ =>
    have e : k0_off58 k 1 = 0 := congrFun eo 1
    have h : (y 1).val < 56 := (y 1).isLt
    exact ⟨by show k0_off58 k 1 ≤ (y 1).val; omega, by show (y 1).val < k0_off58 k 1 + 56; omega⟩

end

/-- The stores of the first `t` trips: blocks of `COD`, covering the first `32 t` rows. -/
theorem pb_cod (𝒱 : Variants) (c : Dev nD) (bd : Option 𝒱.V) (i : grid0.Coords) (arg1 : Memref sig .tc .smem S192x56 .f32) (harg1 : arg1.IsWhole) (arg2 : Memref sig .tc .vmem S256x7168 .bf16) (harg2 : arg2.IsWhole) (arg3 : Memref sig .tc .vmem S1x7168 .f32) (harg3 : arg3.IsWhole) (arg4 : Memref sig .tc .vmem S1024x7168 .fp8e4m3) (harg4 : arg4.IsWhole) (arg5 : Memref sig .tc .vmem S256x1024 .bf16) (harg5 : arg5.IsWhole) (arg6 : Memref sig .tc .vmem S256x7168 .fp8e4m3) (harg6 : arg6.IsWhole) (arg7 : Memref sig .tc .vmem S256x56 .f32) (harg7 : arg7.IsWhole) (arg8 : Memref sig .tc .vmem S256x7168 .bf16) (harg8 : arg8.IsWhole) (k0_h1 : k0_cond1 i = 1#1) (X_arg2 : BufTy.Contents (Elt Ideal) arg2.view.ty) (X_arg3 : BufTy.Contents (Elt Ideal) arg3.view.ty) (t : ℕ) (ht : t ≤ 8) :
    (∀ p ∈ (pb_k0_t1 (F := Ideal) 𝒱 c bd i arg1 harg1 arg2 harg2 arg3 harg3 arg4 harg4 arg5 harg5 arg6 harg6 arg7 harg7 arg8 harg8 k0_h1 X_arg2 X_arg3 t).1, ∀ x : p.1.shape.Idx, p.2 x = COD (arg2.view.read (Elt Ideal) X_arg2) (arg3.view.read (Elt Ideal) X_arg3) (p.1.emb x))
    ∧ ∀ y : S256x7168.Idx, (y 0).val < 32 * t → ∃ p ∈ (pb_k0_t1 (F := Ideal) 𝒱 c bd i arg1 harg1 arg2 harg2 arg3 harg3 arg4 harg4 arg5 harg5 arg6 harg6 arg7 harg7 arg8 harg8 k0_h1 X_arg2 X_arg3 t).1, y ∈ p.1.set := by
  induction t with
  | zero => exact ⟨fun p hp => absurd hp List.not_mem_nil, fun y hy => absurd hy (Nat.not_lt_zero _)⟩
  | succ t ih =>
    obtain ⟨ih1, ih2⟩ := ih (by omega)
    have e := congrArg (fun z => z.1) (pb_k0_t1_succ (F := Ideal) 𝒱 c bd i arg1 harg1 arg2 harg2 arg3 harg3 arg4 harg4 arg5 harg5 arg6 harg6 arg7 harg7 arg8 harg8 k0_h1 X_arg2 X_arg3 (⟨t, ht⟩ : Fin k0_t1_loop.trips))
    dsimp only at e
    rw [e, trip_cod]
    refine ⟨fun p hp => ?_, fun y hy => ?_⟩
    · rcases List.mem_append.1 hp with hp | hp
      · exact codL_pieces i arg2 arg3 k0_h1 X_arg2 X_arg3 _ p hp
      · exact ih1 p hp
    · by_cases hlt : (y 0).val < 32 * t
      · obtain ⟨p, hp, hy'⟩ := ih2 y hlt
        exact ⟨p, List.mem_append_right _ hp, hy'⟩
      · obtain ⟨p, hp, hy'⟩ := codL_cover i arg2 arg3 k0_h1 X_arg2 X_arg3 (⟨t, ht⟩ : Fin k0_t1_loop.trips) y (by show 32 * t ≤ _; omega) (by show _ < 32 * t + 32; omega)
        exact ⟨p, List.mem_append_left _ hp, hy'⟩

/-- The stores of the first `t` trips: blocks of `SCL`, covering the first `32 t` rows. -/
theorem pb_scl (𝒱 : Variants) (c : Dev nD) (bd : Option 𝒱.V) (i : grid0.Coords) (arg1 : Memref sig .tc .smem S192x56 .f32) (harg1 : arg1.IsWhole) (arg2 : Memref sig .tc .vmem S256x7168 .bf16) (harg2 : arg2.IsWhole) (arg3 : Memref sig .tc .vmem S1x7168 .f32) (harg3 : arg3.IsWhole) (arg4 : Memref sig .tc .vmem S1024x7168 .fp8e4m3) (harg4 : arg4.IsWhole) (arg5 : Memref sig .tc .vmem S256x1024 .bf16) (harg5 : arg5.IsWhole) (arg6 : Memref sig .tc .vmem S256x7168 .fp8e4m3) (harg6 : arg6.IsWhole) (arg7 : Memref sig .tc .vmem S256x56 .f32) (harg7 : arg7.IsWhole) (arg8 : Memref sig .tc .vmem S256x7168 .bf16) (harg8 : arg8.IsWhole) (k0_h1 : k0_cond1 i = 1#1) (X_arg2 : BufTy.Contents (Elt Ideal) arg2.view.ty) (X_arg3 : BufTy.Contents (Elt Ideal) arg3.view.ty) (t : ℕ) (ht : t ≤ 8) :
    (∀ p ∈ (pb_k0_t1 (F := Ideal) 𝒱 c bd i arg1 harg1 arg2 harg2 arg3 harg3 arg4 harg4 arg5 harg5 arg6 harg6 arg7 harg7 arg8 harg8 k0_h1 X_arg2 X_arg3 t).2.1, ∀ x : p.1.shape.Idx, p.2 x = SCL (arg2.view.read (Elt Ideal) X_arg2) (arg3.view.read (Elt Ideal) X_arg3) (p.1.emb x))
    ∧ ∀ y : S256x56.Idx, (y 0).val < 32 * t → ∃ p ∈ (pb_k0_t1 (F := Ideal) 𝒱 c bd i arg1 harg1 arg2 harg2 arg3 harg3 arg4 harg4 arg5 harg5 arg6 harg6 arg7 harg7 arg8 harg8 k0_h1 X_arg2 X_arg3 t).2.1, y ∈ p.1.set := by
  induction t with
  | zero => exact ⟨fun p hp => absurd hp List.not_mem_nil, fun y hy => absurd hy (Nat.not_lt_zero _)⟩
  | succ t ih =>
    obtain ⟨ih1, ih2⟩ := ih (by omega)
    have e := congrArg (fun z => z.2.1) (pb_k0_t1_succ (F := Ideal) 𝒱 c bd i arg1 harg1 arg2 harg2 arg3 harg3 arg4 harg4 arg5 harg5 arg6 harg6 arg7 harg7 arg8 harg8 k0_h1 X_arg2 X_arg3 (⟨t, ht⟩ : Fin k0_t1_loop.trips))
    dsimp only at e
    rw [e, trip_scl]
    refine ⟨fun p hp => ?_, fun y hy => ?_⟩
    · rcases List.mem_append.1 hp with hp | hp
      · exact sclL_pieces i arg2 arg3 k0_h1 X_arg2 X_arg3 _ p hp
      · exact ih1 p hp
    · by_cases hlt : (y 0).val < 32 * t
      · obtain ⟨p, hp, hy'⟩ := ih2 y hlt
        exact ⟨p, List.mem_append_right _ hp, hy'⟩
      · obtain ⟨p, hp, hy'⟩ := sclL_cover i arg2 arg3 k0_h1 X_arg2 X_arg3 (⟨t, ht⟩ : Fin k0_t1_loop.trips) y (by show 32 * t ≤ _; omega) (by show _ < 32 * t + 32; omega)
        exact ⟨p, List.mem_append_left _ hp, hy'⟩

/-- The stores of the first `t` trips: blocks of `XQ`, covering the first `32 t` rows. -/
theorem pb_xq (𝒱 : Variants) (c : Dev nD) (bd : Option 𝒱.V) (i : grid0.Coords) (arg1 : Memref sig .tc .smem S192x56 .f32) (harg1 : arg1.IsWhole) (arg2 : Memref sig .tc .vmem S256x7168 .bf16) (harg2 : arg2.IsWhole) (arg3 : Memref sig .tc .vmem S1x7168 .f32) (harg3 : arg3.IsWhole) (arg4 : Memref sig .tc .vmem S1024x7168 .fp8e4m3) (harg4 : arg4.IsWhole) (arg5 : Memref sig .tc .vmem S256x1024 .bf16) (harg5 : arg5.IsWhole) (arg6 : Memref sig .tc .vmem S256x7168 .fp8e4m3) (harg6 : arg6.IsWhole) (arg7 : Memref sig .tc .vmem S256x56 .f32) (harg7 : arg7.IsWhole) (arg8 : Memref sig .tc .vmem S256x7168 .bf16) (harg8 : arg8.IsWhole) (k0_h1 : k0_cond1 i = 1#1) (X_arg2 : BufTy.Contents (Elt Ideal) arg2.view.ty) (X_arg3 : BufTy.Contents (Elt Ideal) arg3.view.ty) (t : ℕ) (ht : t ≤ 8) :
    (∀ p ∈ (pb_k0_t1 (F := Ideal) 𝒱 c bd i arg1 harg1 arg2 harg2 arg3 harg3 arg4 harg4 arg5 harg5 arg6 harg6 arg7 harg7 arg8 harg8 k0_h1 X_arg2 X_arg3 t).2.2, ∀ x : p.1.shape.Idx, p.2 x = XQ (arg2.view.read (Elt Ideal) X_arg2) (arg3.view.read (Elt Ideal) X_arg3) (p.1.emb x))
    ∧ ∀ y : S256x7168.Idx, (y 0).val < 32 * t → ∃ p ∈ (pb_k0_t1 (F := Ideal) 𝒱 c bd i arg1 harg1 arg2 harg2 arg3 harg3 arg4 harg4 arg5 harg5 arg6 harg6 arg7 harg7 arg8 harg8 k0_h1 X_arg2 X_arg3 t).2.2, y ∈ p.1.set := by
  induction t with
  | zero => exact ⟨fun p hp => absurd hp List.not_mem_nil, fun y hy => absurd hy (Nat.not_lt_zero _)⟩
  | succ t ih =>
    obtain ⟨ih1, ih2⟩ := ih (by omega)
    have e := congrArg (fun z => z.2.2) (pb_k0_t1_succ (F := Ideal) 𝒱 c bd i arg1 harg1 arg2 harg2 arg3 harg3 arg4 harg4 arg5 harg5 arg6 harg6 arg7 harg7 arg8 harg8 k0_h1 X_arg2 X_arg3 (⟨t, ht⟩ : Fin k0_t1_loop.trips))
    dsimp only at e
    rw [e, trip_xq]
    refine ⟨fun p hp => ?_, fun y hy => ?_⟩
    · rcases List.mem_append.1 hp with hp | hp
      · exact xqL_pieces i arg2 arg3 k0_h1 X_arg2 X_arg3 _ p hp
      · exact ih1 p hp
    · by_cases hlt : (y 0).val < 32 * t
      · obtain ⟨p, hp, hy'⟩ := ih2 y hlt
        exact ⟨p, List.mem_append_right _ hp, hy'⟩
      · obtain ⟨p, hp, hy'⟩ := xqL_cover i arg2 arg3 k0_h1 X_arg2 X_arg3 (⟨t, ht⟩ : Fin k0_t1_loop.trips) y (by show 32 * t ≤ _; omega) (by show _ < 32 * t + 32; omega)
        exact ⟨p, List.mem_append_left _ hp, hy'⟩

/-- After the loop the buffer reads `COD`. -/
theorem loop_cod (𝒱 : Variants) (c : Dev nD) (bd : Option 𝒱.V) (i : grid0.Coords) (arg1 : Memref sig .tc .smem S192x56 .f32) (harg1 : arg1.IsWhole) (arg2 : Memref sig .tc .vmem S256x7168 .bf16) (harg2 : arg2.IsWhole) (arg3 : Memref sig .tc .vmem S1x7168 .f32) (harg3 : arg3.IsWhole) (arg4 : Memref sig .tc .vmem S1024x7168 .fp8e4m3) (harg4 : arg4.IsWhole) (arg5 : Memref sig .tc .vmem S256x1024 .bf16) (harg5 : arg5.IsWhole) (arg6 : Memref sig .tc .vmem S256x7168 .fp8e4m3) (harg6 : arg6.IsWhole) (arg7 : Memref sig .tc .vmem S256x56 .f32) (harg7 : arg7.IsWhole) (arg8 : Memref sig .tc .vmem S256x7168 .bf16) (harg8 : arg8.IsWhole) (k0_h1 : k0_cond1 i = 1#1) (X_arg2 : BufTy.Contents (Elt Ideal) arg2.view.ty) (X_arg3 : BufTy.Contents (Elt Ideal) arg3.view.ty) (f : BufTy.Contents (Elt Ideal) arg6.view.ty) :
    arg6.view.read (Elt Ideal) (arg6.view.writes (Elt Ideal) f (pb_k0_t1 (F := Ideal) 𝒱 c bd i arg1 harg1 arg2 harg2 arg3 harg3 arg4 harg4 arg5 harg5 arg6 harg6 arg7 harg7 arg8 harg8 k0_h1 X_arg2 X_arg3 k0_t1_loop.trips).1)
      = COD (arg2.view.read (Elt Ideal) X_arg2) (arg3.view.read (Elt Ideal) X_arg3) := by
  funext y
  obtain ⟨h1, h2⟩ := pb_cod 𝒱 c bd i arg1 harg1 arg2 harg2 arg3 harg3 arg4 harg4 arg5 harg5 arg6 harg6 arg7 harg7 arg8 harg8 k0_h1 X_arg2 X_arg3 8 le_rfl
  exact View.read_writes_apply_of_pieces arg6.view f _ _ h1 y (h2 y (y 0).isLt)

/-- After the loop the buffer reads `SCL`. -/
theorem loop_scl (𝒱 : Variants) (c : Dev nD) (bd : Option 𝒱.V) (i : grid0.Coords) (arg1 : Memref sig .tc .smem S192x56 .f32) (harg1 : arg1.IsWhole) (arg2 : Memref sig .tc .vmem S256x7168 .bf16) (harg2 : arg2.IsWhole) (arg3 : Memref sig .tc .vmem S1x7168 .f32) (harg3 : arg3.IsWhole) (arg4 : Memref sig .tc .vmem S1024x7168 .fp8e4m3) (harg4 : arg4.IsWhole) (arg5 : Memref sig .tc .vmem S256x1024 .bf16) (harg5 : arg5.IsWhole) (arg6 : Memref sig .tc .vmem S256x7168 .fp8e4m3) (harg6 : arg6.IsWhole) (arg7 : Memref sig .tc .vmem S256x56 .f32) (harg7 : arg7.IsWhole) (arg8 : Memref sig .tc .vmem S256x7168 .bf16) (harg8 : arg8.IsWhole) (k0_h1 : k0_cond1 i = 1#1) (X_arg2 : BufTy.Contents (Elt Ideal) arg2.view.ty) (X_arg3 : BufTy.Contents (Elt Ideal) arg3.view.ty) (f : BufTy.Contents (Elt Ideal) arg7.view.ty) :
    arg7.view.read (Elt Ideal) (arg7.view.writes (Elt Ideal) f (pb_k0_t1 (F := Ideal) 𝒱 c bd i arg1 harg1 arg2 harg2 arg3 harg3 arg4 harg4 arg5 harg5 arg6 harg6 arg7 harg7 arg8 harg8 k0_h1 X_arg2 X_arg3 k0_t1_loop.trips).2.1)
      = SCL (arg2.view.read (Elt Ideal) X_arg2) (arg3.view.read (Elt Ideal) X_arg3) := by
  funext y
  obtain ⟨h1, h2⟩ := pb_scl 𝒱 c bd i arg1 harg1 arg2 harg2 arg3 harg3 arg4 harg4 arg5 harg5 arg6 harg6 arg7 harg7 arg8 harg8 k0_h1 X_arg2 X_arg3 8 le_rfl
  exact View.read_writes_apply_of_pieces arg7.view f _ _ h1 y (h2 y (y 0).isLt)

/-- After the loop the buffer reads `XQ`. -/
theorem loop_xq (𝒱 : Variants) (c : Dev nD) (bd : Option 𝒱.V) (i : grid0.Coords) (arg1 : Memref sig .tc .smem S192x56 .f32) (harg1 : arg1.IsWhole) (arg2 : Memref sig .tc .vmem S256x7168 .bf16) (harg2 : arg2.IsWhole) (arg3 : Memref sig .tc .vmem S1x7168 .f32) (harg3 : arg3.IsWhole) (arg4 : Memref sig .tc .vmem S1024x7168 .fp8e4m3) (harg4 : arg4.IsWhole) (arg5 : Memref sig .tc .vmem S256x1024 .bf16) (harg5 : arg5.IsWhole) (arg6 : Memref sig .tc .vmem S256x7168 .fp8e4m3) (harg6 : arg6.IsWhole) (arg7 : Memref sig .tc .vmem S256x56 .f32) (harg7 : arg7.IsWhole) (arg8 : Memref sig .tc .vmem S256x7168 .bf16) (harg8 : arg8.IsWhole) (k0_h1 : k0_cond1 i = 1#1) (X_arg2 : BufTy.Contents (Elt Ideal) arg2.view.ty) (X_arg3 : BufTy.Contents (Elt Ideal) arg3.view.ty) (f : BufTy.Contents (Elt Ideal) arg8.view.ty) :
    arg8.view.read (Elt Ideal) (arg8.view.writes (Elt Ideal) f (pb_k0_t1 (F := Ideal) 𝒱 c bd i arg1 harg1 arg2 harg2 arg3 harg3 arg4 harg4 arg5 harg5 arg6 harg6 arg7 harg7 arg8 harg8 k0_h1 X_arg2 X_arg3 k0_t1_loop.trips).2.2)
      = XQ (arg2.view.read (Elt Ideal) X_arg2) (arg3.view.read (Elt Ideal) X_arg3) := by
  funext y
  obtain ⟨h1, h2⟩ := pb_xq 𝒱 c bd i arg1 harg1 arg2 harg2 arg3 harg3 arg4 harg4 arg5 harg5 arg6 harg6 arg7 harg7 arg8 harg8 k0_h1 X_arg2 X_arg3 8 le_rfl
  exact View.read_writes_apply_of_pieces arg8.view f _ _ h1 y (h2 y (y 0).isLt)

end Cert.KernelIdeal.Hand
-- ==== Proof.KRun.lean ====
/- One grid point of the kernel, run over the extended reals: what its buffers read before and after. -/
module

public import proofs.«01_k».proof.Proof.BlockA
public import proofs.«01_k».proof.Proof.BlockB
public import proofs.«01_k».proof.Proof.BlockValue
public import proofs.«01_k».proof.Proof.TripValue
public import Idealize.ShloMosaic.Lib.LaneScatter.Own

@[expose] public section

set_option maxRecDepth 16384

noncomputable section

namespace Cert.KernelIdeal.Hand

open Cert.KernelIdeal Cert.KernelIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.LaneScatter (owns_raw raw_owns)

local notation "𝕄" => MT nD τ sig Unit (Elt Ideal) ℕ (UR sig nD τ) ℕ

/-- The block of `y` of grid point `b`: rows of the dequantised input against 1024 rows of the scaled weights. -/
def YB (WS : Vec Ideal S192x56 .f32) (W : Vec Ideal S1024x7168 .fp8e4m3) (Xq : Vec Ideal S256x7168 .bf16) (b : Fin 24) : Vec Ideal S256x1024 .bf16 :=
  fun y => ∑ g : Fin 56, grp WS W Xq ⟨8 * b.val + (y 1).val / 128, by have h : (y 1).val < 1024 := (y 1).isLt; omega⟩ (y 1) (y 0) g

theorem own_raw (c : Dev nD) {sp : Space} {sh : Shape} {e : EltTy} (M : Memref sig .tc sp sh e) (h : M.IsWhole) (x : sh.Idx → Elt Ideal e) :
    (owns (c : Thread nD τ) M fullShare x : sProp 𝕄) ⊢ (M.view.loc (c : Thread nD τ) ↦[M.view.set]{fullShare} (h.unread x)) :=
  owns_raw (c : Thread nD τ) M h x

theorem raw_own (c : Dev nD) {sp : Space} {sh : Shape} {e : EltTy} (M : Memref sig .tc sp sh e) (f : M.view.ty.Contents (Elt Ideal)) (x : sh.Idx → Elt Ideal e)
    (hx : M.view.read (Elt Ideal) f = x) :
    (M.view.loc (c : Thread nD τ) ↦[M.view.set]{fullShare} f : sProp 𝕄) ⊢ owns (c : Thread nD τ) M fullShare x :=
  raw_owns (c : Thread nD τ) M hx

theorem yBlk_eq (i : grid0.Coords) (arg1 : Memref sig .tc .smem S192x56 .f32) (arg4 : Memref sig .tc .vmem S1024x7168 .fp8e4m3) (arg8 : Memref sig .tc .vmem S256x7168 .bf16)
    (f1 : BufTy.Contents (Elt Ideal) arg1.view.ty) (f4 : BufTy.Contents (Elt Ideal) arg4.view.ty) (f8 : BufTy.Contents (Elt Ideal) arg8.view.ty) :
    yBlk i arg1 arg4 arg8 f1 f4 f8 = YB (arg1.view.read (Elt Ideal) f1) (arg4.view.read (Elt Ideal) f4) (arg8.view.read (Elt Ideal) f8) (i 0) := by
  funext y
  obtain ⟨j, n, rfl⟩ : ∃ (j : Fin 256) (n : Fin 1024), y = ix2 j n := ⟨y 0, y 1, eq_ix2 y⟩
  have hn := n.isLt
  have hi : (i 0).val < 24 := (i 0).isLt
  exact yBlk_at i arg1 arg4 arg8 f1 f4 f8 n j ⟨8 * (i 0).val + n.val / 128, by omega⟩ ⟨n.val / 128, by omega⟩ ⟨n.val % 128, by omega⟩
    (Nat.div_add_mod _ _).symm rfl

/-- One store over a whole block leaves what it stored. -/
theorem read_whole (arg5 : Memref sig .tc .vmem S256x1024 .bf16) (f : BufTy.Contents (Elt Ideal) arg5.view.ty) (v : Vec Ideal S256x1024 .bf16) :
    arg5.view.read (Elt Ideal) (arg5.view.writes (Elt Ideal) f [⟨Rect.unit (s := S256x1024) ![0, 0] S256x1024.size inb_S256x1024_S256x1024_0_0, v⟩]) = v := by
  have e : ∀ x : S256x1024.Idx, (Rect.unit (s := S256x1024) ![0, 0] S256x1024.size inb_S256x1024_S256x1024_0_0).emb x = x := fun x => by
    funext a
    refine Fin.ext ((Rect.idx_unit_val _ _ _ _ a).trans ?_)
    match a with
    | ⟨0, _⟩ => exact Nat.zero_add _
    | ⟨1, _⟩ => exact Nat.zero_add _
  funext y
  refine View.read_writes_apply_of_pieces arg5.view f v _ (List.forall_mem_cons.2 ⟨fun x => ?_, fun p hp => absurd hp List.not_mem_nil⟩) y
    ⟨_, List.mem_cons_self, ?_⟩
  · exact congrArg v (e x).symm
  · refine (Rect.mem_set_unit (inb := inb_S256x1024_S256x1024_0_0)).mpr fun a => ?_
    match a with
    | ⟨0, _⟩ => exact ⟨Nat.zero_le _, by show (y 0).val < 0 + 256; have h : (y 0).val < 256 := (y 0).isLt; omega⟩
    | ⟨1, _⟩ => exact ⟨Nat.zero_le _, by show (y 1).val < 0 + 1024; have h : (y 1).val < 1024 := (y 1).isLt; omega⟩

/-- A point that skips the quantising loop: `y`'s block out of the scratch, all else kept. -/
theorem owns_B (c : Dev nD) (i : grid0.Coords) (arg1 : Memref sig .tc .smem S192x56 .f32) (harg1 : arg1.IsWhole) (arg2 : Memref sig .tc .vmem S256x7168 .bf16) (harg2 : arg2.IsWhole) (arg3 : Memref sig .tc .vmem S1x7168 .f32) (harg3 : arg3.IsWhole) (arg4 : Memref sig .tc .vmem S1024x7168 .fp8e4m3) (harg4 : arg4.IsWhole) (arg5 : Memref sig .tc .vmem S256x1024 .bf16) (harg5 : arg5.IsWhole) (arg6 : Memref sig .tc .vmem S256x7168 .fp8e4m3) (harg6 : arg6.IsWhole) (arg7 : Memref sig .tc .vmem S256x56 .f32) (harg7 : arg7.IsWhole) (arg8 : Memref sig .tc .vmem S256x7168 .bf16) (harg8 : arg8.IsWhole) (hc0 : ¬cond0_0 i)
    (WS : Vec Ideal S192x56 .f32) (X : Vec Ideal S256x7168 .bf16) (G : Vec Ideal S1x7168 .f32) (W : Vec Ideal S1024x7168 .fp8e4m3) (D5 : Vec Ideal S256x1024 .bf16) (D6 : Vec Ideal S256x7168 .fp8e4m3) (D7 : Vec Ideal S256x56 .f32) (D8 : Vec Ideal S256x7168 .bf16) (E : Set ℕ) :
    (iprop(owns (c : Thread nD τ) arg1 fullShare WS ∗ owns (c : Thread nD τ) arg2 fullShare X ∗ owns (c : Thread nD τ) arg3 fullShare G ∗ owns (c : Thread nD τ) arg4 fullShare W ∗ owns (c : Thread nD τ) arg5 fullShare D5 ∗ owns (c : Thread nD τ) arg6 fullShare D6 ∗ owns (c : Thread nD τ) arg7 fullShare D7 ∗ owns (c : Thread nD τ) arg8 fullShare D8) : sProp 𝕄)
      ⊢ wp frame (wpE (defs₀ (F := Ideal)) Variants.none c none) E (cc0_rmsnorm_fp8_linear (F := Ideal) i arg1 harg1 arg2 harg2 arg3 harg3 arg4 harg4 arg5 harg5 arg6 harg6 arg7 harg7 arg8 harg8)
        (fun _ => iprop(owns (c : Thread nD τ) arg1 fullShare WS ∗ owns (c : Thread nD τ) arg2 fullShare X ∗ owns (c : Thread nD τ) arg3 fullShare G ∗ owns (c : Thread nD τ) arg4 fullShare W ∗ owns (c : Thread nD τ) arg5 fullShare (YB WS W D8 (i 0)) ∗ owns (c : Thread nD τ) arg6 fullShare D6 ∗ owns (c : Thread nD τ) arg7 fullShare D7 ∗ owns (c : Thread nD τ) arg8 fullShare D8)) := by
  have h := (runB (F := Ideal) c i arg1 harg1 arg2 harg2 arg3 harg3 arg4 harg4 arg5 harg5 arg6 harg6 arg7 harg7 arg8 harg8 hc0 (harg1.unread WS) (harg2.unread X) (harg3.unread G) (harg4.unread W) (harg8.unread D8)).2 E (harg5.unread D5) (harg6.unread D6) (harg7.unread D7)
  refine BIBase.Entails.trans ?_ (BIBase.Entails.trans h (wp_mono _ _ _ fun _ => ?_))
  · exact BIClass.sep_mono (own_raw c arg1 harg1 WS) (BIClass.sep_mono (own_raw c arg2 harg2 X) (BIClass.sep_mono (own_raw c arg3 harg3 G) (BIClass.sep_mono (own_raw c arg4 harg4 W) (BIClass.sep_mono (own_raw c arg5 harg5 D5) (BIClass.sep_mono (own_raw c arg6 harg6 D6) (BIClass.sep_mono (own_raw c arg7 harg7 D7) (own_raw c arg8 harg8 D8)))))))
  · exact BIClass.sep_mono (raw_own c arg1 _ _ (harg1.read_unread _)) (BIClass.sep_mono (raw_own c arg2 _ _ (harg2.read_unread _)) (BIClass.sep_mono (raw_own c arg3 _ _ (harg3.read_unread _)) (BIClass.sep_mono (raw_own c arg4 _ _ (harg4.read_unread _)) (BIClass.sep_mono (raw_own c arg5 _ _ ((congrArg (fun L => arg5.view.read (Elt Ideal) (arg5.view.writes (Elt Ideal) _ L)) (runB_eq (F := Ideal) c i arg1 harg1 arg2 harg2 arg3 harg3 arg4 harg4 arg5 harg5 arg6 harg6 arg7 harg7 arg8 harg8 hc0 _ _ _ _ _)).trans ((read_whole arg5 _ _).trans ((yBlk_eq i arg1 arg4 arg8 _ _ _).trans (by rw [harg1.read_unread, harg4.read_unread, harg8.read_unread]))))) (BIClass.sep_mono (raw_own c arg6 _ _ (harg6.read_unread _)) (BIClass.sep_mono (raw_own c arg7 _ _ (harg7.read_unread _)) (raw_own c arg8 _ _ (harg8.read_unread _))))))))

/-- The point that runs the quantising loop: codes, scales and the dequantised input, then `y`'s block. -/
theorem owns_A (c : Dev nD) (i : grid0.Coords) (arg1 : Memref sig .tc .smem S192x56 .f32) (harg1 : arg1.IsWhole) (arg2 : Memref sig .tc .vmem S256x7168 .bf16) (harg2 : arg2.IsWhole) (arg3 : Memref sig .tc .vmem S1x7168 .f32) (harg3 : arg3.IsWhole) (arg4 : Memref sig .tc .vmem S1024x7168 .fp8e4m3) (harg4 : arg4.IsWhole) (arg5 : Memref sig .tc .vmem S256x1024 .bf16) (harg5 : arg5.IsWhole) (arg6 : Memref sig .tc .vmem S256x7168 .fp8e4m3) (harg6 : arg6.IsWhole) (arg7 : Memref sig .tc .vmem S256x56 .f32) (harg7 : arg7.IsWhole) (arg8 : Memref sig .tc .vmem S256x7168 .bf16) (harg8 : arg8.IsWhole) (hc0 : cond0_0 i)
    (WS : Vec Ideal S192x56 .f32) (X : Vec Ideal S256x7168 .bf16) (G : Vec Ideal S1x7168 .f32) (W : Vec Ideal S1024x7168 .fp8e4m3) (D5 : Vec Ideal S256x1024 .bf16) (D6 : Vec Ideal S256x7168 .fp8e4m3) (D7 : Vec Ideal S256x56 .f32) (D8 : Vec Ideal S256x7168 .bf16) (E : Set ℕ) :
    (iprop(owns (c : Thread nD τ) arg1 fullShare WS ∗ owns (c : Thread nD τ) arg2 fullShare X ∗ owns (c : Thread nD τ) arg3 fullShare G ∗ owns (c : Thread nD τ) arg4 fullShare W ∗ owns (c : Thread nD τ) arg5 fullShare D5 ∗ owns (c : Thread nD τ) arg6 fullShare D6 ∗ owns (c : Thread nD τ) arg7 fullShare D7 ∗ owns (c : Thread nD τ) arg8 fullShare D8) : sProp 𝕄)
      ⊢ wp frame (wpE (defs₀ (F := Ideal)) Variants.none c none) E (cc0_rmsnorm_fp8_linear (F := Ideal) i arg1 harg1 arg2 harg2 arg3 harg3 arg4 harg4 arg5 harg5 arg6 harg6 arg7 harg7 arg8 harg8)
        (fun _ => iprop(owns (c : Thread nD τ) arg1 fullShare WS ∗ owns (c : Thread nD τ) arg2 fullShare X ∗ owns (c : Thread nD τ) arg3 fullShare G ∗ owns (c : Thread nD τ) arg4 fullShare W ∗ owns (c : Thread nD τ) arg5 fullShare (YB WS W (XQ X G) (i 0)) ∗ owns (c : Thread nD τ) arg6 fullShare (COD X G) ∗ owns (c : Thread nD τ) arg7 fullShare (SCL X G) ∗ owns (c : Thread nD τ) arg8 fullShare (XQ X G))) := by
  have h := (runA (F := Ideal) c i arg1 harg1 arg2 harg2 arg3 harg3 arg4 harg4 arg5 harg5 arg6 harg6 arg7 harg7 arg8 harg8 hc0 (harg1.unread WS) (harg2.unread X) (harg3.unread G) (harg4.unread W) (harg8.unread D8)).2 E (harg5.unread D5) (harg6.unread D6) (harg7.unread D7)
  refine BIBase.Entails.trans ?_ (BIBase.Entails.trans h (wp_mono _ _ _ fun _ => ?_))
  · exact BIClass.sep_mono (own_raw c arg1 harg1 WS) (BIClass.sep_mono (own_raw c arg2 harg2 X) (BIClass.sep_mono (own_raw c arg3 harg3 G) (BIClass.sep_mono (own_raw c arg4 harg4 W) (BIClass.sep_mono (own_raw c arg5 harg5 D5) (BIClass.sep_mono (own_raw c arg6 harg6 D6) (BIClass.sep_mono (own_raw c arg7 harg7 D7) (own_raw c arg8 harg8 D8)))))))
  · exact BIClass.sep_mono (raw_own c arg1 _ _ (harg1.read_unread _)) (BIClass.sep_mono (raw_own c arg2 _ _ (harg2.read_unread _)) (BIClass.sep_mono (raw_own c arg3 _ _ (harg3.read_unread _)) (BIClass.sep_mono (raw_own c arg4 _ _ (harg4.read_unread _)) (BIClass.sep_mono (raw_own c arg5 _ _ ((congrArg (fun L => arg5.view.read (Elt Ideal) (arg5.view.writes (Elt Ideal) _ L)) (runA_eq (F := Ideal) c i arg1 harg1 arg2 harg2 arg3 harg3 arg4 harg4 arg5 harg5 arg6 harg6 arg7 harg7 arg8 harg8 hc0 _ _ _ _ _)).trans ((read_whole arg5 _ _).trans ((yBlk_eq i arg1 arg4 arg8 _ _ _).trans (by rw [loop_xq, harg1.read_unread, harg4.read_unread, harg2.read_unread, harg3.read_unread]))))) (BIClass.sep_mono (raw_own c arg6 _ _ ((loop_cod Variants.none c none i arg1 harg1 arg2 harg2 arg3 harg3 arg4 harg4 arg5 harg5 arg6 harg6 arg7 harg7 arg8 harg8 hc0 _ _ _).trans (by rw [harg2.read_unread, harg3.read_unread]))) (BIClass.sep_mono (raw_own c arg7 _ _ ((loop_scl Variants.none c none i arg1 harg1 arg2 harg2 arg3 harg3 arg4 harg4 arg5 harg5 arg6 harg6 arg7 harg7 arg8 harg8 hc0 _ _ _).trans (by rw [harg2.read_unread, harg3.read_unread]))) (raw_own c arg8 _ _ ((loop_xq Variants.none c none i arg1 harg1 arg2 harg2 arg3 harg3 arg4 harg4 arg5 harg5 arg6 harg6 arg7 harg7 arg8 harg8 hc0 _ _ _).trans (by rw [harg2.read_unread, harg3.read_unread])))))))))

end Cert.KernelIdeal.Hand

end
-- ==== Proof.KFrame.lean ====
/- The kernel's run over the extended reals: the proof data of its pipeline, the body at every grid point, the arrays at the
end. -/
module

public import proofs.«01_k».proof.Proof.KRun
public import proofs.«01_k».proof.Proof.Runs
public import proofs.«01_k».proof.Proof.Gen.KernelIdeal.Frame
public import Idealize.ShloMosaic.Lib.Claim
public import Idealize.ShloMosaic.Lib.Pipeline.Value
public import Idealize.ShloMosaic.Lib.Pipeline.ValueKit

@[expose] public section

set_option maxRecDepth 16384

noncomputable section

namespace Cert.KernelIdeal.Hand

open Cert.KernelIdeal Cert.KernelIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

/-! ## The arrays as the region finds them -/

/-- The scales of the weights, the input, the gain and the weights, on core `c`. -/
def vWS (c : Dev nD) : Vec Ideal S192x56 .f32 := V m c main_arg3
def vX (c : Dev nD) : Vec Ideal S256x7168 .bf16 := V m c main_v0
def vG (c : Dev nD) : Vec Ideal S1x7168 .f32 := V m c main_v1
def vW (c : Dev nD) : Vec Ideal S24576x7168 .fp8e4m3 := V m c main_arg2

theorem idx0 (t : Fin cfg0.N) (a : Fin 2) : win0_0.index t a = 0 := by
  match a with
  | ⟨0, _⟩ => rfl
  | ⟨1, _⟩ => rfl
theorem iblk_ws (c : Dev nD) (t : Fin cfg0.N) : iblk m c 0 t = vWS m c := by
  funext y; unfold vWS; blk_ext [iblk, idx0 t 0, idx0 t 1]
theorem idx1 (t : Fin cfg0.N) (a : Fin 2) : win0_1.index t a = 0 := by
  match a with
  | ⟨0, _⟩ => rfl
  | ⟨1, _⟩ => rfl
theorem iblk_x (c : Dev nD) (t : Fin cfg0.N) : iblk m c 1 t = vX m c := by
  funext y; unfold vX; blk_ext [iblk, idx1 t 0, idx1 t 1]
theorem idx2 (t : Fin cfg0.N) (a : Fin 2) : win0_2.index t a = 0 := by
  match a with
  | ⟨0, _⟩ => rfl
  | ⟨1, _⟩ => rfl
theorem iblk_g (c : Dev nD) (t : Fin cfg0.N) : iblk m c 2 t = vG m c := by
  funext y; unfold vG; blk_ext [iblk, idx2 t 0, idx2 t 1]

/-! ## The pipeline's proof data -/

/-- Before the first point the scratch holds anything; after it, the dequantised input. -/
def PhiS (c : Dev nD) (n : ℕ) : sProp 𝕄 :=
  if n = 0 then Pipeline.ΦA spec0 c
  else iprop(owns (c : Thread nD τ) scM0_0 fullShare (XQ (vX m c) (vG m c)) ∗ (∃ r, prngReg c r))

/-- The arrays as the region finds them; after each point the inputs' buffers at their blocks, `y`'s buffer at its block, the
    codes' and the scales' buffers at all the codes and all the scales. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => YB (vWS m c) (iblk m c 3 t) (XQ (vX m c) (vG m c)) (grid0.coords t 0)
    | ⟨5, _⟩ => COD (vX m c) (vG m c)
    | ⟨6, _⟩ => SCL (vX m c) (vG m c)
  Φ t := PhiS m c t.val
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = YB (vWS m c) (iblk m c 3 t) (XQ (vX m c) (vG m c)) (grid0.coords t 0) := by dsimp only [dats]
theorem after0_5 (c : Dev nD) (t : Fin cfg0.N) : (dats m 0 c).after 5 t = COD (vX m c) (vG m c) := by dsimp only [dats]
theorem after0_6 (c : Dev nD) (t : Fin cfg0.N) : (dats m 0 c).after 6 t = SCL (vX m c) (vG m c) := by dsimp only [dats]

theorem before0_0 (c : Dev nD) (t : Fin cfg0.N) (d) : (dats m 0 c).before 0 t d = vWS m c :=
  (before0_0_of m (dats m 0 c) (A_eq m c 0) (after0_0 m c) t d).trans (iblk_ws m c t)
theorem before0_1 (c : Dev nD) (t : Fin cfg0.N) (d) : (dats m 0 c).before 1 t d = vX m c :=
  (before0_1_of m (dats m 0 c) (A_eq m c 1) (after0_1 m c) t d).trans (iblk_x m c t)
theorem before0_2 (c : Dev nD) (t : Fin cfg0.N) (d) : (dats m 0 c).before 2 t d = vG m c :=
  (before0_2_of m (dats m 0 c) (A_eq m c 2) (after0_2 m c) t d).trans (iblk_g m c t)
theorem before0_3 (c : Dev nD) (t : Fin cfg0.N) (d) : (dats m 0 c).before 3 t d = iblk m c 3 t :=
  before0_3_of m (dats m 0 c) (A_eq m c 3) (after0_3 m c) t d

/-! ## The two outputs written at the first point only -/

theorem liveAt0_4 : ∀ t : Fin cfg0.N, cfg0.idle 4 (grid0.coords t) = false := fun _ => rfl

theorem live5 (t : Fin cfg0.N) (h : t.val % 24 = 0) : cfg0.idle 5 (grid0.coords t) = false := by
  have h1 : k0_cond1 (grid0.coords t) = 1#1 := (hcond0_0 t).mpr h
  show (!(k0_cond1 (grid0.coords t) == 1#1)) = false
  rw [h1]; rfl
theorem idle5 (t : Fin cfg0.N) (h : ¬t.val % 24 = 0) : cfg0.idle 5 (grid0.coords t) = true := by
  have h1 : ¬k0_cond1 (grid0.coords t) = 1#1 := fun e => h ((hcond0_0 t).mp e)
  show (!(k0_cond1 (grid0.coords t) == 1#1)) = true
  rw [beq_false_of_ne h1]; rfl

/-- After the first point the buffer holds what that point left. -/
theorem before_5 (c : Dev nD) (d) : ∀ (n : ℕ) (h : n + 1 < cfg0.N), (dats m 0 c).before 5 ⟨n + 1, h⟩ d = COD (vX m c) (vG m c)
  | n, h => by
    have hN : cfg0.N = 24 := N_0
    have hf : ¬(cfg0.win 5).flush ⟨n, Nat.lt_of_succ_lt h⟩ = true := fun e => by
      have := (flush0_5 ⟨n, Nat.lt_of_succ_lt h⟩).mp e
      simp only at this
      have h' : n + 1 < 24 := Nat.lt_of_lt_of_eq h hN
      omega
    refine ((dats m 0 c).before_of_pos 5 ⟨n + 1, h⟩ (Nat.succ_ne_zero n) rfl d).trans ((if_neg hf).trans ?_)
    unfold Dat.left
    cases n with
    | zero =>
      have e : cfg0.idle 5 (cfg0.grid.coords ⟨0 + 1 - 1, Nat.lt_of_le_of_lt (Nat.sub_le _ _) h⟩) = false := live5 _ rfl
      rw [e]
      exact after0_5 m c _
    | succ n =>
      have e : cfg0.idle 5 (cfg0.grid.coords ⟨n + 1 + 1 - 1, Nat.lt_of_le_of_lt (Nat.sub_le _ _) h⟩) = true :=
        idle5 ⟨n + 1, Nat.lt_of_succ_lt h⟩ (by have h' : n + 1 + 1 < 24 := Nat.lt_of_lt_of_eq h hN; show ¬(n + 1) % 24 = 0; omega)
      rw [e]
      exact before_5 c d n (Nat.lt_of_succ_lt h)

theorem before_pos5 (c : Dev nD) (d) (t : Fin cfg0.N) (h : t.val ≠ 0) : (dats m 0 c).before 5 t d = COD (vX m c) (vG m c) := by
  obtain ⟨n, hn⟩ := t
  cases n with
  | zero => exact absurd rfl h
  | succ n => exact before_5 m c d n hn

theorem leaves_5 (c : Dev nD) (t : Fin cfg0.N) (h : t.val ≠ 0) :
    (owns (c : Thread nD τ) (ms0_5 t) fullShare (COD (vX m c) (vG m c)) : sProp 𝕄) ⊢ (dats m 0 c).leavesExact 5 t := by
  unfold Dat.leavesExact
  have hN : t.val < 24 := lt_of_lt_of_eq t.isLt (show cfg0.N = 24 from N_0)
  rw [show cfg0.idle 5 (cfg0.grid.coords t) = true from idle5 t (by omega)]
  cases hf : (cfg0.win 5).flush t
  · iintro H
    iexists COD (vX m c) (vG m c)
    rw [before_pos5 m c _ t h]
    iexact H
  · dsimp only
    rw [after0_5]

theorem live6 (t : Fin cfg0.N) (h : t.val % 24 = 0) : cfg0.idle 6 (grid0.coords t) = false := by
  have h1 : k0_cond1 (grid0.coords t) = 1#1 := (hcond0_0 t).mpr h
  show (!(k0_cond1 (grid0.coords t) == 1#1)) = false
  rw [h1]; rfl
theorem idle6 (t : Fin cfg0.N) (h : ¬t.val % 24 = 0) : cfg0.idle 6 (grid0.coords t) = true := by
  have h1 : ¬k0_cond1 (grid0.coords t) = 1#1 := fun e => h ((hcond0_0 t).mp e)
  show (!(k0_cond1 (grid0.coords t) == 1#1)) = true
  rw [beq_false_of_ne h1]; rfl

/-- After the first point the buffer holds what that point left. -/
theorem before_6 (c : Dev nD) (d) : ∀ (n : ℕ) (h : n + 1 < cfg0.N), (dats m 0 c).before 6 ⟨n + 1, h⟩ d = SCL (vX m c) (vG m c)
  | n, h => by
    have hN : cfg0.N = 24 := N_0
    have hf : ¬(cfg0.win 6).flush ⟨n, Nat.lt_of_succ_lt h⟩ = true := fun e => by
      have := (flush0_6 ⟨n, Nat.lt_of_succ_lt h⟩).mp e
      simp only at this
      have h' : n + 1 < 24 := Nat.lt_of_lt_of_eq h hN
      omega
    refine ((dats m 0 c).before_of_pos 6 ⟨n + 1, h⟩ (Nat.succ_ne_zero n) rfl d).trans ((if_neg hf).trans ?_)
    unfold Dat.left
    cases n with
    | zero =>
      have e : cfg0.idle 6 (cfg0.grid.coords ⟨0 + 1 - 1, Nat.lt_of_le_of_lt (Nat.sub_le _ _) h⟩) = false := live6 _ rfl
      rw [e]
      exact after0_6 m c _
    | succ n =>
      have e : cfg0.idle 6 (cfg0.grid.coords ⟨n + 1 + 1 - 1, Nat.lt_of_le_of_lt (Nat.sub_le _ _) h⟩) = true :=
        idle6 ⟨n + 1, Nat.lt_of_succ_lt h⟩ (by have h' : n + 1 + 1 < 24 := Nat.lt_of_lt_of_eq h hN; show ¬(n + 1) % 24 = 0; omega)
      rw [e]
      exact before_6 c d n (Nat.lt_of_succ_lt h)

theorem before_pos6 (c : Dev nD) (d) (t : Fin cfg0.N) (h : t.val ≠ 0) : (dats m 0 c).before 6 t d = SCL (vX m c) (vG m c) := by
  obtain ⟨n, hn⟩ := t
  cases n with
  | zero => exact absurd rfl h
  | succ n => exact before_6 m c d n hn

theorem leaves_6 (c : Dev nD) (t : Fin cfg0.N) (h : t.val ≠ 0) :
    (owns (c : Thread nD τ) (ms0_6 t) fullShare (SCL (vX m c) (vG m c)) : sProp 𝕄) ⊢ (dats m 0 c).leavesExact 6 t := by
  unfold Dat.leavesExact
  have hN : t.val < 24 := lt_of_lt_of_eq t.isLt (show cfg0.N = 24 from N_0)
  rw [show cfg0.idle 6 (cfg0.grid.coords t) = true from idle6 t (by omega)]
  cases hf : (cfg0.win 6).flush t
  · iintro H
    iexists SCL (vX m c) (vG m c)
    rw [before_pos6 m c _ t h]
    iexact H
  · dsimp only
    rw [after0_6]

/-! ## The body at a point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

theorem Phi_succ (c : Dev nD) (t : Fin cfg0.N) :
    (dats m 0 c).Φ t.succ = iprop(owns (c : Thread nD τ) scM0_0 fullShare (XQ (vX m c) (vG m c)) ∗ (∃ r, prngReg c r)) := by
  show PhiS m c (t.val + 1) = _
  unfold PhiS; rw [if_neg (Nat.succ_ne_zero _)]

theorem Phi_zero (c : Dev nD) (t : Fin cfg0.N) (h : t.val = 0) :
    (dats m 0 c).Φ t.castSucc = iprop(iprop((∃ d, owns (c : Thread nD τ) scM0_0 fullShare d)) ∗ (∃ r, prngReg c r)) := by
  show PhiS m c t.val = _
  unfold PhiS; rw [if_pos h, PhiA0_eq]

theorem Phi_pos (c : Dev nD) (t : Fin cfg0.N) (h : t.val ≠ 0) :
    (dats m 0 c).Φ t.castSucc = iprop(owns (c : Thread nD τ) scM0_0 fullShare (XQ (vX m c) (vG m c)) ∗ (∃ r, prngReg c r)) := by
  show PhiS m c t.val = _
  unfold PhiS; rw [if_neg h]

set_option maxHeartbeats 1600000 in
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl]
  have hN : t.val < 24 := lt_of_lt_of_eq t.isLt (show cfg0.N = 24 from N_0)
  rw [Phi_succ]
  by_cases h0 : t.val % 24 = 0
  · rw [Phi_zero m c t (by omega)]
    rw [show (dats m 0 c).leavesExact 0 t = owns (c : Thread nD τ) (ms0_0 t) fullShare ((dats m 0 c).after 0 t) from by
      unfold Dat.leavesExact; rw [liveAt0_0 t], after0_0, iblk_ws m c t]
    rw [show (dats m 0 c).leavesExact 1 t = owns (c : Thread nD τ) (ms0_1 t) fullShare ((dats m 0 c).after 1 t) from by
      unfold Dat.leavesExact; rw [liveAt0_1 t], after0_1, iblk_x m c t]
    rw [show (dats m 0 c).leavesExact 2 t = owns (c : Thread nD τ) (ms0_2 t) fullShare ((dats m 0 c).after 2 t) from by
      unfold Dat.leavesExact; rw [liveAt0_2 t], after0_2, iblk_g m c t]
    rw [show (dats m 0 c).leavesExact 3 t = owns (c : Thread nD τ) (ms0_3 t) fullShare ((dats m 0 c).after 3 t) from by
      unfold Dat.leavesExact; rw [liveAt0_3 t], after0_3]
    rw [show (dats m 0 c).leavesExact 4 t = owns (c : Thread nD τ) (ms0_4 t) fullShare ((dats m 0 c).after 4 t) from by
      unfold Dat.leavesExact; rw [liveAt0_4 t], after0_4]
    rw [show (dats m 0 c).leavesExact 5 t = owns (c : Thread nD τ) (ms0_5 t) fullShare ((dats m 0 c).after 5 t) from by
      unfold Dat.leavesExact; rw [show cfg0.idle 5 (cfg0.grid.coords t) = false from live5 t h0], after0_5]
    rw [show (dats m 0 c).leavesExact 6 t = owns (c : Thread nD τ) (ms0_6 t) fullShare ((dats m 0 c).after 6 t) from by
      unfold Dat.leavesExact; rw [show cfg0.idle 6 (cfg0.grid.coords t) = false from live6 t h0], after0_6]
    iintro ⟨⟨⟨%ds, HS⟩, Hg⟩, Ho, ⟨%d0, H0⟩, ⟨%d1, H1⟩, ⟨%d2, H2⟩, ⟨%d3, H3⟩, ⟨%d4, H4⟩, ⟨%d5, H5⟩, ⟨%d6, H6⟩⟩
    iapply (wp_wand_r frame _ _)
    isplitl [H0 H1 H2 H3 H4 H5 H6 HS]
    · iapply (owns_A c (grid0.coords t) _ _ _ _ _ _ _ _ _ _ _ _ _ _ _ _ ((hcond0_0 t).mpr h0) (vWS m c) (vX m c) (vG m c) (iblk m c 3 t) _ _ _ _ Set.univ)
      isplitl [H0]; · iexact H0
      isplitl [H1]; · iexact H1
      isplitl [H2]; · iexact H2
      isplitl [H3]; · iexact H3
      isplitl [H4]; · iexact H4
      isplitl [H5]; · iexact H5
      isplitl [H6]; · iexact H6
      iexact HS
    iintro %_ ⟨H0, H1, H2, H3, H4, H5, H6, HS⟩
    isplitl [HS Hg]
    · isplitl [HS]
      · iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · have hp : t.val ≠ 0 := by omega
    rw [Phi_pos m c t hp]
    rw [show (dats m 0 c).leavesExact 0 t = owns (c : Thread nD τ) (ms0_0 t) fullShare ((dats m 0 c).after 0 t) from by
      unfold Dat.leavesExact; rw [liveAt0_0 t], after0_0, iblk_ws m c t]
    rw [show (dats m 0 c).leavesExact 1 t = owns (c : Thread nD τ) (ms0_1 t) fullShare ((dats m 0 c).after 1 t) from by
      unfold Dat.leavesExact; rw [liveAt0_1 t], after0_1, iblk_x m c t]
    rw [show (dats m 0 c).leavesExact 2 t = owns (c : Thread nD τ) (ms0_2 t) fullShare ((dats m 0 c).after 2 t) from by
      unfold Dat.leavesExact; rw [liveAt0_2 t], after0_2, iblk_g m c t]
    rw [show (dats m 0 c).leavesExact 3 t = owns (c : Thread nD τ) (ms0_3 t) fullShare ((dats m 0 c).after 3 t) from by
      unfold Dat.leavesExact; rw [liveAt0_3 t], after0_3]
    rw [show (dats m 0 c).leavesExact 4 t = owns (c : Thread nD τ) (ms0_4 t) fullShare ((dats m 0 c).after 4 t) from by
      unfold Dat.leavesExact; rw [liveAt0_4 t], after0_4]
    simp only [before_pos5 m c _ t hp, before_pos6 m c _ t hp]
    iintro ⟨⟨HS, Hg⟩, Ho, ⟨%d0, H0⟩, ⟨%d1, H1⟩, ⟨%d2, H2⟩, ⟨%d3, H3⟩, ⟨%d4, H4⟩, ⟨%d5, H5⟩, ⟨%d6, H6⟩⟩
    iapply (wp_wand_r frame _ _)
    isplitl [H0 H1 H2 H3 H4 H5 H6 HS]
    · iapply (owns_B c (grid0.coords t) _ _ _ _ _ _ _ _ _ _ _ _ _ _ _ _ (fun h => h0 ((hcond0_0 t).mp h)) (vWS m c) (vX m c) (vG m c) (iblk m c 3 t) _ (COD (vX m c) (vG m c)) (SCL (vX m c) (vG m c)) (XQ (vX m c) (vG m c)) Set.univ)
      isplitl [H0]; · iexact H0
      isplitl [H1]; · iexact H1
      isplitl [H2]; · iexact H2
      isplitl [H3]; · iexact H3
      isplitl [H4]; · iexact H4
      isplitl [H5]; · iexact H5
      isplitl [H6]; · iexact H6
      iexact HS
    iintro %_ ⟨H0, H1, H2, H3, H4, H5, H6, HS⟩
    isplitl [HS Hg]
    · isplitl [HS]
      · iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iapply (leaves_5 m c t hp); iexact H5
    iapply (leaves_6 m c t hp); iexact H6

theorem defs₀_row (t : Fin cfg0.N) :
    defs₀ (F := Ideal) .tc cfg0.body (cfg0.bodyArgs t (cfg0.slots t)) = bodyAt0 t := by
  unfold defs₀; rw [Defs.onTc_tc]

theorem body_obligation (c : Dev nD) : BodyObligation (dats m 0 c) (defs₀ (F := Ideal)) Variants.none () Set.univ := fun t => by
  rw [bigSep_W0, bigSep_W0, defs₀_row]
  exact triple_restated (sound_body m c t) rfl .rfl fun _ => .rfl

theorem Phi_in (c : Dev nD) : (Pipeline.ΦA spec0 c : sProp 𝕄) ⊢ (dats m 0 c).Φ 0 := by
  rw [show (dats m 0 c).Φ 0 = Pipeline.ΦA spec0 c from rfl]

theorem Phi_out (c : Dev nD) : (dats m 0 c).Φ (Fin.last cfg0.N) ⊢ (Pipeline.ΦA spec0 c : sProp 𝕄) := by
  have hN : cfg0.N = 24 := N_0
  rw [show (dats m 0 c).Φ (Fin.last cfg0.N) = iprop(owns (c : Thread nD τ) scM0_0 fullShare (XQ (vX m c) (vG m c)) ∗ (∃ r, prngReg c r)) from by
    show PhiS m c cfg0.N = _
    unfold PhiS; rw [if_neg (by omega)], PhiA0_eq]
  iintro ⟨HS, Hg⟩
  isplitl [HS]
  · iexists _; iexact HS
  iexact Hg

/-! ## The run and the frame -/

-- the launch's implicit arguments are found by unfolding plain definitions
set_option backward.isDefEq.respectTransparency.types false in
theorem run_main_quiescent : θ_run defs (onTc (τ := τ) (main (F := Ideal))) (s₀ m ρ) (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := Phi_in m) (hout := Phi_out m)

theorem run_main : θ_run defs (onTc (τ := τ) (main (F := Ideal))) (s₀ m ρ) (Pipeline.FramePost cfgs (dats m) 0 (V m)) :=
  (θ_run defs _ _).mono (fun _ h => h.1) (run_main_quiescent m ρ)

theorem unchanged : θ_run defs (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

/-- The frame: the run ends, the arguments as they were, every counter at zero. -/
theorem frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ) ((θ_run defs _ _).mono (fun _ h => h.2) (run_main_quiescent m ρ))

end Cert.KernelIdeal.Hand

end
-- ==== Proof.KFinal.lean ====
/- The kernel's three result arrays, as functions of the arguments, over the extended reals. -/
module

public import proofs.«01_k».proof.Proof.KFrame

@[expose] public section

set_option maxRecDepth 16384

noncomputable section

namespace Cert.KernelIdeal.Hand

open Cert.KernelIdeal Cert.KernelIdeal.Gen Idealize.ShloMosaic Idealize.ShloMosaic.TcCoe Idealize.ShloMosaic.Tactic
open Idealize.SL.Sem
open Idealize.ShloMosaic.Pipeline (Dat Cfg Window)

variable (m : (ℓ : Loc nD τ sig) → Buf (Elt Ideal) ℓ) (ρ : Dev nD → PrngReg)

theorem V_v0 (c : Dev nD) : V m c main_v0 = shapeCast S256x7168 (m ((c : Thread nD τ).loc main_arg0)) shapeCasts_S2x128x7168_S256x7168 := by
  show StableHlo.after hostOps0 _ (Proc.devRef .tc main_v0) = _
  after_results
  rfl

theorem V_v1 (c : Dev nD) : V m c main_v1 = shapeCast S1x7168 (m ((c : Thread nD τ).loc main_arg1)) shapeCasts_S7168_S1x7168 := by
  show StableHlo.after hostOps0 _ (Proc.devRef .tc main_v1) = _
  after_results
  rfl

/-- The input as the region finds it is the argument, its two leading axes joined. -/
theorem vX_eq (c : Dev nD) : vX m c = shapeCast S256x7168 (m ((c : Thread nD τ).loc main_arg0)) shapeCasts_S2x128x7168_S256x7168 := V_v0 m c

/-- The gain as the region finds it is the argument, as one row. -/
theorem vG_eq (c : Dev nD) : vG m c = shapeCast S1x7168 (m ((c : Thread nD τ).loc main_arg1)) shapeCasts_S7168_S1x7168 := V_v1 m c

theorem vW_eq (c : Dev nD) : vW m c = m ((c : Thread nD τ).loc main_arg2) := V_main_arg2 m c
theorem vWS_eq (c : Dev nD) : vWS m c = m ((c : Thread nD τ).loc main_arg3) := V_main_arg3 m c

/-- All of `y`. -/
def YK (W : Vec Ideal S24576x7168 .fp8e4m3) (WS : Vec Ideal S192x56 .f32) (Xq : Vec Ideal S256x7168 .bf16) : Vec Ideal S256x24576 .bf16 :=
  fun y => ∑ g : Fin 56, ∑ k : Fin 128, (W (ix2 (y 1) ⟨128 * g.val + k.val, by omega⟩) * WS (ix2 ⟨(y 1).val / 128, by have h : (y 1).val < 24576 := (y 1).isLt; omega⟩ g))
    * Xq (ix2 (y 0) ⟨128 * g.val + k.val, by omega⟩)

/-- An entry of a block of `y` is an entry of all of `y`. -/
theorem YB_eq (WS : Vec Ideal S192x56 .f32) (W : Vec Ideal S1024x7168 .fp8e4m3) (W' : Vec Ideal S24576x7168 .fp8e4m3) (Xq : Vec Ideal S256x7168 .bf16) (b : Fin 24)
    (y : S256x1024.Idx) (i : S256x24576.Idx) (hW : ∀ d : Fin 7168, W (ix2 (y 1) d) = W' (ix2 (i 1) d)) (h0 : y 0 = i 0)
    (h1 : 8 * b.val + (y 1).val / 128 = (i 1).val / 128) : YB WS W Xq b y = YK W' WS Xq i := by
  unfold YB YK grp
  refine Finset.sum_congr rfl fun g _ => Finset.sum_congr rfl fun k _ => ?_
  rw [hW, h0]
  exact congrArg (fun z => _ * WS (ix2 z g) * _) (Fin.ext h1)

theorem idx3 : ∀ t : Fin cfg0.N, win0_3.index t 0 = t.val ∧ win0_3.index t 1 = 0 :=
  (by decide +kernel : ∀ t : Fin grid0.N, win0_3.index t 0 = t.val ∧ win0_3.index t 1 = 0)
theorem idx4 : ∀ t : Fin cfg0.N, win0_4.index t 0 = 0 ∧ win0_4.index t 1 = t.val :=
  (by decide +kernel : ∀ t : Fin grid0.N, win0_4.index t 0 = 0 ∧ win0_4.index t 1 = t.val)

/-- A block of the weights is its rows of the weights. -/
theorem iblk_w (c : Dev nD) (t : Fin cfg0.N) (n : Fin 1024) (d : Fin 7168) (n' : Fin 24576) (h : n'.val = t.val * 1024 + n.val) :
    iblk m c 3 t (ix2 n d) = vW m c (ix2 n' d) := by
  unfold vW
  blk_ext [iblk, (idx3 t).1, (idx3 t).2]

/-- The place of an entry of a block of `y`. -/
theorem emb4 (t : Fin cfg0.N) (y : ((cfg0.win 4).xblock (cfg0.grid.coords t)).Idx) :
    (((win0_4.blk t).view.emb y) 0).val = (y 0).val ∧ (((win0_4.blk t).view.emb y) 1).val = t.val * 1024 + (y 1).val := by
  constructor
  · blk_simp
    rw [(idx4 t).1]
    omega
  · blk_simp
    rw [(idx4 t).2]

theorem final5 (c : Dev nD) : (dats m 0 c).arrAt 5 cfg0.N = COD (vX m c) (vG m c) := by
  refine (dats m 0 c).arrAt_eq_of_after_last 5 ⟨23, by decide⟩ (by decide +kernel) _ fun j => ?_
  rw [after0_5]
  blk_simp
  rfl

theorem final6 (c : Dev nD) : (dats m 0 c).arrAt 6 cfg0.N = SCL (vX m c) (vG m c) := by
  refine (dats m 0 c).arrAt_eq_of_after_last 6 ⟨23, by decide⟩ (by decide +kernel) _ fun j => ?_
  rw [after0_6]
  blk_simp
  rfl

theorem final4 (c : Dev nD) : (dats m 0 c).arrAt 4 cfg0.N = YK (vW m c) (vWS m c) (XQ (vX m c) (vG m c)) := by
  refine (dats m 0 c).arrAt_eq_of_covers 4 _ (by decide +kernel) fun t hf y => ?_
  rw [after0_4]
  blk_simp
  obtain ⟨e0, e1⟩ := emb4 t y
  have ec : (grid0.coords t 0).val = t.val := by
    have h : (grid0.coords t 0).val = t.val / 1 % 24 := Pipeline.Grid.coords_val t 0 (by decide) rfl
    have ht : t.val < 24 := t.isLt
    omega
  have ht : t.val < 24 := t.isLt
  generalize (win0_4.blk t).view.emb y = i at e0 e1 ⊢
  exact YB_eq _ _ _ _ _ y i (fun d => iblk_w m c t (y 1) d (i 1) e1) (Fin.ext e0.symm) (by rw [ec, e1]; omega)

end Cert.KernelIdeal.Hand

end
-- ==== Proof.RefRun.lean ====
/- The reference's run with each result array named, block by block. -/
module

public import proofs.«01_k».proof.Proof.Gen.ReferenceIdeal.Frame
public import Idealize.ShloMosaic.Lib.Pipeline.Value

@[expose] public section

noncomputable section

namespace Cert.ReferenceIdeal.Blocks

open Cert.ReferenceIdeal Cert.ReferenceIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-! ## Blockwise: what each point writes back, and the final array block by block -/

/-- WHAT POINT `t` WRITES BACK to output window 4's array: the body's result for that window (`Gen.out0_4`: its stores
    as pieces over the input windows' blocks), read through the window's block. -/
theorem flushed4 (c : Dev nD) (t : Fin cfg0.N) :
    (dats m 0 c).flushed 4 t = (cfg0.win 4).cut (grid0.coords t) (out0_4 (iblk m c 0 t) (iblk m c 1 t) (iblk m c 2 t) (iblk m c 3 t)) := by
  show (cfg0.win 4).cut (grid0.coords t) ((dats m 0 c).after 4 t) = _
  rw [after0_4]

/-- The index map sends distinct grid points to distinct block indices (decided over the 1 point). -/
theorem idx_inj4 : ∀ t t' : Fin cfg0.N, win0_4.index t = win0_4.index t' → t = t' :=
  (by decide +kernel : ∀ t t' : Fin grid0.N, win0_4.index t = win0_4.index t' → t = t')

/-- So two flushing points' blocks share no array index (Lib/Pipeline/Cells.lean `Window.disjoint_blk`). -/
theorem disjoint4 : ∀ t t' : Fin cfg0.N, (cfg0.win 4).flush t = true → (cfg0.win 4).flush t' = true → t ≠ t' →
    Disjoint ((cfg0.win 4).blk t).view.set ((cfg0.win 4).blk t').view.set :=
  fun t t' _ _ hne => (cfg0.win 4).disjoint_blk fun h => hne (idx_inj4 t t' h)

/-- BLOCK `t` OF THE FINAL ARRAY, read back through the window, is what point `t` wrote back (`flushed4`), for every
    point that writes back: no other point's block meets it. -/
theorem blocks4 (c : Dev nD) (t : Fin cfg0.N) (hf : (cfg0.win 4).flush t = true) :
    ((cfg0.win 4).blk t).view.read (Elt F) ((dats m 0 c).arrAt 4 cfg0.N) = (dats m 0 c).flushed 4 t :=
  (dats m 0 c).read_blk_arrAt_eq_flushed 4 disjoint4 cfg0.N t t.isLt hf

/-- An index that no flushing point's block covers keeps output window 4's array contents at region entry. -/
theorem entry4 (c : Dev nD) (i : S256x24576.Idx) (h : ∀ t : Fin cfg0.N, (cfg0.win 4).flush t = true → i ∉ ((cfg0.win 4).blk t).view.set) :
    (dats m 0 c).arrAt 4 cfg0.N i = V m c (Pipeline.arrRef spec0 4) i := by
  rw [(dats m 0 c).arrAt_apply_of_forall_not_mem 4 cfg0.N i (fun t _ hf => h t hf), A_eq]

/-- WHAT POINT `t` WRITES BACK to output window 5's array: the body's result for that window (`Gen.out0_5`: its stores
    as pieces over the input windows' blocks), read through the window's block. -/
theorem flushed5 (c : Dev nD) (t : Fin cfg0.N) :
    (dats m 0 c).flushed 5 t = (cfg0.win 5).cut (grid0.coords t) (out0_5 (iblk m c 0 t) (iblk m c 1 t) (iblk m c 2 t) (iblk m c 3 t)) := by
  show (cfg0.win 5).cut (grid0.coords t) ((dats m 0 c).after 5 t) = _
  rw [after0_5]

/-- The index map sends distinct grid points to distinct block indices (decided over the 1 point). -/
theorem idx_inj5 : ∀ t t' : Fin cfg0.N, win0_5.index t = win0_5.index t' → t = t' :=
  (by decide +kernel : ∀ t t' : Fin grid0.N, win0_5.index t = win0_5.index t' → t = t')

/-- So two flushing points' blocks share no array index (Lib/Pipeline/Cells.lean `Window.disjoint_blk`). -/
theorem disjoint5 : ∀ t t' : Fin cfg0.N, (cfg0.win 5).flush t = true → (cfg0.win 5).flush t' = true → t ≠ t' →
    Disjoint ((cfg0.win 5).blk t).view.set ((cfg0.win 5).blk t').view.set :=
  fun t t' _ _ hne => (cfg0.win 5).disjoint_blk fun h => hne (idx_inj5 t t' h)

/-- BLOCK `t` OF THE FINAL ARRAY, read back through the window, is what point `t` wrote back (`flushed5`), for every
    point that writes back: no other point's block meets it. -/
theorem blocks5 (c : Dev nD) (t : Fin cfg0.N) (hf : (cfg0.win 5).flush t = true) :
    ((cfg0.win 5).blk t).view.read (Elt F) ((dats m 0 c).arrAt 5 cfg0.N) = (dats m 0 c).flushed 5 t :=
  (dats m 0 c).read_blk_arrAt_eq_flushed 5 disjoint5 cfg0.N t t.isLt hf

/-- An index that no flushing point's block covers keeps output window 5's array contents at region entry. -/
theorem entry5 (c : Dev nD) (i : S256x7168.Idx) (h : ∀ t : Fin cfg0.N, (cfg0.win 5).flush t = true → i ∉ ((cfg0.win 5).blk t).view.set) :
    (dats m 0 c).arrAt 5 cfg0.N i = V m c (Pipeline.arrRef spec0 5) i := by
  rw [(dats m 0 c).arrAt_apply_of_forall_not_mem 5 cfg0.N i (fun t _ hf => h t hf), A_eq]

/-- WHAT POINT `t` WRITES BACK to output window 6's array: the body's result for that window (`Gen.out0_6`: its stores
    as pieces over the input windows' blocks), read through the window's block. -/
theorem flushed6 (c : Dev nD) (t : Fin cfg0.N) :
    (dats m 0 c).flushed 6 t = (cfg0.win 6).cut (grid0.coords t) (out0_6 (iblk m c 0 t) (iblk m c 1 t) (iblk m c 2 t) (iblk m c 3 t)) := by
  show (cfg0.win 6).cut (grid0.coords t) ((dats m 0 c).after 6 t) = _
  rw [after0_6]

/-- The index map sends distinct grid points to distinct block indices (decided over the 1 point). -/
theorem idx_inj6 : ∀ t t' : Fin cfg0.N, win0_6.index t = win0_6.index t' → t = t' :=
  (by decide +kernel : ∀ t t' : Fin grid0.N, win0_6.index t = win0_6.index t' → t = t')

/-- So two flushing points' blocks share no array index (Lib/Pipeline/Cells.lean `Window.disjoint_blk`). -/
theorem disjoint6 : ∀ t t' : Fin cfg0.N, (cfg0.win 6).flush t = true → (cfg0.win 6).flush t' = true → t ≠ t' →
    Disjoint ((cfg0.win 6).blk t).view.set ((cfg0.win 6).blk t').view.set :=
  fun t t' _ _ hne => (cfg0.win 6).disjoint_blk fun h => hne (idx_inj6 t t' h)

/-- BLOCK `t` OF THE FINAL ARRAY, read back through the window, is what point `t` wrote back (`flushed6`), for every
    point that writes back: no other point's block meets it. -/
theorem blocks6 (c : Dev nD) (t : Fin cfg0.N) (hf : (cfg0.win 6).flush t = true) :
    ((cfg0.win 6).blk t).view.read (Elt F) ((dats m 0 c).arrAt 6 cfg0.N) = (dats m 0 c).flushed 6 t :=
  (dats m 0 c).read_blk_arrAt_eq_flushed 6 disjoint6 cfg0.N t t.isLt hf

/-- An index that no flushing point's block covers keeps output window 6's array contents at region entry. -/
theorem entry6 (c : Dev nD) (i : S256x56.Idx) (h : ∀ t : Fin cfg0.N, (cfg0.win 6).flush t = true → i ∉ ((cfg0.win 6).blk t).view.set) :
    (dats m 0 c).arrAt 6 cfg0.N i = V m c (Pipeline.arrRef spec0 6) i := by
  rw [(dats m 0 c).arrAt_apply_of_forall_not_mem 6 cfg0.N i (fun t _ hf => h t hf), A_eq]

/-- After the frame run, output window 4's array is `(dats m 0 c).arrAt 4 N`. -/
theorem post4 (r : PUnit × MemSt nD τ sig (Elt F)) (h : Pipeline.FramePost cfgs (dats m) 0 (V m) r) (c : Dev nD) :
    r.2.mem ((c : Thread nD τ).loc main_v2_0) = (dats m 0 c).arrAt 4 cfg0.N :=
  (h c).1 4

/-- After the frame run, output window 5's array is `(dats m 0 c).arrAt 5 N`. -/
theorem post5 (r : PUnit × MemSt nD τ sig (Elt F)) (h : Pipeline.FramePost cfgs (dats m) 0 (V m) r) (c : Dev nD) :
    r.2.mem ((c : Thread nD τ).loc main_v2_1) = (dats m 0 c).arrAt 5 cfg0.N :=
  (h c).1 5

/-- After the frame run, output window 6's array is `(dats m 0 c).arrAt 6 N`. -/
theorem post6 (r : PUnit × MemSt nD τ sig (Elt F)) (h : Pipeline.FramePost cfgs (dats m) 0 (V m) r) (c : Dev nD) :
    r.2.mem ((c : Thread nD τ).loc main_v2_2) = (dats m 0 c).arrAt 6 cfg0.N :=
  (h c).1 6

/-- After the frame run, argument `main_arg0` is as launched: no window stages it, and the run leaves the region's other buffers as they were. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).2 main_arg0 (Pipeline.mem_restRefs_of main_arg0 (by decide) (by decide))).trans (V_main_arg0 m c)

/-- After the frame run, argument `main_arg1` is as launched: no window stages it, and the run leaves the region's other buffers as they were. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).2 main_arg1 (Pipeline.mem_restRefs_of main_arg1 (by decide) (by decide))).trans (V_main_arg1 m c)

/-- After the frame run, argument `main_arg2` is as launched: input window 2 stages it and never writes it back. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).1 2).trans (((dats m 0 c).arrAt_in 2 rfl _).trans ((A_eq m c 2).trans (V_main_arg2 m c)))

/-- After the frame run, argument `main_arg3` is as launched: input window 3 stages it and never writes it back. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).1 3).trans (((dats m 0 c).arrAt_in 3 rfl _).trans ((A_eq m c 3).trans (V_main_arg3 m c)))

/-- The frame run with each output array after the run NAMED — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v2_0) = (dats m 0 c).arrAt 4 cfg0.N
      ∧ r.2.mem ((c : Thread nD τ).loc main_v2_1) = (dats m 0 c).arrAt 5 cfg0.N
      ∧ r.2.mem ((c : Thread nD τ).loc main_v2_2) = (dats m 0 c).arrAt 6 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨post4 m r h c,
      post5 m r h c,
      post6 m r h c,
      kept_main_arg0 m r h c,
      kept_main_arg1 m r h c,
      kept_main_arg2 m r h c,
      kept_main_arg3 m r h c⟩)
    (run_main m ρ)

end Cert.ReferenceIdeal.Blocks

end
-- ==== Proof.RefValue.lean ====
/- What the reference leaves, entry by entry over the extended reals. -/
module

public import proofs.«01_k».proof.Proof.RefRun
public import proofs.«01_k».proof.Proof.TripValue
public import Idealize.ShloMosaic.Lib.Pointwise
public import Idealize.ShloMosaic.Lib.Pipeline.ValueKit

@[expose] public section

set_option maxRecDepth 16384

noncomputable section

namespace Cert.ReferenceIdeal.Hand

open Cert.ReferenceIdeal Cert.ReferenceIdeal.Gen Idealize.ShloMosaic Idealize.ShloMosaic.TcCoe
open Cert.KernelIdeal.Hand (nv am)

/-! ## The body's values -/

section
variable (X : Vec Ideal S256x7168 .bf16) (G : Vec Ideal S1x7168 .f32)

/-- The exponent of a group's scale. -/
def ex (j : Fin 256) (g : Fin 56) : EReal := Cert.Scale.eref (am X G j g * Ideal.ofBits .f32 0x3B124925#32)

/-- A code. -/
def rcod (j : Fin 256) (g : Fin 56) (d : Fin 7168) : EReal :=
  min (Ideal.ofBits .f32 0x43E00000#32) (max (Ideal.ofBits .f32 0xC3E00000#32) (nv X G j d * Ideal.exp2 (Ideal.ofBits .f32 0x00000000#32 - ex X G j g)))

theorem pay4_at (j : Fin 256) (g : Fin 56) (c : Fin 128) :
    k0_pay4 (F := Ideal) X G (ix3 j g c) = nv X G j ⟨128 * g.val + c.val, by omega⟩ := by
  have e : (⟨128 * g.val + c.val, by omega⟩ : Fin 7168) = ⟨g.val * 128 + c.val, by omega⟩ := Fin.ext (by simp only; omega)
  rw [e]
  pointwise [k0_pay4]
  rfl

theorem pay5_at (j : Fin 256) (g : Fin 56) : k0_pay5 (F := Ideal) X G (ix2 j g) = ex X G j g := by
  pointwise [k0_pay5]
  simp only [pay4_at]
  unfold ex Cert.Scale.eref
  rw [Cert.Scale.select_olt, Cert.Scale.ofBits_zero, Cert.Scale.ofBits_one]
  rfl

theorem pay6_at (j : Fin 256) (g : Fin 56) : k0_pay6 (F := Ideal) X G (ix2 j g) = Ideal.exp2 (ex X G j g) := by
  rw [← pay5_at]
  pointwise [k0_pay6]
  rfl

theorem pay7_at (j : Fin 256) (g : Fin 56) (c : Fin 128) : k0_pay7 (F := Ideal) X G (ix3 j g c) = rcod X G j g ⟨128 * g.val + c.val, by omega⟩ := by
  unfold rcod
  rw [← pay5_at, ← pay4_at]
  pointwise [k0_pay7]
  rfl

end

theorem pay2_at (v : FVec Ideal S256x56x128 .f32) (j : Fin 256) (d : Fin 7168) :
    k0_pay2 (F := Ideal) v (ix2 j d) = v (ix3 j ⟨d.val / 128, by omega⟩ ⟨d.val % 128, by omega⟩) := by
  pointwise [k0_pay2, k0_pay1]

theorem pay3_at (s : FVec Ideal S256x56 .f32) (v : FVec Ideal S256x56x128 .f32) (w : Vec Ideal S24576x7168 .fp8e4m3) (ws : Vec Ideal S192x56 .f32) (j : Fin 256) (n : Fin 24576) :
    k0_pay3 (F := Ideal) s v w ws (ix2 j n)
      = ∑ x : Fin 7168, v (ix3 j ⟨x.val / 128, by omega⟩ ⟨x.val % 128, by omega⟩) * s (ix2 j ⟨x.val / 128, by omega⟩)
        * (w (ix2 n x) * ws (ix2 ⟨n.val / 128, by omega⟩ ⟨x.val / 128, by omega⟩)) := by
  pointwise [k0_pay3, k0_pay1]

/-! ## The arrays at the end -/

section
variable (X : Vec Ideal S256x7168 .bf16) (G : Vec Ideal S1x7168 .f32) (W : Vec Ideal S24576x7168 .fp8e4m3) (WS : Vec Ideal S192x56 .f32)

/-- All the codes, all the scales, all of `y`. -/
def rCOD : Vec Ideal S256x7168 .fp8e4m3 := fun y => rcod X G (y 0) ⟨(y 1).val / 128, by have h : (y 1).val < 7168 := (y 1).isLt; omega⟩ (y 1)
def rSCL : Vec Ideal S256x56 .f32 := fun y => Ideal.exp2 (ex X G (y 0) (y 1))
def rY : Vec Ideal S256x24576 .bf16 := fun y => ∑ x : Fin 7168, rcod X G (y 0) ⟨x.val / 128, by omega⟩ x * Ideal.exp2 (ex X G (y 0) ⟨x.val / 128, by omega⟩)
        * (W (ix2 (y 1) x) * WS (ix2 ⟨(y 1).val / 128, by have h : (y 1).val < 24576 := (y 1).isLt; omega⟩ ⟨x.val / 128, by omega⟩))

theorem out5_eq : out0_5 (F := Ideal) X G W WS = rCOD X G := by
  funext y
  obtain ⟨j, d, rfl⟩ : ∃ (j : Fin 256) (d : Fin 7168), y = ix2 j d := ⟨y 0, y 1, eq_ix2 y⟩
  unfold out0_5 k0_pay9
  frame_out
  refine (pay2_at _ j d).trans ((pay7_at X G j _ _).trans ?_)
  exact congrArg (rcod X G j _) (Fin.ext (Nat.div_add_mod _ _))

theorem out6_eq : out0_6 (F := Ideal) X G W WS = rSCL X G := by
  funext y
  obtain ⟨j, d, rfl⟩ : ∃ (j : Fin 256) (d : Fin 56), y = ix2 j d := ⟨y 0, y 1, eq_ix2 y⟩
  unfold out0_6 k0_pay8
  frame_out
  exact pay6_at X G j d

theorem out4_eq : out0_4 (F := Ideal) X G W WS = rY X G W WS := by
  funext y
  obtain ⟨j, d, rfl⟩ : ∃ (j : Fin 256) (d : Fin 24576), y = ix2 j d := ⟨y 0, y 1, eq_ix2 y⟩
  unfold out0_4 k0_pay8 k0_pay9
  frame_out
  refine (pay3_at _ _ _ _ j d).trans (Finset.sum_congr rfl fun x _ => ?_)
  rw [pay7_at, pay6_at]
  exact congrArg (fun k => rcod X G j _ k * _ * _) (Fin.ext (Nat.div_add_mod _ _))

end

end Cert.ReferenceIdeal.Hand

end
-- ==== Proof.RefFinal.lean ====
/- The reference's three result arrays, as functions of the arguments, over the extended reals. -/
module

public import proofs.«01_k».proof.Proof.RefValue

@[expose] public section

set_option maxRecDepth 16384

noncomputable section

namespace Cert.ReferenceIdeal.Hand

open Cert.ReferenceIdeal Cert.ReferenceIdeal.Gen Idealize.ShloMosaic Idealize.ShloMosaic.TcCoe Idealize.ShloMosaic.Tactic
open Idealize.SL.Sem
open Idealize.ShloMosaic.Pipeline (Dat Cfg Window)

variable (m : (ℓ : Loc nD τ sig) → Buf (Elt Ideal) ℓ)

/-- The input, the gain, the weights and the weights' scales as the region finds them, on core `c`. -/
def vX (c : Dev nD) : Vec Ideal S256x7168 .bf16 := V m c main_v0
def vG (c : Dev nD) : Vec Ideal S1x7168 .f32 := V m c main_v1
def vW (c : Dev nD) : Vec Ideal S24576x7168 .fp8e4m3 := V m c main_arg2
def vWS (c : Dev nD) : Vec Ideal S192x56 .f32 := V m c main_arg3

theorem V_v0 (c : Dev nD) : V m c main_v0 = shapeCast S256x7168 (m ((c : Thread nD τ).loc main_arg0)) shapeCasts_S2x128x7168_S256x7168 := by
  show StableHlo.after hostOps0 _ (Proc.devRef .tc main_v0) = _
  after_results
  rfl

theorem V_v1 (c : Dev nD) : V m c main_v1 = shapeCast S1x7168 (m ((c : Thread nD τ).loc main_arg1)) shapeCasts_S7168_S1x7168 := by
  show StableHlo.after hostOps0 _ (Proc.devRef .tc main_v1) = _
  after_results
  rfl

/-- The input as the region finds it is the argument, its two leading axes joined. -/
theorem vX_eq (c : Dev nD) : vX m c = shapeCast S256x7168 (m ((c : Thread nD τ).loc main_arg0)) shapeCasts_S2x128x7168_S256x7168 := V_v0 m c

/-- The gain as the region finds it is the argument, as one row. -/
theorem vG_eq (c : Dev nD) : vG m c = shapeCast S1x7168 (m ((c : Thread nD τ).loc main_arg1)) shapeCasts_S7168_S1x7168 := V_v1 m c

theorem vW_eq (c : Dev nD) : vW m c = m ((c : Thread nD τ).loc main_arg2) := V_main_arg2 m c
theorem vWS_eq (c : Dev nD) : vWS m c = m ((c : Thread nD τ).loc main_arg3) := V_main_arg3 m c

theorem idx0 (t : Fin cfg0.N) (a : Fin 2) : win0_0.index t a = 0 := by
  match a with
  | ⟨0, _⟩ => rfl
  | ⟨1, _⟩ => rfl
theorem iblk_x (c : Dev nD) (t : Fin cfg0.N) : iblk m c 0 t = vX m c := by
  funext y; unfold vX; blk_ext [iblk, idx0 t 0, idx0 t 1]
theorem idx1 (t : Fin cfg0.N) (a : Fin 2) : win0_1.index t a = 0 := by
  match a with
  | ⟨0, _⟩ => rfl
  | ⟨1, _⟩ => rfl
theorem iblk_g (c : Dev nD) (t : Fin cfg0.N) : iblk m c 1 t = vG m c := by
  funext y; unfold vG; blk_ext [iblk, idx1 t 0, idx1 t 1]
theorem idx2 (t : Fin cfg0.N) (a : Fin 2) : win0_2.index t a = 0 := by
  match a with
  | ⟨0, _⟩ => rfl
  | ⟨1, _⟩ => rfl
theorem iblk_w (c : Dev nD) (t : Fin cfg0.N) : iblk m c 2 t = vW m c := by
  funext y; unfold vW; blk_ext [iblk, idx2 t 0, idx2 t 1]
theorem idx3 (t : Fin cfg0.N) (a : Fin 2) : win0_3.index t a = 0 := by
  match a with
  | ⟨0, _⟩ => rfl
  | ⟨1, _⟩ => rfl
theorem iblk_ws (c : Dev nD) (t : Fin cfg0.N) : iblk m c 3 t = vWS m c := by
  funext y; unfold vWS; blk_ext [iblk, idx3 t 0, idx3 t 1]

theorem final4 (c : Dev nD) : (dats m 0 c).arrAt 4 cfg0.N = rY (vX m c) (vG m c) (vW m c) (vWS m c) := by
  refine (dats m 0 c).arrAt_eq_of_after_last 4 ⟨0, by decide⟩ (by decide +kernel) _ fun j => ?_
  rw [after0_4, iblk_x, iblk_g, iblk_w, iblk_ws, out4_eq]
  blk_simp

theorem final5 (c : Dev nD) : (dats m 0 c).arrAt 5 cfg0.N = rCOD (vX m c) (vG m c) := by
  refine (dats m 0 c).arrAt_eq_of_after_last 5 ⟨0, by decide⟩ (by decide +kernel) _ fun j => ?_
  rw [after0_5, iblk_x, iblk_g, iblk_w, iblk_ws, out5_eq]
  blk_simp

theorem final6 (c : Dev nD) : (dats m 0 c).arrAt 6 cfg0.N = rSCL (vX m c) (vG m c) := by
  refine (dats m 0 c).arrAt_eq_of_after_last 6 ⟨0, by decide⟩ (by decide +kernel) _ fun j => ?_
  rw [after0_6, iblk_x, iblk_g, iblk_w, iblk_ws, out6_eq]
  blk_simp

end Cert.ReferenceIdeal.Hand

end
-- ==== Proof.Equal.lean ====
/- The kernel's values and the reference's are the same, when every gain is at most the greatest finite `f32` in size: the
scales, the codes and the product, entry by entry over the extended reals. -/
module

public import proofs.«01_k».proof.Proof.KFinal
public import proofs.«01_k».proof.Proof.RefFinal
public import proofs.«01_k».proof.Pre_finite_gain

@[expose] public section

set_option maxRecDepth 16384

noncomputable section

namespace Cert.Equal

open Idealize.ShloMosaic Idealize.ShloMosaic.TcCoe
open Cert.KernelIdeal (S256x7168 S1x7168 S256x56 S24576x7168 S192x56 S256x24576 S7168)
open Cert.KernelIdeal.Hand (nv am sb codv COD SCL XQ YK)
open Cert.ReferenceIdeal.Hand (ex rcod rCOD rSCL rY)

section
variable (X : Vec Ideal S256x7168 .bf16) (G : Vec Ideal S1x7168 .f32)
  (hg : ∀ d : Fin 7168, max (G (ix2 0 d)) (-(G (ix2 0 d))) ≤ Ideal.ofBits .f32 0x7F7FFFFF#32)

include hg in
/-- A group's scale, and its inverse, are the reference's powers of two. -/
theorem scale_eq (j : Fin 256) (g : Fin 56) :
    Ideal.ofBits .f32 (sb X G j g) = Ideal.exp2 (ex X G j g)
      ∧ Ideal.ofBits .f32 (IntOp.subi 2130706432#32 (sb X G j g)) = Ideal.exp2 (Ideal.ofBits .f32 0x00000000#32 - ex X G j g) := by
  have h := Cert.Scale.amax_bound (fun k : Fin 128 => X (ix2 j ⟨128 * g.val + k.val, by omega⟩) * Cert.Scale.rs (fun k => X (ix2 j k)))
    (fun k : Fin 128 => G (ix2 0 ⟨128 * g.val + k.val, by omega⟩))
    (fun k => Cert.Scale.entry_bound (fun k => X (ix2 j k)) ⟨128 * g.val + k.val, by omega⟩) (fun k => hg _)
  exact Cert.Scale.scale_inv _ h.1 h.2

include hg in
theorem cod_eq (j : Fin 256) (g : Fin 56) (d : Fin 7168) : codv X G j g d = rcod X G j g d := by
  unfold codv rcod
  rw [(scale_eq X G hg j g).2]

include hg in
theorem COD_eq : COD X G = rCOD X G := by
  funext y
  exact cod_eq X G hg _ _ _

include hg in
theorem SCL_eq : SCL X G = rSCL X G := by
  funext y
  exact (scale_eq X G hg _ _).1

/-- A sum over all the columns is the sum over the groups of the sums over each group's columns. -/
theorem sum_groups (f : Fin 7168 → EReal) :
    ∑ x : Fin 7168, f x = ∑ g : Fin 56, ∑ k : Fin 128, f ⟨128 * g.val + k.val, by omega⟩ := by
  rw [← Equiv.sum_comp (finProdFinEquiv (m := 56) (n := 128)) (f : Fin (56 * 128) → EReal), Fintype.sum_prod_type]
  refine Finset.sum_congr rfl fun g _ => Finset.sum_congr rfl fun k _ => congrArg f (Fin.ext ?_)
  show k.val + 128 * g.val = 128 * g.val + k.val
  omega

include hg in
theorem Y_eq (W : Vec Ideal S24576x7168 .fp8e4m3) (WS : Vec Ideal S192x56 .f32) : YK W WS (XQ X G) = rY X G W WS := by
  funext y
  unfold YK rY
  rw [sum_groups]
  refine Finset.sum_congr rfl fun g _ => Finset.sum_congr rfl fun k _ => ?_
  have e : (⟨(128 * g.val + k.val) / 128, by omega⟩ : Fin 56) = g := Fin.ext (by show (128 * g.val + k.val) / 128 = g.val; omega)
  show _ * (codv X G (y 0) ⟨(128 * g.val + k.val) / 128, _⟩ ⟨128 * g.val + k.val, _⟩ * Ideal.ofBits .f32 (sb X G (y 0) ⟨(128 * g.val + k.val) / 128, _⟩)) = _
  simp only [e]
  have h : codv X G (y 0) g ⟨128 * g.val + k.val, by omega⟩ * Ideal.ofBits .f32 (sb X G (y 0) g)
      = rcod X G (y 0) g ⟨128 * g.val + k.val, by omega⟩ * Ideal.exp2 (ex X G (y 0) g) :=
    congrArg₂ (fun a b : EReal => a * b) (cod_eq X G hg _ _ _) (scale_eq X G hg _ _).1
  exact (congrArg (fun z : EReal => (W (ix2 (y 1) ⟨128 * g.val + k.val, by omega⟩) * WS (ix2 ⟨(y 1).val / 128, by have h : (y 1).val < 24576 := (y 1).isLt; omega⟩ g)) * z) h).trans (mul_comm _ _)

end

/-- The precondition, read at an entry. -/
theorem gain_le [Cert.Pre_finite_gain.Facts] (a0 : FVec Ideal Cert.Pre_finite_gain.S2x128x7168 .bf16) (a1 : FVec Ideal Cert.Pre_finite_gain.S7168 .f32)
    (a2 : FVec Ideal Cert.Pre_finite_gain.S24576x7168 .fp8e4m3) (a3 : FVec Ideal Cert.Pre_finite_gain.S192x56 .f32)
    (h : Cert.Pre_finite_gain.fn (F := Ideal) a0 a1 a2 a3 = fun _ => 1#1) (i : Cert.Pre_finite_gain.S7168.Idx) :
    max (a1 i) (-(a1 i)) ≤ Ideal.ofBits .f32 0x7F7FFFFF#32 := by
  have h1 := congrFun h i
  have h2 : Ideal.cmp .ole (max (a1 i) (-(a1 i))) (Ideal.ofBits .f32 0x7F7FFFFF#32) = 1#1 := h1
  by_contra hc
  revert h2
  simp [Ideal.cmp, hc]

end Cert.Equal

end
-- ==== Proof.Result.lean ====
/- The kernel and the reference end with equal results, from equal arguments with a finite gain. -/
module

public import proofs.«01_k».proof.Defs
public import proofs.«01_k».proof.Proof.Equal
public import proofs.«01_k».proof.Proof.Gen.Pre_finite_gain

@[expose] public section

set_option maxRecDepth 16384

noncomputable section

namespace Cert.Equal

open Idealize.ShloMosaic Idealize.ShloMosaic.TcCoe Idealize.SL.Sem

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)

section
variable (c : Dev Cert.KernelIdeal.nD)

/-- From equal inputs both regions find the same input. -/
theorem x_eq (h : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) :
    Cert.ReferenceIdeal.Hand.vX m' c = Cert.KernelIdeal.Hand.vX m c := by
  rw [Cert.ReferenceIdeal.Hand.vX_eq, Cert.KernelIdeal.Hand.vX_eq, h]

/-- From equal gains both regions find the same gain. -/
theorem g_eq (h : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) :
    Cert.ReferenceIdeal.Hand.vG m' c = Cert.KernelIdeal.Hand.vG m c := by
  rw [Cert.ReferenceIdeal.Hand.vG_eq, Cert.KernelIdeal.Hand.vG_eq, h]

/-- The gain as the region finds it is within the finite range. -/
theorem gain_at (hp : Cert.Pre_KernelIdeal_finite_gain (hPre_finite_gain := Cert.Pre_finite_gain.Gen.facts) m) (d : Fin 7168) :
    max (Cert.KernelIdeal.Hand.vG m c (ix2 0 d)) (-(Cert.KernelIdeal.Hand.vG m c (ix2 0 d))) ≤ Ideal.ofBits .f32 0x7F7FFFFF#32 := by
  rw [Cert.KernelIdeal.Hand.vG_eq]
  exact @gain_le Cert.Pre_finite_gain.Gen.facts _ _ _ _ (hp c) _

end

/-- What the kernel leaves: its three arrays, the arguments as they were. -/
theorem run_kernel (g : Dev Cert.KernelIdeal.nD → PrngReg) :
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_v2_0) = (Cert.KernelIdeal.Hand.dats m 0 c).arrAt 4 Cert.KernelIdeal.cfg0.N
      ∧ r.2.mem ((c.tc : Thread Cert.KernelIdeal.nD Cert.KernelIdeal.τ).loc Cert.KernelIdeal.main_v2_1) = (Cert.KernelIdeal.Hand.dats m 0 c).arrAt 5 Cert.KernelIdeal.cfg0.N
      ∧ r.2.mem ((c.tc : Thread Cert.KernelIdeal.nD Cert.KernelIdeal.τ).loc Cert.KernelIdeal.main_v2_2) = (Cert.KernelIdeal.Hand.dats m 0 c).arrAt 6 Cert.KernelIdeal.cfg0.N
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)) :=
  (θ_run Cert.KernelIdeal.defs _ _).mono (fun r h c => ⟨(h.1 c).1 4, (h.1 c).1 5, (h.1 c).1 6, h.2 c⟩)
    (θ_run_and (Cert.KernelIdeal.Hand.run_main m g) (Cert.KernelIdeal.Hand.unchanged m g))

/-- The value claim. -/
theorem algebraic : Cert.algebraic_KernelIdeal_ReferenceIdeal_pre_finite_gain (hKernelIdeal := Cert.KernelIdeal.Gen.facts)
    (hReferenceIdeal := Cert.ReferenceIdeal.Gen.facts) (hPre_finite_gain := Cert.Pre_finite_gain.Gen.facts) := by
  intro m g m' g' hp h
  refine ⟨fun c => (Cert.KernelIdeal.Hand.dats m 0 c).arrAt 4 Cert.KernelIdeal.cfg0.N, fun c => (Cert.KernelIdeal.Hand.dats m 0 c).arrAt 5 Cert.KernelIdeal.cfg0.N,
    fun c => (Cert.KernelIdeal.Hand.dats m 0 c).arrAt 6 Cert.KernelIdeal.cfg0.N, run_kernel m g, ?_⟩
  refine (θ_run Cert.ReferenceIdeal.defs _ _).mono (fun r hr c => ?_) (Cert.ReferenceIdeal.Blocks.run_blocks m' g')
  obtain ⟨r0, r1, r2, ra⟩ := hr c
  obtain ⟨h0, h1, h2, h3⟩ := h c
  have hx := x_eq m m' c h0
  have hg := g_eq m m' c h1
  have hw : Cert.ReferenceIdeal.Hand.vW m' c = Cert.KernelIdeal.Hand.vW m c := (Cert.ReferenceIdeal.Hand.vW_eq m' c).trans (h2.trans (Cert.KernelIdeal.Hand.vW_eq m c).symm)
  have hs : Cert.ReferenceIdeal.Hand.vWS m' c = Cert.KernelIdeal.Hand.vWS m c := (Cert.ReferenceIdeal.Hand.vWS_eq m' c).trans (h3.trans (Cert.KernelIdeal.Hand.vWS_eq m c).symm)
  have hb := gain_at m c hp
  have f4 := Cert.ReferenceIdeal.Hand.final4 m' c
  have f5 := Cert.ReferenceIdeal.Hand.final5 m' c
  have f6 := Cert.ReferenceIdeal.Hand.final6 m' c
  rw [hx, hg, hw, hs] at f4
  rw [hx, hg] at f5 f6
  refine ⟨r0.trans (f4.trans ?_), r1.trans (f5.trans ?_), r2.trans (f6.trans ?_), ra⟩
  · exact (Y_eq _ _ hb _ _).symm.trans (Cert.KernelIdeal.Hand.final4 m c).symm
  · exact (COD_eq _ _ hb).symm.trans (Cert.KernelIdeal.Hand.final5 m c).symm
  · exact (SCL_eq _ _ hb).symm.trans (Cert.KernelIdeal.Hand.final6 m c).symm

end Cert.Equal

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.Pre_finite_gain
public import proofs.«01_k».proof.Proof.HwFrame
public import proofs.«01_k».proof.Proof.Result
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_finite_gain.Gen.facts,
  fun m g _ => Cert.Kernel.Hand.frame m g,
  fun m g _ => Cert.KernelIdeal.Hand.frame m g,
  fun m g _ => Cert.KernelIdeal.Hand.frame m g,
  fun m g _ => Cert.ReferenceIdeal.Gen.frame m g,
  fun m g _ => Cert.ReferenceIdeal.Gen.frame m g,
  trivial,
  Cert.Equal.algebraic⟩

end Cert.Proof

end
